-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Feed (m : (ℓ : Loc Cert.Feed.nD Cert.Feed.τ Cert.Feed.sig) → Buf (Elt Bits) ℓ) : Prop :=
  True

def Pre_FeedIdeal (m : (ℓ : Loc Cert.FeedIdeal.nD Cert.FeedIdeal.τ Cert.FeedIdeal.sig) → Buf (Elt Ideal) ℓ) : Prop :=
  True

def Pre_FeedReferenceIdeal (m : (ℓ : Loc Cert.FeedReferenceIdeal.nD Cert.FeedReferenceIdeal.τ Cert.FeedReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandReferenceIdeal (m : (ℓ : Loc Cert.BandReferenceIdeal.nD Cert.BandReferenceIdeal.τ Cert.BandReferenceIdeal.sig) → Buf (Elt Ideal) ℓ) : Prop :=
  True

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectReferenceIdeal (m : (ℓ : Loc Cert.SelectReferenceIdeal.nD Cert.SelectReferenceIdeal.τ Cert.SelectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Feed [hFeed : Cert.Feed.Facts] : Prop :=
  ∀ (m : (ℓ : Loc Cert.Feed.nD Cert.Feed.τ Cert.Feed.sig) → Buf (Elt Bits) ℓ) (g : Dev Cert.Feed.nD → PrngReg), Pre_Feed m →
    θ_run (Cert.Feed.defs (F := Bits)) (onTc (τ := Cert.Feed.τ) (Cert.Feed.main (F := Bits))) ⟨m, fun _ => 0, g⟩ (fun r => (∀ c : Dev Cert.Feed.nD,
      r.2.mem ((c.tc : Thread Cert.Feed.nD Cert.Feed.τ).loc Cert.Feed.main_arg0) = m ((c.tc : Thread Cert.Feed.nD Cert.Feed.τ).loc Cert.Feed.main_arg0)
      ∧ r.2.mem ((c.tc : Thread Cert.Feed.nD Cert.Feed.τ).loc Cert.Feed.main_arg1) = m ((c.tc : Thread Cert.Feed.nD Cert.Feed.τ).loc Cert.Feed.main_arg1)
      ∧ r.2.mem ((c.tc : Thread Cert.Feed.nD Cert.Feed.τ).loc Cert.Feed.main_arg2) = m ((c.tc : Thread Cert.Feed.nD Cert.Feed.τ).loc Cert.Feed.main_arg2)
      ∧ r.2.mem ((c.tc : Thread Cert.Feed.nD Cert.Feed.τ).loc Cert.Feed.main_arg3) = m ((c.tc : Thread Cert.Feed.nD Cert.Feed.τ).loc Cert.Feed.main_arg3)
      ∧ r.2.mem ((c.tc : Thread Cert.Feed.nD Cert.Feed.τ).loc Cert.Feed.main_arg4) = m ((c.tc : Thread Cert.Feed.nD Cert.Feed.τ).loc Cert.Feed.main_arg4))
      ∧ r.2.sem = fun _ => 0)

def quiescent_FeedIdeal [hFeedIdeal : Cert.FeedIdeal.Facts] : Prop :=
  ∀ (m : (ℓ : Loc Cert.FeedIdeal.nD Cert.FeedIdeal.τ Cert.FeedIdeal.sig) → Buf (Elt Ideal) ℓ) (g : Dev Cert.FeedIdeal.nD → PrngReg), Pre_FeedIdeal m →
    θ_run (Cert.FeedIdeal.defs (F := Ideal)) (onTc (τ := Cert.FeedIdeal.τ) (Cert.FeedIdeal.main (F := Ideal))) ⟨m, fun _ => 0, g⟩ (fun r => (∀ c : Dev Cert.FeedIdeal.nD,
      r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
      ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
      ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
      ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3)
      ∧ r.2.mem ((c.tc : Thread Cert.FeedIdeal.nD Cert.FeedIdeal.τ).loc Cert.FeedIdeal.main_arg4) = m ((c.tc : Thread Cert.FeedIdeal.nD Cert.FeedIdeal.τ).loc Cert.FeedIdeal.main_arg4))
      ∧ r.2.sem = fun _ => 0)

def quiescent_FeedReferenceIdeal [hFeedReferenceIdeal : Cert.FeedReferenceIdeal.Facts] : Prop :=
  ∀ (m : (ℓ : Loc Cert.FeedReferenceIdeal.nD Cert.FeedReferenceIdeal.τ Cert.FeedReferenceIdeal.sig) → Buf (Elt Ideal) ℓ) (g : Dev Cert.FeedReferenceIdeal.nD → PrngReg), Pre_FeedReferenceIdeal m →
    θ_run (Cert.FeedReferenceIdeal.defs (F := Ideal)) (onTc (τ := Cert.FeedReferenceIdeal.τ) (Cert.FeedReferenceIdeal.main (F := Ideal))) ⟨m, fun _ => 0, g⟩ (fun r => (∀ c : Dev Cert.FeedReferenceIdeal.nD,
      r.2.mem ((c.tc : Thread Cert.FeedReferenceIdeal.nD Cert.FeedReferenceIdeal.τ).loc Cert.FeedReferenceIdeal.main_arg0) = m ((c.tc : Thread Cert.FeedReferenceIdeal.nD Cert.FeedReferenceIdeal.τ).loc Cert.FeedReferenceIdeal.main_arg0)
      ∧ r.2.mem ((c.tc : Thread Cert.FeedReferenceIdeal.nD Cert.FeedReferenceIdeal.τ).loc Cert.FeedReferenceIdeal.main_arg1) = m ((c.tc : Thread Cert.FeedReferenceIdeal.nD Cert.FeedReferenceIdeal.τ).loc Cert.FeedReferenceIdeal.main_arg1)
      ∧ r.2.mem ((c.tc : Thread Cert.FeedReferenceIdeal.nD Cert.FeedReferenceIdeal.τ).loc Cert.FeedReferenceIdeal.main_arg2) = m ((c.tc : Thread Cert.FeedReferenceIdeal.nD Cert.FeedReferenceIdeal.τ).loc Cert.FeedReferenceIdeal.main_arg2)
      ∧ r.2.mem ((c.tc : Thread Cert.FeedReferenceIdeal.nD Cert.FeedReferenceIdeal.τ).loc Cert.FeedReferenceIdeal.main_arg3) = m ((c.tc : Thread Cert.FeedReferenceIdeal.nD Cert.FeedReferenceIdeal.τ).loc Cert.FeedReferenceIdeal.main_arg3)
      ∧ r.2.mem ((c.tc : Thread Cert.FeedReferenceIdeal.nD Cert.FeedReferenceIdeal.τ).loc Cert.FeedReferenceIdeal.main_arg4) = m ((c.tc : Thread Cert.FeedReferenceIdeal.nD Cert.FeedReferenceIdeal.τ).loc Cert.FeedReferenceIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2))
      ∧ r.2.sem = fun _ => 0)

def quiescent_BandReferenceIdeal [hBandReferenceIdeal : Cert.BandReferenceIdeal.Facts] : Prop :=
  ∀ (m : (ℓ : Loc Cert.BandReferenceIdeal.nD Cert.BandReferenceIdeal.τ Cert.BandReferenceIdeal.sig) → Buf (Elt Ideal) ℓ) (g : Dev Cert.BandReferenceIdeal.nD → PrngReg), Pre_BandReferenceIdeal m →
    θ_run (Cert.BandReferenceIdeal.defs (F := Ideal)) (onTc (τ := Cert.BandReferenceIdeal.τ) (Cert.BandReferenceIdeal.main (F := Ideal))) ⟨m, fun _ => 0, g⟩ (fun r => (∀ c : Dev Cert.BandReferenceIdeal.nD,
      r.2.mem ((c.tc : Thread Cert.BandReferenceIdeal.nD Cert.BandReferenceIdeal.τ).loc Cert.BandReferenceIdeal.main_arg0) = m ((c.tc : Thread Cert.BandReferenceIdeal.nD Cert.BandReferenceIdeal.τ).loc Cert.BandReferenceIdeal.main_arg0)
      ∧ r.2.mem ((c.tc : Thread Cert.BandReferenceIdeal.nD Cert.BandReferenceIdeal.τ).loc Cert.BandReferenceIdeal.main_arg1) = m ((c.tc : Thread Cert.BandReferenceIdeal.nD Cert.BandReferenceIdeal.τ).loc Cert.BandReferenceIdeal.main_arg1)
      ∧ r.2.mem ((c.tc : Thread Cert.BandReferenceIdeal.nD Cert.BandReferenceIdeal.τ).loc Cert.BandReferenceIdeal.main_arg2) = m ((c.tc : Thread Cert.BandReferenceIdeal.nD Cert.BandReferenceIdeal.τ).loc Cert.BandReferenceIdeal.main_arg2))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1)
      ∧ r.2.mem ((c.tc : Thread Cert.Select.nD Cert.Select.τ).loc Cert.Select.main_arg2) = m ((c.tc : Thread Cert.Select.nD Cert.Select.τ).loc Cert.Select.main_arg2))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2))
      ∧ r.2.sem = fun _ => 0)

def preserves_Kernel_KernelIdeal : Prop :=
  True

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v14)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v14) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v53) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v31) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Feed_FeedIdeal : Prop :=
  True

def algebraic_FeedIdeal_FeedReferenceIdeal [hFeedIdeal : Cert.FeedIdeal.Facts] [hFeedReferenceIdeal : Cert.FeedReferenceIdeal.Facts] : Prop :=
  ∀ (m : (ℓ : Loc Cert.FeedIdeal.nD Cert.FeedIdeal.τ Cert.FeedIdeal.sig) → Buf (Elt Ideal) ℓ) (g : Dev Cert.FeedIdeal.nD → PrngReg)
    (m' : (ℓ : Loc Cert.FeedReferenceIdeal.nD Cert.FeedReferenceIdeal.τ Cert.FeedReferenceIdeal.sig) → Buf (Elt Ideal) ℓ) (g' : Dev Cert.FeedReferenceIdeal.nD → PrngReg), Pre_FeedIdeal m →
    (∀ c : Dev Cert.FeedIdeal.nD,
      m' ((c.tc : Thread Cert.FeedReferenceIdeal.nD Cert.FeedReferenceIdeal.τ).loc Cert.FeedReferenceIdeal.main_arg0) = m ((c.tc : Thread Cert.FeedIdeal.nD Cert.FeedIdeal.τ).loc Cert.FeedIdeal.main_arg0)
      ∧ m' ((c.tc : Thread Cert.FeedReferenceIdeal.nD Cert.FeedReferenceIdeal.τ).loc Cert.FeedReferenceIdeal.main_arg1) = m ((c.tc : Thread Cert.FeedIdeal.nD Cert.FeedIdeal.τ).loc Cert.FeedIdeal.main_arg1)
      ∧ m' ((c.tc : Thread Cert.FeedReferenceIdeal.nD Cert.FeedReferenceIdeal.τ).loc Cert.FeedReferenceIdeal.main_arg2) = m ((c.tc : Thread Cert.FeedIdeal.nD Cert.FeedIdeal.τ).loc Cert.FeedIdeal.main_arg2)
      ∧ m' ((c.tc : Thread Cert.FeedReferenceIdeal.nD Cert.FeedReferenceIdeal.τ).loc Cert.FeedReferenceIdeal.main_arg3) = m ((c.tc : Thread Cert.FeedIdeal.nD Cert.FeedIdeal.τ).loc Cert.FeedIdeal.main_arg3)
      ∧ m' ((c.tc : Thread Cert.FeedReferenceIdeal.nD Cert.FeedReferenceIdeal.τ).loc Cert.FeedReferenceIdeal.main_arg4) = m ((c.tc : Thread Cert.FeedIdeal.nD Cert.FeedIdeal.τ).loc Cert.FeedIdeal.main_arg4)) →
    ∃ (v0 : (c : Dev Cert.FeedIdeal.nD) → Buf (Elt Ideal) ((c.tc : Thread Cert.FeedIdeal.nD Cert.FeedIdeal.τ).loc Cert.FeedIdeal.main_v5)),
      θ_run (Cert.FeedIdeal.defs (F := Ideal)) (onTc (τ := Cert.FeedIdeal.τ) (Cert.FeedIdeal.main (F := Ideal))) ⟨m, fun _ => 0, g⟩ (fun r => ∀ c : Dev Cert.FeedIdeal.nD,
          r.2.mem ((c.tc : Thread Cert.FeedIdeal.nD Cert.FeedIdeal.τ).loc Cert.FeedIdeal.main_v5) = v0 c
          ∧ r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
          ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
          ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
          ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3)
          ∧ r.2.mem ((c.tc : Thread Cert.FeedIdeal.nD Cert.FeedIdeal.τ).loc Cert.FeedIdeal.main_arg4) = m ((c.tc : Thread Cert.FeedIdeal.nD Cert.FeedIdeal.τ).loc Cert.FeedIdeal.main_arg4))
      ∧ θ_run (Cert.FeedReferenceIdeal.defs (F := Ideal)) (onTc (τ := Cert.FeedReferenceIdeal.τ) (Cert.FeedReferenceIdeal.main (F := Ideal))) ⟨m', fun _ => 0, g'⟩ (fun r => ∀ c : Dev Cert.FeedReferenceIdeal.nD,
          r.2.mem ((c.tc : Thread Cert.FeedReferenceIdeal.nD Cert.FeedReferenceIdeal.τ).loc Cert.FeedReferenceIdeal.main_v18) = v0 c
          ∧ r.2.mem ((c.tc : Thread Cert.FeedReferenceIdeal.nD Cert.FeedReferenceIdeal.τ).loc Cert.FeedReferenceIdeal.main_arg0) = m' ((c.tc : Thread Cert.FeedReferenceIdeal.nD Cert.FeedReferenceIdeal.τ).loc Cert.FeedReferenceIdeal.main_arg0)
          ∧ r.2.mem ((c.tc : Thread Cert.FeedReferenceIdeal.nD Cert.FeedReferenceIdeal.τ).loc Cert.FeedReferenceIdeal.main_arg1) = m' ((c.tc : Thread Cert.FeedReferenceIdeal.nD Cert.FeedReferenceIdeal.τ).loc Cert.FeedReferenceIdeal.main_arg1)
          ∧ r.2.mem ((c.tc : Thread Cert.FeedReferenceIdeal.nD Cert.FeedReferenceIdeal.τ).loc Cert.FeedReferenceIdeal.main_arg2) = m' ((c.tc : Thread Cert.FeedReferenceIdeal.nD Cert.FeedReferenceIdeal.τ).loc Cert.FeedReferenceIdeal.main_arg2)
          ∧ r.2.mem ((c.tc : Thread Cert.FeedReferenceIdeal.nD Cert.FeedReferenceIdeal.τ).loc Cert.FeedReferenceIdeal.main_arg3) = m' ((c.tc : Thread Cert.FeedReferenceIdeal.nD Cert.FeedReferenceIdeal.τ).loc Cert.FeedReferenceIdeal.main_arg3)
          ∧ r.2.mem ((c.tc : Thread Cert.FeedReferenceIdeal.nD Cert.FeedReferenceIdeal.τ).loc Cert.FeedReferenceIdeal.main_arg4) = m' ((c.tc : Thread Cert.FeedReferenceIdeal.nD Cert.FeedReferenceIdeal.τ).loc Cert.FeedReferenceIdeal.main_arg4))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)) →
    ∃ (v0 : (c : Dev Cert.TailIdeal.nD) → Buf (Elt Ideal) ((c.tc : Thread Cert.TailIdeal.nD Cert.TailIdeal.τ).loc Cert.TailIdeal.main_v7_0)) (v1 : (c : Dev Cert.TailIdeal.nD) → Buf (Elt Ideal) ((c.tc : Thread Cert.TailIdeal.nD Cert.TailIdeal.τ).loc Cert.TailIdeal.main_v7_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v7_0) = v0 c
          ∧ r.2.mem ((c.tc : Thread Cert.TailIdeal.nD Cert.TailIdeal.τ).loc Cert.TailIdeal.main_v7_1) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v29) = v0 c
          ∧ r.2.mem ((c.tc : Thread Cert.TailReferenceIdeal.nD Cert.TailReferenceIdeal.τ).loc Cert.TailReferenceIdeal.main_v30) = v1 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2))

def preserves_Band_BandIdeal : Prop :=
  True

def algebraic_BandIdeal_BandReferenceIdeal [hBandIdeal : Cert.BandIdeal.Facts] [hBandReferenceIdeal : Cert.BandReferenceIdeal.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandReferenceIdeal.nD Cert.BandReferenceIdeal.τ Cert.BandReferenceIdeal.sig) → Buf (Elt Ideal) ℓ) (g' : Dev Cert.BandReferenceIdeal.nD → PrngReg), Pre_BandIdeal m →
    (∀ c : Dev Cert.BandIdeal.nD,
      m' ((c.tc : Thread Cert.BandReferenceIdeal.nD Cert.BandReferenceIdeal.τ).loc Cert.BandReferenceIdeal.main_arg0) = m ((c.tc : Thread Cert.BandIdeal.nD Cert.BandIdeal.τ).loc Cert.BandIdeal.main_arg0)
      ∧ m' ((c.tc : Thread Cert.BandReferenceIdeal.nD Cert.BandReferenceIdeal.τ).loc Cert.BandReferenceIdeal.main_arg1) = m ((c.tc : Thread Cert.BandIdeal.nD Cert.BandIdeal.τ).loc Cert.BandIdeal.main_arg1)
      ∧ m' ((c.tc : Thread Cert.BandReferenceIdeal.nD Cert.BandReferenceIdeal.τ).loc Cert.BandReferenceIdeal.main_arg2) = m ((c.tc : Thread Cert.BandIdeal.nD Cert.BandIdeal.τ).loc Cert.BandIdeal.main_arg2)) →
    ∃ (v0 : (c : Dev Cert.BandIdeal.nD) → Buf (Elt Ideal) ((c.tc : Thread Cert.BandIdeal.nD Cert.BandIdeal.τ).loc Cert.BandIdeal.main_v4_0)) (v1 : (c : Dev Cert.BandIdeal.nD) → Buf (Elt Ideal) ((c.tc : Thread Cert.BandIdeal.nD Cert.BandIdeal.τ).loc Cert.BandIdeal.main_v4_1)) (v2 : (c : Dev Cert.BandIdeal.nD) → Buf (Elt Ideal) ((c.tc : Thread Cert.BandIdeal.nD Cert.BandIdeal.τ).loc Cert.BandIdeal.main_v4_2)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v4_0) = v0 c
          ∧ r.2.mem ((c.tc : Thread Cert.BandIdeal.nD Cert.BandIdeal.τ).loc Cert.BandIdeal.main_v4_1) = v1 c
          ∧ r.2.mem ((c.tc : Thread Cert.BandIdeal.nD Cert.BandIdeal.τ).loc Cert.BandIdeal.main_v4_2) = v2 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2))
      ∧ θ_run (Cert.BandReferenceIdeal.defs (F := Ideal)) (onTc (τ := Cert.BandReferenceIdeal.τ) (Cert.BandReferenceIdeal.main (F := Ideal))) ⟨m', fun _ => 0, g'⟩ (fun r => ∀ c : Dev Cert.BandReferenceIdeal.nD,
          r.2.mem ((c.tc : Thread Cert.BandReferenceIdeal.nD Cert.BandReferenceIdeal.τ).loc Cert.BandReferenceIdeal.main_v30) = v0 c
          ∧ r.2.mem ((c.tc : Thread Cert.BandReferenceIdeal.nD Cert.BandReferenceIdeal.τ).loc Cert.BandReferenceIdeal.main_v32) = v1 c
          ∧ r.2.mem ((c.tc : Thread Cert.BandReferenceIdeal.nD Cert.BandReferenceIdeal.τ).loc Cert.BandReferenceIdeal.main_v34) = v2 c
          ∧ r.2.mem ((c.tc : Thread Cert.BandReferenceIdeal.nD Cert.BandReferenceIdeal.τ).loc Cert.BandReferenceIdeal.main_arg0) = m' ((c.tc : Thread Cert.BandReferenceIdeal.nD Cert.BandReferenceIdeal.τ).loc Cert.BandReferenceIdeal.main_arg0)
          ∧ r.2.mem ((c.tc : Thread Cert.BandReferenceIdeal.nD Cert.BandReferenceIdeal.τ).loc Cert.BandReferenceIdeal.main_arg1) = m' ((c.tc : Thread Cert.BandReferenceIdeal.nD Cert.BandReferenceIdeal.τ).loc Cert.BandReferenceIdeal.main_arg1)
          ∧ r.2.mem ((c.tc : Thread Cert.BandReferenceIdeal.nD Cert.BandReferenceIdeal.τ).loc Cert.BandReferenceIdeal.main_arg2) = m' ((c.tc : Thread Cert.BandReferenceIdeal.nD Cert.BandReferenceIdeal.τ).loc Cert.BandReferenceIdeal.main_arg2))

def preserves_Select_SelectIdeal : Prop :=
  True

def algebraic_SelectIdeal_SelectReferenceIdeal [hSelectIdeal : Cert.SelectIdeal.Facts] [hSelectReferenceIdeal : Cert.SelectReferenceIdeal.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)
      ∧ m' ((c.tc : Thread Cert.SelectReferenceIdeal.nD Cert.SelectReferenceIdeal.τ).loc Cert.SelectReferenceIdeal.main_arg1) = m ((c.tc : Thread Cert.SelectIdeal.nD Cert.SelectIdeal.τ).loc Cert.SelectIdeal.main_arg1)
      ∧ m' ((c.tc : Thread Cert.SelectReferenceIdeal.nD Cert.SelectReferenceIdeal.τ).loc Cert.SelectReferenceIdeal.main_arg2) = m ((c.tc : Thread Cert.SelectIdeal.nD Cert.SelectIdeal.τ).loc Cert.SelectIdeal.main_arg2)) →
    ∃ (v0 : (c : Dev Cert.SelectIdeal.nD) → Buf (Elt Ideal) ((c.tc : Thread Cert.SelectIdeal.nD Cert.SelectIdeal.τ).loc Cert.SelectIdeal.main_v59_0)) (v1 : (c : Dev Cert.SelectIdeal.nD) → Buf (Elt Ideal) ((c.tc : Thread Cert.SelectIdeal.nD Cert.SelectIdeal.τ).loc Cert.SelectIdeal.main_v59_1)) (v2 : (c : Dev Cert.SelectIdeal.nD) → Buf (Elt Ideal) ((c.tc : Thread Cert.SelectIdeal.nD Cert.SelectIdeal.τ).loc Cert.SelectIdeal.main_v59_2)) (v3 : (c : Dev Cert.SelectIdeal.nD) → Buf (Elt Ideal) ((c.tc : Thread Cert.SelectIdeal.nD Cert.SelectIdeal.τ).loc Cert.SelectIdeal.main_v59_3)) (v4 : (c : Dev Cert.SelectIdeal.nD) → Buf (Elt Ideal) ((c.tc : Thread Cert.SelectIdeal.nD Cert.SelectIdeal.τ).loc Cert.SelectIdeal.main_v59_4)) (v5 : (c : Dev Cert.SelectIdeal.nD) → Buf (Elt Ideal) ((c.tc : Thread Cert.SelectIdeal.nD Cert.SelectIdeal.τ).loc Cert.SelectIdeal.main_v59_5)) (v6 : (c : Dev Cert.SelectIdeal.nD) → Buf (Elt Ideal) ((c.tc : Thread Cert.SelectIdeal.nD Cert.SelectIdeal.τ).loc Cert.SelectIdeal.main_v59_6)) (v7 : (c : Dev Cert.SelectIdeal.nD) → Buf (Elt Ideal) ((c.tc : Thread Cert.SelectIdeal.nD Cert.SelectIdeal.τ).loc Cert.SelectIdeal.main_v59_7)) (v8 : (c : Dev Cert.SelectIdeal.nD) → Buf (Elt Ideal) ((c.tc : Thread Cert.SelectIdeal.nD Cert.SelectIdeal.τ).loc Cert.SelectIdeal.main_v59_8)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v59_0) = v0 c
          ∧ r.2.mem ((c.tc : Thread Cert.SelectIdeal.nD Cert.SelectIdeal.τ).loc Cert.SelectIdeal.main_v59_1) = v1 c
          ∧ r.2.mem ((c.tc : Thread Cert.SelectIdeal.nD Cert.SelectIdeal.τ).loc Cert.SelectIdeal.main_v59_2) = v2 c
          ∧ r.2.mem ((c.tc : Thread Cert.SelectIdeal.nD Cert.SelectIdeal.τ).loc Cert.SelectIdeal.main_v59_3) = v3 c
          ∧ r.2.mem ((c.tc : Thread Cert.SelectIdeal.nD Cert.SelectIdeal.τ).loc Cert.SelectIdeal.main_v59_4) = v4 c
          ∧ r.2.mem ((c.tc : Thread Cert.SelectIdeal.nD Cert.SelectIdeal.τ).loc Cert.SelectIdeal.main_v59_5) = v5 c
          ∧ r.2.mem ((c.tc : Thread Cert.SelectIdeal.nD Cert.SelectIdeal.τ).loc Cert.SelectIdeal.main_v59_6) = v6 c
          ∧ r.2.mem ((c.tc : Thread Cert.SelectIdeal.nD Cert.SelectIdeal.τ).loc Cert.SelectIdeal.main_v59_7) = v7 c
          ∧ r.2.mem ((c.tc : Thread Cert.SelectIdeal.nD Cert.SelectIdeal.τ).loc Cert.SelectIdeal.main_v59_8) = v8 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
          ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v174) = v0 c
          ∧ r.2.mem ((c.tc : Thread Cert.SelectReferenceIdeal.nD Cert.SelectReferenceIdeal.τ).loc Cert.SelectReferenceIdeal.main_v176) = v1 c
          ∧ r.2.mem ((c.tc : Thread Cert.SelectReferenceIdeal.nD Cert.SelectReferenceIdeal.τ).loc Cert.SelectReferenceIdeal.main_v178) = v2 c
          ∧ r.2.mem ((c.tc : Thread Cert.SelectReferenceIdeal.nD Cert.SelectReferenceIdeal.τ).loc Cert.SelectReferenceIdeal.main_v180) = v3 c
          ∧ r.2.mem ((c.tc : Thread Cert.SelectReferenceIdeal.nD Cert.SelectReferenceIdeal.τ).loc Cert.SelectReferenceIdeal.main_v183) = v4 c
          ∧ r.2.mem ((c.tc : Thread Cert.SelectReferenceIdeal.nD Cert.SelectReferenceIdeal.τ).loc Cert.SelectReferenceIdeal.main_v185) = v5 c
          ∧ r.2.mem ((c.tc : Thread Cert.SelectReferenceIdeal.nD Cert.SelectReferenceIdeal.τ).loc Cert.SelectReferenceIdeal.main_v186) = v6 c
          ∧ r.2.mem ((c.tc : Thread Cert.SelectReferenceIdeal.nD Cert.SelectReferenceIdeal.τ).loc Cert.SelectReferenceIdeal.main_v187) = v7 c
          ∧ r.2.mem ((c.tc : Thread Cert.SelectReferenceIdeal.nD Cert.SelectReferenceIdeal.τ).loc Cert.SelectReferenceIdeal.main_v188) = v8 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0)
          ∧ r.2.mem ((c.tc : Thread Cert.SelectReferenceIdeal.nD Cert.SelectReferenceIdeal.τ).loc Cert.SelectReferenceIdeal.main_arg1) = m' ((c.tc : Thread Cert.SelectReferenceIdeal.nD Cert.SelectReferenceIdeal.τ).loc Cert.SelectReferenceIdeal.main_arg1)
          ∧ r.2.mem ((c.tc : Thread Cert.SelectReferenceIdeal.nD Cert.SelectReferenceIdeal.τ).loc Cert.SelectReferenceIdeal.main_arg2) = m' ((c.tc : Thread Cert.SelectReferenceIdeal.nD Cert.SelectReferenceIdeal.τ).loc Cert.SelectReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hMerge : Cert.Merge.Facts) (hMergeIdeal : Cert.MergeIdeal.Facts) (hMergeReferenceIdeal : Cert.MergeReferenceIdeal.Facts) (hMlp : Cert.Mlp.Facts) (hMlpIdeal : Cert.MlpIdeal.Facts) (hMlpReferenceIdeal : Cert.MlpReferenceIdeal.Facts) (hFeed : Cert.Feed.Facts) (hFeedIdeal : Cert.FeedIdeal.Facts) (hFeedReferenceIdeal : Cert.FeedReferenceIdeal.Facts) (hTail : Cert.Tail.Facts) (hTailIdeal : Cert.TailIdeal.Facts) (hTailReferenceIdeal : Cert.TailReferenceIdeal.Facts) (hBand : Cert.Band.Facts) (hBandIdeal : Cert.BandIdeal.Facts) (hBandReferenceIdeal : Cert.BandReferenceIdeal.Facts) (hSelect : Cert.Select.Facts) (hSelectIdeal : Cert.SelectIdeal.Facts) (hSelectReferenceIdeal : Cert.SelectReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_Merge (hMerge := hMerge)
    ∧ quiescent_MergeIdeal (hMergeIdeal := hMergeIdeal)
    ∧ quiescent_MergeReferenceIdeal (hMergeReferenceIdeal := hMergeReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Feed (hFeed := hFeed)
    ∧ quiescent_FeedIdeal (hFeedIdeal := hFeedIdeal)
    ∧ quiescent_FeedReferenceIdeal (hFeedReferenceIdeal := hFeedReferenceIdeal)
    ∧ quiescent_Tail (hTail := hTail)
    ∧ quiescent_TailIdeal (hTailIdeal := hTailIdeal)
    ∧ quiescent_TailReferenceIdeal (hTailReferenceIdeal := hTailReferenceIdeal)
    ∧ quiescent_Band (hBand := hBand)
    ∧ quiescent_BandIdeal (hBandIdeal := hBandIdeal)
    ∧ quiescent_BandReferenceIdeal (hBandReferenceIdeal := hBandReferenceIdeal)
    ∧ quiescent_Select (hSelect := hSelect)
    ∧ quiescent_SelectIdeal (hSelectIdeal := hSelectIdeal)
    ∧ quiescent_SelectReferenceIdeal (hSelectReferenceIdeal := hSelectReferenceIdeal)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Mlp_MlpIdeal
    ∧ algebraic_MlpIdeal_MlpReferenceIdeal (hMlpIdeal := hMlpIdeal) (hMlpReferenceIdeal := hMlpReferenceIdeal)
    ∧ preserves_Feed_FeedIdeal
    ∧ algebraic_FeedIdeal_FeedReferenceIdeal (hFeedIdeal := hFeedIdeal) (hFeedReferenceIdeal := hFeedReferenceIdeal)
    ∧ preserves_Tail_TailIdeal
    ∧ algebraic_TailIdeal_TailReferenceIdeal (hTailIdeal := hTailIdeal) (hTailReferenceIdeal := hTailReferenceIdeal)
    ∧ preserves_Band_BandIdeal
    ∧ algebraic_BandIdeal_BandReferenceIdeal (hBandIdeal := hBandIdeal) (hBandReferenceIdeal := hBandReferenceIdeal)
    ∧ preserves_Select_SelectIdeal
    ∧ algebraic_SelectIdeal_SelectReferenceIdeal (hSelectIdeal := hSelectIdeal) (hSelectReferenceIdeal := hSelectReferenceIdeal)
-- ==== Pre_finite.lean ====
abbrev S4x8192x8x64 : Shape := ⟨4, ![4, 8192, 8, 64]⟩
abbrev S4x8192x8x32 : Shape := ⟨4, ![4, 8192, 8, 32]⟩
abbrev S4x8192x128 : Shape := ⟨3, ![4, 8192, 128]⟩
abbrev S4x8192x32 : Shape := ⟨3, ![4, 8192, 32]⟩
abbrev S128x512 : Shape := ⟨2, ![128, 512]⟩
abbrev S_ : Shape := ⟨0, ![]⟩

class Facts : Prop where
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  h_S_ : 0 < S_.numel
  bcast_S_S4x8192x8x32 : S_.BroadcastsInDim S4x8192x8x32 (![] : Fin 0 → Fin S4x8192x8x32.rank)
  reducesTo_S4x8192x8x32_S_d0_1_2_3 : S4x8192x8x32.ReducesTo [0, 1, 2, 3] S_
  bcast_S_S4x8192x128 : S_.BroadcastsInDim S4x8192x128 (![] : Fin 0 → Fin S4x8192x128.rank)
  reducesTo_S4x8192x128_S_d0_1_2 : S4x8192x128.ReducesTo [0, 1, 2] S_
  bcast_S_S4x8192x32 : S_.BroadcastsInDim S4x8192x32 (![] : Fin 0 → Fin S4x8192x32.rank)
  reducesTo_S4x8192x32_S_d0_1_2 : S4x8192x32.ReducesTo [0, 1, 2] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_arg4 : FVec F S128x512 .f32) (main_arg5 : FVec F S128x512 .f32) (main_v13 : IVec S_ 1) (main_v16 : IVec S4x8192x32 1) : IVec S_ 1 :=
  let main_c_5 : IVec S_ 1 := constantI S_ 1 1#1
  let main_v17 : IVec S_ 1 := (fun x v => Host.reduce IntOp.andi x v reducesTo_S4x8192x32_S_d0_1_2 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S128x512 .f32 := Host.absf main_arg5
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  main_v28

def fn {F : FTy → Type} [FloatOps F] (main_arg0 : FVec F S4x8192x8x64 .f32) (main_arg1 : FVec F S4x8192x8x32 .f32) (main_arg2 : FVec F S4x8192x128 .f32) (main_arg3 : FVec F S4x8192x32 .f32) (main_arg4 : FVec F S128x512 .f32) (main_arg5 : FVec F S128x512 .f32) : IVec S_ 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_c : IVec S_ 1 := constantI S_ 1 1#1
  let main_v3 : IVec S_ 1 := (fun x v => Host.reduce IntOp.andi x v reducesTo_S4x8192x8x64_S_d0_1_2_3 h_S_) main_v2 main_c
  let main_v4 : FVec F S4x8192x8x32 .f32 := Host.absf main_arg1
  let main_cst_0 : FVec F S_ .f32 := constant S_ .f32 0x7F800000#32
  let main_v5 : FVec F S4x8192x8x32 .f32 := broadcastInDim S4x8192x8x32 ![] bcast_S_S4x8192x8x32 main_cst_0
  let main_v6 : IVec S4x8192x8x32 1 := cmpf .olt main_v4 main_v5
  let main_c_1 : IVec S_ 1 := constantI S_ 1 1#1
  let main_v7 : IVec S_ 1 := (fun x v => Host.reduce IntOp.andi x v reducesTo_S4x8192x8x32_S_d0_1_2_3 h_S_) main_v6 main_c_1
  let main_v8 : IVec S_ 1 := andi main_v3 main_v7
  let main_v9 : FVec F S4x8192x128 .f32 := Host.absf main_arg2
  let main_cst_2 : FVec F S_ .f32 := constant S_ .f32 0x7F800000#32
  let main_v10 : FVec F S4x8192x128 .f32 := broadcastInDim S4x8192x128 ![] bcast_S_S4x8192x128 main_cst_2
  let main_v11 : IVec S4x8192x128 1 := cmpf .olt main_v9 main_v10
  let main_c_3 : IVec S_ 1 := constantI S_ 1 1#1
  let main_v12 : IVec S_ 1 := (fun x v => Host.reduce IntOp.andi x v reducesTo_S4x8192x128_S_d0_1_2 h_S_) main_v11 main_c_3
  let main_v13 : IVec S_ 1 := andi main_v8 main_v12
  let main_v14 : FVec F S4x8192x32 .f32 := Host.absf main_arg3
  let main_cst_4 : FVec F S_ .f32 := constant S_ .f32 0x7F800000#32
  let main_v15 : FVec F S4x8192x32 .f32 := broadcastInDim S4x8192x32 ![] bcast_S_S4x8192x32 main_cst_4
  let main_v16 : IVec S4x8192x32 1 := cmpf .olt main_v14 main_v15
  fn_part1 (F := F) main_arg4 main_arg5 main_v13 main_v16
-- ==== Kernel.lean ====
abbrev S4x8192x8x64 : Shape := ⟨4, ![4, 8192, 8, 64]⟩
abbrev S4x8192x8x32 : Shape := ⟨4, ![4, 8192, 8, 32]⟩
abbrev S4x8192x128 : Shape := ⟨3, ![4, 8192, 128]⟩
abbrev S4x8192x32 : Shape := ⟨3, ![4, 8192, 32]⟩
abbrev S128x512 : Shape := ⟨2, ![128, 512]⟩
abbrev S128x8x64 : Shape := ⟨3, ![128, 8, 64]⟩
abbrev S8x64x128 : Shape := ⟨3, ![8, 64, 128]⟩
abbrev S32768x8x64 : Shape := ⟨3, ![32768, 8, 64]⟩
abbrev S8x32768x128 : Shape := ⟨3, ![8, 32768, 128]⟩
abbrev S32768x8x128 : Shape := ⟨3, ![32768, 8, 128]⟩
abbrev S32768x8x32 : Shape := ⟨3, ![32768, 8, 32]⟩
abbrev S_ : Shape := ⟨0, ![]⟩
abbrev S32768x8x256 : Shape := ⟨3, ![32768, 8, 256]⟩
abbrev S32768x2048 : Shape := ⟨2, ![32768, 2048]⟩
abbrev S32768x32 : Shape := ⟨2, ![32768, 32]⟩
abbrev S32768x128 : Shape := ⟨2, ![32768, 128]⟩
abbrev S32768x256 : Shape := ⟨2, ![32768, 256]⟩
abbrev S128x1x64 : Shape := ⟨3, ![128, 1, 64]⟩
abbrev S128x64 : Shape := ⟨2, ![128, 64]⟩
abbrev S1x128x512 : Shape := ⟨3, ![1, 128, 512]⟩
abbrev S8x128x512 : Shape := ⟨3, ![8, 128, 512]⟩
abbrev S32768x512 : Shape := ⟨2, ![32768, 512]⟩
abbrev S128x2048 : Shape := ⟨2, ![128, 2048]⟩
abbrev S8192x256 : Shape := ⟨2, ![8192, 256]⟩
abbrev S1024x128 : Shape := ⟨2, ![1024, 128]⟩
abbrev S1024x256 : Shape := ⟨2, ![1024, 256]⟩
abbrev S128x256 : Shape := ⟨2, ![128, 256]⟩
abbrev S1024x1 : Shape := ⟨2, ![1024, 1]⟩
abbrev S512x128 : Shape := ⟨2, ![512, 128]⟩
abbrev S512x256 : Shape := ⟨2, ![512, 256]⟩
abbrev S1024x512 : Shape := ⟨2, ![1024, 512]⟩
abbrev S1024 : Shape := ⟨1, ![1024]⟩
abbrev S1x512 : Shape := ⟨2, ![1, 512]⟩
abbrev S128x128 : Shape := ⟨2, ![128, 128]⟩

abbrev nBuf : Space → Nat
  | .hbm => 83
  | .vmem => 8
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x32, .f32⟩
  | .hbm, ⟨2, _⟩ => ⟨S4x8192x128, .f32⟩
  | .hbm, ⟨3, _⟩ => ⟨S4x8192x32, .f32⟩
  | .hbm, ⟨4, _⟩ => ⟨S128x512, .f32⟩
  | .hbm, ⟨5, _⟩ => ⟨S128x512, .f32⟩
  | .hbm, ⟨6, _⟩ => ⟨S128x8x64, .f32⟩
  | .hbm, ⟨7, _⟩ => ⟨S8x64x128, .f32⟩
  | .hbm, ⟨8, _⟩ => ⟨S32768x8x64, .f32⟩
  | .hbm, ⟨9, _⟩ => ⟨S8x32768x128, .f32⟩
  | .hbm, ⟨10, _⟩ => ⟨S32768x8x128, .f32⟩
  | .hbm, ⟨11, _⟩ => ⟨S32768x8x32, .f32⟩
  | .hbm, ⟨12, _⟩ => ⟨S_, .i32⟩
  | .hbm, ⟨13, _⟩ => ⟨S_, .f32⟩
  | .hbm, ⟨14, _⟩ => ⟨S32768x8x128, .f32⟩
  | .hbm, ⟨15, _⟩ => ⟨S32768x8x256, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S32768x8x256, .f32⟩
  | .hbm, ⟨21, _⟩ => ⟨S32768x8x256, .f32⟩
  | .hbm, ⟨22, _⟩ => ⟨S32768x8x256, .bf16⟩
  | .hbm, ⟨23, _⟩ => ⟨S32768x2048, .bf16⟩
  | .hbm, ⟨24, _⟩ => ⟨S32768x32, .f32⟩
  | .hbm, ⟨25, _⟩ => ⟨S_, .i32⟩
  | .hbm, ⟨26, _⟩ => ⟨S_, .f32⟩
  | .hbm, ⟨27, _⟩ => ⟨S32768x128, .f32⟩
  | .hbm, ⟨28, _⟩ => ⟨S32768x128, .f32⟩
  | .hbm, ⟨29, _⟩ => ⟨S32768x256, .f32⟩
  | .hbm, ⟨30, _⟩ => ⟨S32768x256, .bf16⟩
  | .hbm, ⟨31, _⟩ => ⟨S128x8x64, .f32⟩
  | .hbm, ⟨32, _⟩ => ⟨S128x1x64, .f32⟩
  | .hbm, ⟨33, _⟩ => ⟨S128x64, .f32⟩
  | .hbm, ⟨34, _⟩ => ⟨S_, .i32⟩
  | .hbm, ⟨35, _⟩ => ⟨S_, .f32⟩
  | .hbm, ⟨36, _⟩ => ⟨S128x512, .f32⟩
  | .hbm, ⟨37, _⟩ => ⟨S128x1x64, .f32⟩
  | .hbm, ⟨38, _⟩ => ⟨S128x64, .f32⟩
  | .hbm, ⟨39, _⟩ => ⟨S_, .i32⟩
  | .hbm, ⟨40, _⟩ => ⟨S_, .f32⟩
  | .hbm, ⟨41, _⟩ => ⟨S128x512, .f32⟩
  | .hbm, ⟨42, _⟩ => ⟨S128x1x64, .f32⟩
  | .hbm, ⟨43, _⟩ => ⟨S128x64, .f32⟩
  | .hbm, ⟨44, _⟩ => ⟨S_, .i32⟩
  | .hbm, ⟨45, _⟩ => ⟨S_, .f32⟩
  | .hbm, ⟨46, _⟩ => ⟨S128x512, .f32⟩
  | .hbm, ⟨47, _⟩ => ⟨S128x1x64, .f32⟩
  | .hbm, ⟨48, _⟩ => ⟨S128x64, .f32⟩
  | .hbm, ⟨49, _⟩ => ⟨S_, .i32⟩
  | .hbm, ⟨50, _⟩ => ⟨S_, .f32⟩
  | .hbm, ⟨51, _⟩ => ⟨S128x512, .f32⟩
  | .hbm, ⟨52, _⟩ => ⟨S128x1x64, .f32⟩
  | .hbm, ⟨53, _⟩ => ⟨S128x64, .f32⟩
  | .hbm, ⟨54, _⟩ => ⟨S_, .i32⟩
  | .hbm, ⟨55, _⟩ => ⟨S_, .f32⟩
  | .hbm, ⟨56, _⟩ => ⟨S128x512, .f32⟩
  | .hbm, ⟨57, _⟩ => ⟨S128x1x64, .f32⟩
  | .hbm, ⟨58, _⟩ => ⟨S128x64, .f32⟩
  | .hbm, ⟨59, _⟩ => ⟨S_, .i32⟩
  | .hbm, ⟨60, _⟩ => ⟨S_, .f32⟩
  | .hbm, ⟨61, _⟩ => ⟨S128x512, .f32⟩
  | .hbm, ⟨62, _⟩ => ⟨S128x1x64, .f32⟩
  | .hbm, ⟨63, _⟩ => ⟨S128x64, .f32⟩
  | .hbm, ⟨64, _⟩ => ⟨S_, .i32⟩
  | .hbm, ⟨65, _⟩ => ⟨S_, .f32⟩
  | .hbm, ⟨66, _⟩ => ⟨S128x512, .f32⟩
  | .hbm, ⟨67, _⟩ => ⟨S128x1x64, .f32⟩
  | .hbm, ⟨68, _⟩ => ⟨S128x64, .f32⟩
  | .hbm, ⟨69, _⟩ => ⟨S_, .i32⟩
  | .hbm, ⟨70, _⟩ => ⟨S_, .f32⟩
  | .hbm, ⟨71, _⟩ => ⟨S128x512, .f32⟩
  | .hbm, ⟨72, _⟩ => ⟨S1x128x512, .f32⟩
  | .hbm, ⟨73, _⟩ => ⟨S1x128x512, .f32⟩
  | .hbm, ⟨74, _⟩ => ⟨S1x128x512, .f32⟩
  | .hbm, ⟨75, _⟩ => ⟨S1x128x512, .f32⟩
  | .hbm, ⟨76, _⟩ => ⟨S1x128x512, .f32⟩
  | .hbm, ⟨77, _⟩ => ⟨S1x128x512, .f32⟩
  | .hbm, ⟨78, _⟩ => ⟨S1x128x512, .f32⟩
  | .hbm, ⟨79, _⟩ => ⟨S1x128x512, .f32⟩
  | .hbm, ⟨80, _⟩ => ⟨S8x128x512, .f32⟩
  | .hbm, ⟨81, _⟩ => ⟨S8x128x512, .bf16⟩
  | .hbm, ⟨82, _⟩ => ⟨S32768x512, .bf16⟩
  | .local _ .vmem, ⟨0, _⟩ => ⟨S128x2048, .bf16⟩
  | .local _ .vmem, ⟨1, _⟩ => ⟨S128x2048, .bf16⟩
  | .local _ .vmem, ⟨2, _⟩ => ⟨S8192x256, .bf16⟩
  | .local _ .vmem, ⟨3, _⟩ => ⟨S8x128x512, .bf16⟩
  | .local _ .vmem, ⟨4, _⟩ => ⟨S128x512, .bf16⟩
  | .local _ .vmem, ⟨5, _⟩ => ⟨S128x512, .bf16⟩
  | .local _ .vmem, ⟨6, _⟩ => ⟨S1024x128, .f32⟩
  | .local _ .vmem, ⟨7, _⟩ => ⟨S1024x256, .f32⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_call2_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_call3_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_call4_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_call5_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_call6_v0 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_call7_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_call8_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_9 : Ref sig .tc := ⟨.hbm, 69, rfl⟩
abbrev main_call9_v0 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 64], ![false, false]⟩

def k0_mult1 : BitVec 32 :=
  let c0_i32_43 : BitVec 32 := 0#32
  c0_i32_43
@[reducible] def k0_t1_loop (i : grid0.Coords) : Scf.Loop 32 :=
  let c0_i32_46 : BitVec 32 := 0#32
  let c0_i32 : BitVec 32 := 0#32
  let arg1 : BitVec 32 := BitVec.ofNat 32 (i 1).val
  let c128_i32 : BitVec 32 := 128#32
  let v17 : BitVec 32 := Scalar.muli arg1 c128_i32
  let v18 : BitVec 32 := Scalar.addi c0_i32 v17
  let c128_i32_16 : BitVec 32 := 128#32
  let v54 : BitVec 32 := Scalar.addi v18 c128_i32_16
  let c1_i32_17 : BitVec 32 := 1#32
  let v55 : BitVec 32 := Scalar.subi v54 c1_i32_17
  let c0_i32_19 : BitVec 32 := 0#32
  let v57 : BitVec 1 := Scalar.cmpi .sgt v55 c0_i32_19
  let v58 : BitVec 32 := Scalar.extui v57
  let c0_i32_20 : BitVec 32 := 0#32
  let v59 : BitVec 1 := Scalar.cmpi .slt v55 c0_i32_20
  let v60 : BitVec 32 := Scalar.extui v59
  let v61 : BitVec 32 := Scalar.subi v58 v60
  let c64_i32_18 : BitVec 32 := 64#32
  let c0_i32_21 : BitVec 32 := 0#32
  let v62 : BitVec 1 := Scalar.cmpi .sgt c64_i32_18 c0_i32_21
  let v63 : BitVec 32 := Scalar.extui v62
  let c0_i32_22 : BitVec 32 := 0#32
  let v64 : BitVec 1 := Scalar.cmpi .slt c64_i32_18 c0_i32_22
  let v65 : BitVec 32 := Scalar.extui v64
  let v66 : BitVec 32 := Scalar.subi v63 v65
  let v67 : BitVec 1 := Scalar.cmpi .ne v61 v66
  let v68 : BitVec 32 := Scalar.remsi v55 c64_i32_18
  let c0_i32_23 : BitVec 32 := 0#32
  let v69 : BitVec 1 := Scalar.cmpi .ne v68 c0_i32_23
  let v70 : BitVec 1 := Scalar.andi v67 v69
  let v56 : BitVec 32 := Scalar.divsi v55 c64_i32_18
  let c1_i32_24 : BitVec 32 := 1#32
  let v71 : BitVec 32 := Scalar.subi v56 c1_i32_24
  let v72 : BitVec 32 := Scalar.select v70 v71 v56
  let c1_i32_25 : BitVec 32 := 1#32
  let v73 : BitVec 32 := Scalar.addi v72 c1_i32_25
  let c64_i32_26 : BitVec 32 := 64#32
  let v74 : BitVec 32 := Scalar.muli v73 c64_i32_26
  let c8192_i32_27 : BitVec 32 := 8192#32
  let v75 : BitVec 32 := Scalar.minsi v74 c8192_i32_27
  let c512_i32 : BitVec 32 := 512#32
  let v76 : BitVec 32 := Scalar.addi v75 c512_i32
  let c1_i32_28 : BitVec 32 := 1#32
  let v77 : BitVec 32 := Scalar.subi v76 c1_i32_28
  let c0_i32_30 : BitVec 32 := 0#32
  let v79 : BitVec 1 := Scalar.cmpi .sgt v77 c0_i32_30
  let v80 : BitVec 32 := Scalar.extui v79
  let c0_i32_31 : BitVec 32 := 0#32
  let v81 : BitVec 1 := Scalar.cmpi .slt v77 c0_i32_31
  let v82 : BitVec 32 := Scalar.extui v81
  let v83 : BitVec 32 := Scalar.subi v80 v82
  let c512_i32_29 : BitVec 32 := 512#32
  let c0_i32_32 : BitVec 32 := 0#32
  let v84 : BitVec 1 := Scalar.cmpi .sgt c512_i32_29 c0_i32_32
  let v85 : BitVec 32 := Scalar.extui v84
  let c0_i32_33 : BitVec 32 := 0#32
  let v86 : BitVec 1 := Scalar.cmpi .slt c512_i32_29 c0_i32_33
  let v87 : BitVec 32 := Scalar.extui v86
  let v88 : BitVec 32 := Scalar.subi v85 v87
  let v89 : BitVec 1 := Scalar.cmpi .ne v83 v88
  let v90 : BitVec 32 := Scalar.remsi v77 c512_i32_29
  let c0_i32_34 : BitVec 32 := 0#32
  let v91 : BitVec 1 := Scalar.cmpi .ne v90 c0_i32_34
  let v92 : BitVec 1 := Scalar.andi v89 v91
  let v78 : BitVec 32 := Scalar.divsi v77 c512_i32_29
  let c1_i32_35 : BitVec 32 := 1#32
  let v93 : BitVec 32 := Scalar.subi v78 c1_i32_35
  let v94 : BitVec 32 := Scalar.select v92 v93 v78
  let c1_i32_42 : BitVec 32 := 1#32
  let v104 : BitVec 32 := Scalar.subi v94 c1_i32_42
  let v110 : BitVec 32 := Scalar.subi v104 c0_i32_46
  let c1_i32_47 : BitVec 32 := 1#32
  let v112 : BitVec 32 := Scalar.divsi v110 c1_i32_47
  let v113 : BitVec 32 := Scalar.muli v112 c1_i32_47
  let v114 : BitVec 32 := Scalar.addi c0_i32_46 v113
  let c1_i32_48 : BitVec 32 := 1#32
  ⟨c0_i32_46, v114, c1_i32_48⟩
def k0_mult2 (i : grid0.Coords) (k0_t1 : Fin (k0_t1_loop i).trips) : BitVec 32 :=
  let c0_i32_46 : BitVec 32 := 0#32
  let c1_i32_48 : BitVec 32 := 1#32
  let arg8 : BitVec 32 := Scf.iv c0_i32_46 c1_i32_48 k0_t1
  let c1_i32_94 : BitVec 32 := 1#32
  let v220 : BitVec 32 := Scalar.addi arg8 c1_i32_94
  let c512_i32_95 : BitVec 32 := 512#32
  let v221 : BitVec 32 := Scalar.muli v220 c512_i32_95
  v221
def k0_off1 (i : grid0.Coords) (k0_t1 : Fin (k0_t1_loop i).trips) : Fin 2 → Nat :=
  let c0_i32_46 : BitVec 32 := 0#32
  let c1_i32_48 : BitVec 32 := 1#32
  let arg8 : BitVec 32 := Scf.iv c0_i32_46 c1_i32_48 k0_t1
  let c1_i32_94 : BitVec 32 := 1#32
  let v220 : BitVec 32 := Scalar.addi arg8 c1_i32_94
  let c512_i32_95 : BitVec 32 := 512#32
  let v221 : BitVec 32 := Scalar.muli v220 c512_i32_95
  let v222 : BitVec 32 := v221
  let v223 : Index := Scalar.indexCast v222
  let c0_96 : Index := 0#32
  ![v223.toNat, 0]
def k0_mult3 (i : grid0.Coords) (k0_t1 : Fin (k0_t1_loop i).trips) : BitVec 32 :=
  let c0_i32_46 : BitVec 32 := 0#32
  let c1_i32_48 : BitVec 32 := 1#32
  let arg8 : BitVec 32 := Scf.iv c0_i32_46 c1_i32_48 k0_t1
  let c512_i32_98 : BitVec 32 := 512#32
  let v227 : BitVec 32 := Scalar.muli arg8 c512_i32_98
  v227
def k0_off2 (i : grid0.Coords) (k0_t1 : Fin (k0_t1_loop i).trips) : Fin 2 → Nat :=
  let c0_i32_46 : BitVec 32 := 0#32
  let c1_i32_48 : BitVec 32 := 1#32
  let arg8 : BitVec 32 := Scf.iv c0_i32_46 c1_i32_48 k0_t1
  let c512_i32_98 : BitVec 32 := 512#32
  let v227 : BitVec 32 := Scalar.muli arg8 c512_i32_98
  let v228 : BitVec 32 := v227
  let v258 : Index := Scalar.indexCast v228
  let c0_102 : Index := 0#32
  ![v258.toNat, 0]
@[reducible] def k0_t2_loop (i : grid0.Coords) : Scf.Loop 32 :=
  let c0_i32_46 : BitVec 32 := 0#32
  let c0_i32 : BitVec 32 := 0#32
  let arg1 : BitVec 32 := BitVec.ofNat 32 (i 1).val
  let c128_i32 : BitVec 32 := 128#32
  let v17 : BitVec 32 := Scalar.muli arg1 c128_i32
  let v18 : BitVec 32 := Scalar.addi c0_i32 v17
  let c128_i32_16 : BitVec 32 := 128#32
  let v54 : BitVec 32 := Scalar.addi v18 c128_i32_16
  let c1_i32_17 : BitVec 32 := 1#32
  let v55 : BitVec 32 := Scalar.subi v54 c1_i32_17
  let c0_i32_19 : BitVec 32 := 0#32
  let v57 : BitVec 1 := Scalar.cmpi .sgt v55 c0_i32_19
  let v58 : BitVec 32 := Scalar.extui v57
  let c0_i32_20 : BitVec 32 := 0#32
  let v59 : BitVec 1 := Scalar.cmpi .slt v55 c0_i32_20
  let v60 : BitVec 32 := Scalar.extui v59
  let v61 : BitVec 32 := Scalar.subi v58 v60
  let c64_i32_18 : BitVec 32 := 64#32
  let c0_i32_21 : BitVec 32 := 0#32
  let v62 : BitVec 1 := Scalar.cmpi .sgt c64_i32_18 c0_i32_21
  let v63 : BitVec 32 := Scalar.extui v62
  let c0_i32_22 : BitVec 32 := 0#32
  let v64 : BitVec 1 := Scalar.cmpi .slt c64_i32_18 c0_i32_22
  let v65 : BitVec 32 := Scalar.extui v64
  let v66 : BitVec 32 := Scalar.subi v63 v65
  let v67 : BitVec 1 := Scalar.cmpi .ne v61 v66
  let v68 : BitVec 32 := Scalar.remsi v55 c64_i32_18
  let c0_i32_23 : BitVec 32 := 0#32
  let v69 : BitVec 1 := Scalar.cmpi .ne v68 c0_i32_23
  let v70 : BitVec 1 := Scalar.andi v67 v69
  let v56 : BitVec 32 := Scalar.divsi v55 c64_i32_18
  let c1_i32_24 : BitVec 32 := 1#32
  let v71 : BitVec 32 := Scalar.subi v56 c1_i32_24
  let v72 : BitVec 32 := Scalar.select v70 v71 v56
  let c1_i32_25 : BitVec 32 := 1#32
  let v73 : BitVec 32 := Scalar.addi v72 c1_i32_25
  let c64_i32_26 : BitVec 32 := 64#32
  let v74 : BitVec 32 := Scalar.muli v73 c64_i32_26
  let c8192_i32_27 : BitVec 32 := 8192#32
  let v75 : BitVec 32 := Scalar.minsi v74 c8192_i32_27
  let c512_i32 : BitVec 32 := 512#32
  let v76 : BitVec 32 := Scalar.addi v75 c512_i32
  let c1_i32_28 : BitVec 32 := 1#32
  let v77 : BitVec 32 := Scalar.subi v76 c1_i32_28
  let c0_i32_30 : BitVec 32 := 0#32
  let v79 : BitVec 1 := Scalar.cmpi .sgt v77 c0_i32_30
  let v80 : BitVec 32 := Scalar.extui v79
  let c0_i32_31 : BitVec 32 := 0#32
  let v81 : BitVec 1 := Scalar.cmpi .slt v77 c0_i32_31
  let v82 : BitVec 32 := Scalar.extui v81
  let v83 : BitVec 32 := Scalar.subi v80 v82
  let c512_i32_29 : BitVec 32 := 512#32
  let c0_i32_32 : BitVec 32 := 0#32
  let v84 : BitVec 1 := Scalar.cmpi .sgt c512_i32_29 c0_i32_32
  let v85 : BitVec 32 := Scalar.extui v84
  let c0_i32_33 : BitVec 32 := 0#32
  let v86 : BitVec 1 := Scalar.cmpi .slt c512_i32_29 c0_i32_33
  let v87 : BitVec 32 := Scalar.extui v86
  let v88 : BitVec 32 := Scalar.subi v85 v87
  let v89 : BitVec 1 := Scalar.cmpi .ne v83 v88
  let v90 : BitVec 32 := Scalar.remsi v77 c512_i32_29
  let c0_i32_34 : BitVec 32 := 0#32
  let v91 : BitVec 1 := Scalar.cmpi .ne v90 c0_i32_34
  let v92 : BitVec 1 := Scalar.andi v89 v91
  let v78 : BitVec 32 := Scalar.divsi v77 c512_i32_29
  let c1_i32_35 : BitVec 32 := 1#32
  let v93 : BitVec 32 := Scalar.subi v78 c1_i32_35
  let v94 : BitVec 32 := Scalar.select v92 v93 v78
  let c1_i32_42 : BitVec 32 := 1#32
  let v104 : BitVec 32 := Scalar.subi v94 c1_i32_42
  let v110 : BitVec 32 := Scalar.subi v104 c0_i32_46
  let c1_i32_47 : BitVec 32 := 1#32
  let v112 : BitVec 32 := Scalar.divsi v110 c1_i32_47
  let v113 : BitVec 32 := Scalar.muli v112 c1_i32_47
  let v114 : BitVec 32 := Scalar.addi c0_i32_46 v113
  let v111 : BitVec 32 := Scalar.addi c0_i32_46 v110
  let c1_i32_49 : BitVec 32 := 1#32
  ⟨v114, v111, c1_i32_49⟩
def k0_mult4 (i : grid0.Coords) (k0_t2 : Fin (k0_t2_loop i).trips) : BitVec 32 :=
  let c0_i32_46 : BitVec 32 := 0#32
  let c0_i32 : BitVec 32 := 0#32
  let arg1 : BitVec 32 := BitVec.ofNat 32 (i 1).val
  let c128_i32 : BitVec 32 := 128#32
  let v17 : BitVec 32 := Scalar.muli arg1 c128_i32
  let v18 : BitVec 32 := Scalar.addi c0_i32 v17
  let c128_i32_16 : BitVec 32 := 128#32
  let v54 : BitVec 32 := Scalar.addi v18 c128_i32_16
  let c1_i32_17 : BitVec 32 := 1#32
  let v55 : BitVec 32 := Scalar.subi v54 c1_i32_17
  let c0_i32_19 : BitVec 32 := 0#32
  let v57 : BitVec 1 := Scalar.cmpi .sgt v55 c0_i32_19
  let v58 : BitVec 32 := Scalar.extui v57
  let c0_i32_20 : BitVec 32 := 0#32
  let v59 : BitVec 1 := Scalar.cmpi .slt v55 c0_i32_20
  let v60 : BitVec 32 := Scalar.extui v59
  let v61 : BitVec 32 := Scalar.subi v58 v60
  let c64_i32_18 : BitVec 32 := 64#32
  let c0_i32_21 : BitVec 32 := 0#32
  let v62 : BitVec 1 := Scalar.cmpi .sgt c64_i32_18 c0_i32_21
  let v63 : BitVec 32 := Scalar.extui v62
  let c0_i32_22 : BitVec 32 := 0#32
  let v64 : BitVec 1 := Scalar.cmpi .slt c64_i32_18 c0_i32_22
  let v65 : BitVec 32 := Scalar.extui v64
  let v66 : BitVec 32 := Scalar.subi v63 v65
  let v67 : BitVec 1 := Scalar.cmpi .ne v61 v66
  let v68 : BitVec 32 := Scalar.remsi v55 c64_i32_18
  let c0_i32_23 : BitVec 32 := 0#32
  let v69 : BitVec 1 := Scalar.cmpi .ne v68 c0_i32_23
  let v70 : BitVec 1 := Scalar.andi v67 v69
  let v56 : BitVec 32 := Scalar.divsi v55 c64_i32_18
  let c1_i32_24 : BitVec 32 := 1#32
  let v71 : BitVec 32 := Scalar.subi v56 c1_i32_24
  let v72 : BitVec 32 := Scalar.select v70 v71 v56
  let c1_i32_25 : BitVec 32 := 1#32
  let v73 : BitVec 32 := Scalar.addi v72 c1_i32_25
  let c64_i32_26 : BitVec 32 := 64#32
  let v74 : BitVec 32 := Scalar.muli v73 c64_i32_26
  let c8192_i32_27 : BitVec 32 := 8192#32
  let v75 : BitVec 32 := Scalar.minsi v74 c8192_i32_27
  let c512_i32 : BitVec 32 := 512#32
  let v76 : BitVec 32 := Scalar.addi v75 c512_i32
  let c1_i32_28 : BitVec 32 := 1#32
  let v77 : BitVec 32 := Scalar.subi v76 c1_i32_28
  let c0_i32_30 : BitVec 32 := 0#32
  let v79 : BitVec 1 := Scalar.cmpi .sgt v77 c0_i32_30
  let v80 : BitVec 32 := Scalar.extui v79
  let c0_i32_31 : BitVec 32 := 0#32
  let v81 : BitVec 1 := Scalar.cmpi .slt v77 c0_i32_31
  let v82 : BitVec 32 := Scalar.extui v81
  let v83 : BitVec 32 := Scalar.subi v80 v82
  let c512_i32_29 : BitVec 32 := 512#32
  let c0_i32_32 : BitVec 32 := 0#32
  let v84 : BitVec 1 := Scalar.cmpi .sgt c512_i32_29 c0_i32_32
  let v85 : BitVec 32 := Scalar.extui v84
  let c0_i32_33 : BitVec 32 := 0#32
  let v86 : BitVec 1 := Scalar.cmpi .slt c512_i32_29 c0_i32_33
  let v87 : BitVec 32 := Scalar.extui v86
  let v88 : BitVec 32 := Scalar.subi v85 v87
  let v89 : BitVec 1 := Scalar.cmpi .ne v83 v88
  let v90 : BitVec 32 := Scalar.remsi v77 c512_i32_29
  let c0_i32_34 : BitVec 32 := 0#32
  let v91 : BitVec 1 := Scalar.cmpi .ne v90 c0_i32_34
  let v92 : BitVec 1 := Scalar.andi v89 v91
  let v78 : BitVec 32 := Scalar.divsi v77 c512_i32_29
  let c1_i32_35 : BitVec 32 := 1#32
  let v93 : BitVec 32 := Scalar.subi v78 c1_i32_35
  let v94 : BitVec 32 := Scalar.select v92 v93 v78
  let c1_i32_42 : BitVec 32 := 1#32
  let v104 : BitVec 32 := Scalar.subi v94 c1_i32_42
  let v110 : BitVec 32 := Scalar.subi v104 c0_i32_46
  let c1_i32_47 : BitVec 32 := 1#32
  let v112 : BitVec 32 := Scalar.divsi v110 c1_i32_47
  let v113 : BitVec 32 := Scalar.muli v112 c1_i32_47
  let v114 : BitVec 32 := Scalar.addi c0_i32_46 v113
  let c1_i32_49 : BitVec 32 := 1#32
  let arg8 : BitVec 32 := Scf.iv v114 c1_i32_49 k0_t2
  let c1_i32_94 : BitVec 32 := 1#32
  let v220 : BitVec 32 := Scalar.addi arg8 c1_i32_94
  let c512_i32_95 : BitVec 32 := 512#32
  let v221 : BitVec 32 := Scalar.muli v220 c512_i32_95
  v221
def k0_off3 (i : grid0.Coords) (k0_t2 : Fin (k0_t2_loop i).trips) : Fin 2 → Nat :=
  let c0_i32_46 : BitVec 32 := 0#32
  let c0_i32 : BitVec 32 := 0#32
  let arg1 : BitVec 32 := BitVec.ofNat 32 (i 1).val
  let c128_i32 : BitVec 32 := 128#32
  let v17 : BitVec 32 := Scalar.muli arg1 c128_i32
  let v18 : BitVec 32 := Scalar.addi c0_i32 v17
  let c128_i32_16 : BitVec 32 := 128#32
  let v54 : BitVec 32 := Scalar.addi v18 c128_i32_16
  let c1_i32_17 : BitVec 32 := 1#32
  let v55 : BitVec 32 := Scalar.subi v54 c1_i32_17
  let c0_i32_19 : BitVec 32 := 0#32
  let v57 : BitVec 1 := Scalar.cmpi .sgt v55 c0_i32_19
  let v58 : BitVec 32 := Scalar.extui v57
  let c0_i32_20 : BitVec 32 := 0#32
  let v59 : BitVec 1 := Scalar.cmpi .slt v55 c0_i32_20
  let v60 : BitVec 32 := Scalar.extui v59
  let v61 : BitVec 32 := Scalar.subi v58 v60
  let c64_i32_18 : BitVec 32 := 64#32
  let c0_i32_21 : BitVec 32 := 0#32
  let v62 : BitVec 1 := Scalar.cmpi .sgt c64_i32_18 c0_i32_21
  let v63 : BitVec 32 := Scalar.extui v62
  let c0_i32_22 : BitVec 32 := 0#32
  let v64 : BitVec 1 := Scalar.cmpi .slt c64_i32_18 c0_i32_22
  let v65 : BitVec 32 := Scalar.extui v64
  let v66 : BitVec 32 := Scalar.subi v63 v65
  let v67 : BitVec 1 := Scalar.cmpi .ne v61 v66
  let v68 : BitVec 32 := Scalar.remsi v55 c64_i32_18
  let c0_i32_23 : BitVec 32 := 0#32
  let v69 : BitVec 1 := Scalar.cmpi .ne v68 c0_i32_23
  let v70 : BitVec 1 := Scalar.andi v67 v69
  let v56 : BitVec 32 := Scalar.divsi v55 c64_i32_18
  let c1_i32_24 : BitVec 32 := 1#32
  let v71 : BitVec 32 := Scalar.subi v56 c1_i32_24
  let v72 : BitVec 32 := Scalar.select v70 v71 v56
  let c1_i32_25 : BitVec 32 := 1#32
  let v73 : BitVec 32 := Scalar.addi v72 c1_i32_25
  let c64_i32_26 : BitVec 32 := 64#32
  let v74 : BitVec 32 := Scalar.muli v73 c64_i32_26
  let c8192_i32_27 : BitVec 32 := 8192#32
  let v75 : BitVec 32 := Scalar.minsi v74 c8192_i32_27
  let c512_i32 : BitVec 32 := 512#32
  let v76 : BitVec 32 := Scalar.addi v75 c512_i32
  let c1_i32_28 : BitVec 32 := 1#32
  let v77 : BitVec 32 := Scalar.subi v76 c1_i32_28
  let c0_i32_30 : BitVec 32 := 0#32
  let v79 : BitVec 1 := Scalar.cmpi .sgt v77 c0_i32_30
  let v80 : BitVec 32 := Scalar.extui v79
  let c0_i32_31 : BitVec 32 := 0#32
  let v81 : BitVec 1 := Scalar.cmpi .slt v77 c0_i32_31
  let v82 : BitVec 32 := Scalar.extui v81
  let v83 : BitVec 32 := Scalar.subi v80 v82
  let c512_i32_29 : BitVec 32 := 512#32
  let c0_i32_32 : BitVec 32 := 0#32
  let v84 : BitVec 1 := Scalar.cmpi .sgt c512_i32_29 c0_i32_32
  let v85 : BitVec 32 := Scalar.extui v84
  let c0_i32_33 : BitVec 32 := 0#32
  let v86 : BitVec 1 := Scalar.cmpi .slt c512_i32_29 c0_i32_33
  let v87 : BitVec 32 := Scalar.extui v86
  let v88 : BitVec 32 := Scalar.subi v85 v87
  let v89 : BitVec 1 := Scalar.cmpi .ne v83 v88
  let v90 : BitVec 32 := Scalar.remsi v77 c512_i32_29
  let c0_i32_34 : BitVec 32 := 0#32
  let v91 : BitVec 1 := Scalar.cmpi .ne v90 c0_i32_34
  let v92 : BitVec 1 := Scalar.andi v89 v91
  let v78 : BitVec 32 := Scalar.divsi v77 c512_i32_29
  let c1_i32_35 : BitVec 32 := 1#32
  let v93 : BitVec 32 := Scalar.subi v78 c1_i32_35
  let v94 : BitVec 32 := Scalar.select v92 v93 v78
  let c1_i32_42 : BitVec 32 := 1#32
  let v104 : BitVec 32 := Scalar.subi v94 c1_i32_42
  let v110 : BitVec 32 := Scalar.subi v104 c0_i32_46
  let c1_i32_47 : BitVec 32 := 1#32
  let v112 : BitVec 32 := Scalar.divsi v110 c1_i32_47
  let v113 : BitVec 32 := Scalar.muli v112 c1_i32_47
  let v114 : BitVec 32 := Scalar.addi c0_i32_46 v113
  let c1_i32_49 : BitVec 32 := 1#32
  let arg8 : BitVec 32 := Scf.iv v114 c1_i32_49 k0_t2
  let c1_i32_94 : BitVec 32 := 1#32
  let v220 : BitVec 32 := Scalar.addi arg8 c1_i32_94
  let c512_i32_95 : BitVec 32 := 512#32
  let v221 : BitVec 32 := Scalar.muli v220 c512_i32_95
  let v222 : BitVec 32 := v221
  let v223 : Index := Scalar.indexCast v222
  let c0_96 : Index := 0#32
  ![v223.toNat, 0]
def k0_mult5 (i : grid0.Coords) (k0_t2 : Fin (k0_t2_loop i).trips) : BitVec 32 :=
  let c0_i32_46 : BitVec 32 := 0#32
  let c0_i32 : BitVec 32 := 0#32
  let arg1 : BitVec 32 := BitVec.ofNat 32 (i 1).val
  let c128_i32 : BitVec 32 := 128#32
  let v17 : BitVec 32 := Scalar.muli arg1 c128_i32
  let v18 : BitVec 32 := Scalar.addi c0_i32 v17
  let c128_i32_16 : BitVec 32 := 128#32
  let v54 : BitVec 32 := Scalar.addi v18 c128_i32_16
  let c1_i32_17 : BitVec 32 := 1#32
  let v55 : BitVec 32 := Scalar.subi v54 c1_i32_17
  let c0_i32_19 : BitVec 32 := 0#32
  let v57 : BitVec 1 := Scalar.cmpi .sgt v55 c0_i32_19
  let v58 : BitVec 32 := Scalar.extui v57
  let c0_i32_20 : BitVec 32 := 0#32
  let v59 : BitVec 1 := Scalar.cmpi .slt v55 c0_i32_20
  let v60 : BitVec 32 := Scalar.extui v59
  let v61 : BitVec 32 := Scalar.subi v58 v60
  let c64_i32_18 : BitVec 32 := 64#32
  let c0_i32_21 : BitVec 32 := 0#32
  let v62 : BitVec 1 := Scalar.cmpi .sgt c64_i32_18 c0_i32_21
  let v63 : BitVec 32 := Scalar.extui v62
  let c0_i32_22 : BitVec 32 := 0#32
  let v64 : BitVec 1 := Scalar.cmpi .slt c64_i32_18 c0_i32_22
  let v65 : BitVec 32 := Scalar.extui v64
  let v66 : BitVec 32 := Scalar.subi v63 v65
  let v67 : BitVec 1 := Scalar.cmpi .ne v61 v66
  let v68 : BitVec 32 := Scalar.remsi v55 c64_i32_18
  let c0_i32_23 : BitVec 32 := 0#32
  let v69 : BitVec 1 := Scalar.cmpi .ne v68 c0_i32_23
  let v70 : BitVec 1 := Scalar.andi v67 v69
  let v56 : BitVec 32 := Scalar.divsi v55 c64_i32_18
  let c1_i32_24 : BitVec 32 := 1#32
  let v71 : BitVec 32 := Scalar.subi v56 c1_i32_24
  let v72 : BitVec 32 := Scalar.select v70 v71 v56
  let c1_i32_25 : BitVec 32 := 1#32
  let v73 : BitVec 32 := Scalar.addi v72 c1_i32_25
  let c64_i32_26 : BitVec 32 := 64#32
  let v74 : BitVec 32 := Scalar.muli v73 c64_i32_26
  let c8192_i32_27 : BitVec 32 := 8192#32
  let v75 : BitVec 32 := Scalar.minsi v74 c8192_i32_27
  let c512_i32 : BitVec 32 := 512#32
  let v76 : BitVec 32 := Scalar.addi v75 c512_i32
  let c1_i32_28 : BitVec 32 := 1#32
  let v77 : BitVec 32 := Scalar.subi v76 c1_i32_28
  let c0_i32_30 : BitVec 32 := 0#32
  let v79 : BitVec 1 := Scalar.cmpi .sgt v77 c0_i32_30
  let v80 : BitVec 32 := Scalar.extui v79
  let c0_i32_31 : BitVec 32 := 0#32
  let v81 : BitVec 1 := Scalar.cmpi .slt v77 c0_i32_31
  let v82 : BitVec 32 := Scalar.extui v81
  let v83 : BitVec 32 := Scalar.subi v80 v82
  let c512_i32_29 : BitVec 32 := 512#32
  let c0_i32_32 : BitVec 32 := 0#32
  let v84 : BitVec 1 := Scalar.cmpi .sgt c512_i32_29 c0_i32_32
  let v85 : BitVec 32 := Scalar.extui v84
  let c0_i32_33 : BitVec 32 := 0#32
  let v86 : BitVec 1 := Scalar.cmpi .slt c512_i32_29 c0_i32_33
  let v87 : BitVec 32 := Scalar.extui v86
  let v88 : BitVec 32 := Scalar.subi v85 v87
  let v89 : BitVec 1 := Scalar.cmpi .ne v83 v88
  let v90 : BitVec 32 := Scalar.remsi v77 c512_i32_29
  let c0_i32_34 : BitVec 32 := 0#32
  let v91 : BitVec 1 := Scalar.cmpi .ne v90 c0_i32_34
  let v92 : BitVec 1 := Scalar.andi v89 v91
  let v78 : BitVec 32 := Scalar.divsi v77 c512_i32_29
  let c1_i32_35 : BitVec 32 := 1#32
  let v93 : BitVec 32 := Scalar.subi v78 c1_i32_35
  let v94 : BitVec 32 := Scalar.select v92 v93 v78
  let c1_i32_42 : BitVec 32 := 1#32
  let v104 : BitVec 32 := Scalar.subi v94 c1_i32_42
  let v110 : BitVec 32 := Scalar.subi v104 c0_i32_46
  let c1_i32_47 : BitVec 32 := 1#32
  let v112 : BitVec 32 := Scalar.divsi v110 c1_i32_47
  let v113 : BitVec 32 := Scalar.muli v112 c1_i32_47
  let v114 : BitVec 32 := Scalar.addi c0_i32_46 v113
  let c1_i32_49 : BitVec 32 := 1#32
  let arg8 : BitVec 32 := Scf.iv v114 c1_i32_49 k0_t2
  let c512_i32_98 : BitVec 32 := 512#32
  let v227 : BitVec 32 := Scalar.muli arg8 c512_i32_98
  v227
def k0_off4 (i : grid0.Coords) (k0_t2 : Fin (k0_t2_loop i).trips) : Fin 2 → Nat :=
  let c0_i32_46 : BitVec 32 := 0#32
  let c0_i32 : BitVec 32 := 0#32
  let arg1 : BitVec 32 := BitVec.ofNat 32 (i 1).val
  let c128_i32 : BitVec 32 := 128#32
  let v17 : BitVec 32 := Scalar.muli arg1 c128_i32
  let v18 : BitVec 32 := Scalar.addi c0_i32 v17
  let c128_i32_16 : BitVec 32 := 128#32
  let v54 : BitVec 32 := Scalar.addi v18 c128_i32_16
  let c1_i32_17 : BitVec 32 := 1#32
  let v55 : BitVec 32 := Scalar.subi v54 c1_i32_17
  let c0_i32_19 : BitVec 32 := 0#32
  let v57 : BitVec 1 := Scalar.cmpi .sgt v55 c0_i32_19
  let v58 : BitVec 32 := Scalar.extui v57
  let c0_i32_20 : BitVec 32 := 0#32
  let v59 : BitVec 1 := Scalar.cmpi .slt v55 c0_i32_20
  let v60 : BitVec 32 := Scalar.extui v59
  let v61 : BitVec 32 := Scalar.subi v58 v60
  let c64_i32_18 : BitVec 32 := 64#32
  let c0_i32_21 : BitVec 32 := 0#32
  let v62 : BitVec 1 := Scalar.cmpi .sgt c64_i32_18 c0_i32_21
  let v63 : BitVec 32 := Scalar.extui v62
  let c0_i32_22 : BitVec 32 := 0#32
  let v64 : BitVec 1 := Scalar.cmpi .slt c64_i32_18 c0_i32_22
  let v65 : BitVec 32 := Scalar.extui v64
  let v66 : BitVec 32 := Scalar.subi v63 v65
  let v67 : BitVec 1 := Scalar.cmpi .ne v61 v66
  let v68 : BitVec 32 := Scalar.remsi v55 c64_i32_18
  let c0_i32_23 : BitVec 32 := 0#32
  let v69 : BitVec 1 := Scalar.cmpi .ne v68 c0_i32_23
  let v70 : BitVec 1 := Scalar.andi v67 v69
  let v56 : BitVec 32 := Scalar.divsi v55 c64_i32_18
  let c1_i32_24 : BitVec 32 := 1#32
  let v71 : BitVec 32 := Scalar.subi v56 c1_i32_24
  let v72 : BitVec 32 := Scalar.select v70 v71 v56
  let c1_i32_25 : BitVec 32 := 1#32
  let v73 : BitVec 32 := Scalar.addi v72 c1_i32_25
  let c64_i32_26 : BitVec 32 := 64#32
  let v74 : BitVec 32 := Scalar.muli v73 c64_i32_26
  let c8192_i32_27 : BitVec 32 := 8192#32
  let v75 : BitVec 32 := Scalar.minsi v74 c8192_i32_27
  let c512_i32 : BitVec 32 := 512#32
  let v76 : BitVec 32 := Scalar.addi v75 c512_i32
  let c1_i32_28 : BitVec 32 := 1#32
  let v77 : BitVec 32 := Scalar.subi v76 c1_i32_28
  let c0_i32_30 : BitVec 32 := 0#32
  let v79 : BitVec 1 := Scalar.cmpi .sgt v77 c0_i32_30
  let v80 : BitVec 32 := Scalar.extui v79
  let c0_i32_31 : BitVec 32 := 0#32
  let v81 : BitVec 1 := Scalar.cmpi .slt v77 c0_i32_31
  let v82 : BitVec 32 := Scalar.extui v81
  let v83 : BitVec 32 := Scalar.subi v80 v82
  let c512_i32_29 : BitVec 32 := 512#32
  let c0_i32_32 : BitVec 32 := 0#32
  let v84 : BitVec 1 := Scalar.cmpi .sgt c512_i32_29 c0_i32_32
  let v85 : BitVec 32 := Scalar.extui v84
  let c0_i32_33 : BitVec 32 := 0#32
  let v86 : BitVec 1 := Scalar.cmpi .slt c512_i32_29 c0_i32_33
  let v87 : BitVec 32 := Scalar.extui v86
  let v88 : BitVec 32 := Scalar.subi v85 v87
  let v89 : BitVec 1 := Scalar.cmpi .ne v83 v88
  let v90 : BitVec 32 := Scalar.remsi v77 c512_i32_29
  let c0_i32_34 : BitVec 32 := 0#32
  let v91 : BitVec 1 := Scalar.cmpi .ne v90 c0_i32_34
  let v92 : BitVec 1 := Scalar.andi v89 v91
  let v78 : BitVec 32 := Scalar.divsi v77 c512_i32_29
  let c1_i32_35 : BitVec 32 := 1#32
  let v93 : BitVec 32 := Scalar.subi v78 c1_i32_35
  let v94 : BitVec 32 := Scalar.select v92 v93 v78
  let c1_i32_42 : BitVec 32 := 1#32
  let v104 : BitVec 32 := Scalar.subi v94 c1_i32_42
  let v110 : BitVec 32 := Scalar.subi v104 c0_i32_46
  let c1_i32_47 : BitVec 32 := 1#32
  let v112 : BitVec 32 := Scalar.divsi v110 c1_i32_47
  let v113 : BitVec 32 := Scalar.muli v112 c1_i32_47
  let v114 : BitVec 32 := Scalar.addi c0_i32_46 v113
  let c1_i32_49 : BitVec 32 := 1#32
  let arg8 : BitVec 32 := Scf.iv v114 c1_i32_49 k0_t2
  let c512_i32_98 : BitVec 32 := 512#32
  let v227 : BitVec 32 := Scalar.muli arg8 c512_i32_98
  let v228 : BitVec 32 := v227
  let v258 : Index := Scalar.indexCast v228
  let c0_102 : Index := 0#32
  ![v258.toNat, 0]
def k0_mult6 (i : grid0.Coords) : BitVec 32 :=
  let c0_i32 : BitVec 32 := 0#32
  let arg1 : BitVec 32 := BitVec.ofNat 32 (i 1).val
  let c128_i32 : BitVec 32 := 128#32
  let v17 : BitVec 32 := Scalar.muli arg1 c128_i32
  let v18 : BitVec 32 := Scalar.addi c0_i32 v17
  let c128_i32_16 : BitVec 32 := 128#32
  let v54 : BitVec 32 := Scalar.addi v18 c128_i32_16
  let c1_i32_17 : BitVec 32 := 1#32
  let v55 : BitVec 32 := Scalar.subi v54 c1_i32_17
  let c0_i32_19 : BitVec 32 := 0#32
  let v57 : BitVec 1 := Scalar.cmpi .sgt v55 c0_i32_19
  let v58 : BitVec 32 := Scalar.extui v57
  let c0_i32_20 : BitVec 32 := 0#32
  let v59 : BitVec 1 := Scalar.cmpi .slt v55 c0_i32_20
  let v60 : BitVec 32 := Scalar.extui v59
  let v61 : BitVec 32 := Scalar.subi v58 v60
  let c64_i32_18 : BitVec 32 := 64#32
  let c0_i32_21 : BitVec 32 := 0#32
  let v62 : BitVec 1 := Scalar.cmpi .sgt c64_i32_18 c0_i32_21
  let v63 : BitVec 32 := Scalar.extui v62
  let c0_i32_22 : BitVec 32 := 0#32
  let v64 : BitVec 1 := Scalar.cmpi .slt c64_i32_18 c0_i32_22
  let v65 : BitVec 32 := Scalar.extui v64
  let v66 : BitVec 32 := Scalar.subi v63 v65
  let v67 : BitVec 1 := Scalar.cmpi .ne v61 v66
  let v68 : BitVec 32 := Scalar.remsi v55 c64_i32_18
  let c0_i32_23 : BitVec 32 := 0#32
  let v69 : BitVec 1 := Scalar.cmpi .ne v68 c0_i32_23
  let v70 : BitVec 1 := Scalar.andi v67 v69
  let v56 : BitVec 32 := Scalar.divsi v55 c64_i32_18
  let c1_i32_24 : BitVec 32 := 1#32
  let v71 : BitVec 32 := Scalar.subi v56 c1_i32_24
  let v72 : BitVec 32 := Scalar.select v70 v71 v56
  let c1_i32_25 : BitVec 32 := 1#32
  let v73 : BitVec 32 := Scalar.addi v72 c1_i32_25
  let c64_i32_26 : BitVec 32 := 64#32
  let v74 : BitVec 32 := Scalar.muli v73 c64_i32_26
  let c8192_i32_27 : BitVec 32 := 8192#32
  let v75 : BitVec 32 := Scalar.minsi v74 c8192_i32_27
  let c512_i32 : BitVec 32 := 512#32
  let v76 : BitVec 32 := Scalar.addi v75 c512_i32
  let c1_i32_28 : BitVec 32 := 1#32
  let v77 : BitVec 32 := Scalar.subi v76 c1_i32_28
  let c0_i32_30 : BitVec 32 := 0#32
  let v79 : BitVec 1 := Scalar.cmpi .sgt v77 c0_i32_30
  let v80 : BitVec 32 := Scalar.extui v79
  let c0_i32_31 : BitVec 32 := 0#32
  let v81 : BitVec 1 := Scalar.cmpi .slt v77 c0_i32_31
  let v82 : BitVec 32 := Scalar.extui v81
  let v83 : BitVec 32 := Scalar.subi v80 v82
  let c512_i32_29 : BitVec 32 := 512#32
  let c0_i32_32 : BitVec 32 := 0#32
  let v84 : BitVec 1 := Scalar.cmpi .sgt c512_i32_29 c0_i32_32
  let v85 : BitVec 32 := Scalar.extui v84
  let c0_i32_33 : BitVec 32 := 0#32
  let v86 : BitVec 1 := Scalar.cmpi .slt c512_i32_29 c0_i32_33
  let v87 : BitVec 32 := Scalar.extui v86
  let v88 : BitVec 32 := Scalar.subi v85 v87
  let v89 : BitVec 1 := Scalar.cmpi .ne v83 v88
  let v90 : BitVec 32 := Scalar.remsi v77 c512_i32_29
  let c0_i32_34 : BitVec 32 := 0#32
  let v91 : BitVec 1 := Scalar.cmpi .ne v90 c0_i32_34
  let v92 : BitVec 1 := Scalar.andi v89 v91
  let v78 : BitVec 32 := Scalar.divsi v77 c512_i32_29
  let c1_i32_35 : BitVec 32 := 1#32
  let v93 : BitVec 32 := Scalar.subi v78 c1_i32_35
  let v94 : BitVec 32 := Scalar.select v92 v93 v78
  let c1_i32_50 : BitVec 32 := 1#32
  let v117 : BitVec 32 := Scalar.subi v94 c1_i32_50
  let c512_i32_51 : BitVec 32 := 512#32
  let v118 : BitVec 32 := Scalar.muli v117 c512_i32_51
  v118
def k0_off5 (i : grid0.Coords) : Fin 2 → Nat :=
  let c0_i32 : BitVec 32 := 0#32
  let arg1 : BitVec 32 := BitVec.ofNat 32 (i 1).val
  let c128_i32 : BitVec 32 := 128#32
  let v17 : BitVec 32 := Scalar.muli arg1 c128_i32
  let v18 : BitVec 32 := Scalar.addi c0_i32 v17
  let c128_i32_16 : BitVec 32 := 128#32
  let v54 : BitVec 32 := Scalar.addi v18 c128_i32_16
  let c1_i32_17 : BitVec 32 := 1#32
  let v55 : BitVec 32 := Scalar.subi v54 c1_i32_17
  let c0_i32_19 : BitVec 32 := 0#32
  let v57 : BitVec 1 := Scalar.cmpi .sgt v55 c0_i32_19
  let v58 : BitVec 32 := Scalar.extui v57
  let c0_i32_20 : BitVec 32 := 0#32
  let v59 : BitVec 1 := Scalar.cmpi .slt v55 c0_i32_20
  let v60 : BitVec 32 := Scalar.extui v59
  let v61 : BitVec 32 := Scalar.subi v58 v60
  let c64_i32_18 : BitVec 32 := 64#32
  let c0_i32_21 : BitVec 32 := 0#32
  let v62 : BitVec 1 := Scalar.cmpi .sgt c64_i32_18 c0_i32_21
  let v63 : BitVec 32 := Scalar.extui v62
  let c0_i32_22 : BitVec 32 := 0#32
  let v64 : BitVec 1 := Scalar.cmpi .slt c64_i32_18 c0_i32_22
  let v65 : BitVec 32 := Scalar.extui v64
  let v66 : BitVec 32 := Scalar.subi v63 v65
  let v67 : BitVec 1 := Scalar.cmpi .ne v61 v66
  let v68 : BitVec 32 := Scalar.remsi v55 c64_i32_18
  let c0_i32_23 : BitVec 32 := 0#32
  let v69 : BitVec 1 := Scalar.cmpi .ne v68 c0_i32_23
  let v70 : BitVec 1 := Scalar.andi v67 v69
  let v56 : BitVec 32 := Scalar.divsi v55 c64_i32_18
  let c1_i32_24 : BitVec 32 := 1#32
  let v71 : BitVec 32 := Scalar.subi v56 c1_i32_24
  let v72 : BitVec 32 := Scalar.select v70 v71 v56
  let c1_i32_25 : BitVec 32 := 1#32
  let v73 : BitVec 32 := Scalar.addi v72 c1_i32_25
  let c64_i32_26 : BitVec 32 := 64#32
  let v74 : BitVec 32 := Scalar.muli v73 c64_i32_26
  let c8192_i32_27 : BitVec 32 := 8192#32
  let v75 : BitVec 32 := Scalar.minsi v74 c8192_i32_27
  let c512_i32 : BitVec 32 := 512#32
  let v76 : BitVec 32 := Scalar.addi v75 c512_i32
  let c1_i32_28 : BitVec 32 := 1#32
  let v77 : BitVec 32 := Scalar.subi v76 c1_i32_28
  let c0_i32_30 : BitVec 32 := 0#32
  let v79 : BitVec 1 := Scalar.cmpi .sgt v77 c0_i32_30
  let v80 : BitVec 32 := Scalar.extui v79
  let c0_i32_31 : BitVec 32 := 0#32
  let v81 : BitVec 1 := Scalar.cmpi .slt v77 c0_i32_31
  let v82 : BitVec 32 := Scalar.extui v81
  let v83 : BitVec 32 := Scalar.subi v80 v82
  let c512_i32_29 : BitVec 32 := 512#32
  let c0_i32_32 : BitVec 32 := 0#32
  let v84 : BitVec 1 := Scalar.cmpi .sgt c512_i32_29 c0_i32_32
  let v85 : BitVec 32 := Scalar.extui v84
  let c0_i32_33 : BitVec 32 := 0#32
  let v86 : BitVec 1 := Scalar.cmpi .slt c512_i32_29 c0_i32_33
  let v87 : BitVec 32 := Scalar.extui v86
  let v88 : BitVec 32 := Scalar.subi v85 v87
  let v89 : BitVec 1 := Scalar.cmpi .ne v83 v88
  let v90 : BitVec 32 := Scalar.remsi v77 c512_i32_29
  let c0_i32_34 : BitVec 32 := 0#32
  let v91 : BitVec 1 := Scalar.cmpi .ne v90 c0_i32_34
  let v92 : BitVec 1 := Scalar.andi v89 v91
  let v78 : BitVec 32 := Scalar.divsi v77 c512_i32_29
  let c1_i32_35 : BitVec 32 := 1#32
  let v93 : BitVec 32 := Scalar.subi v78 c1_i32_35
  let v94 : BitVec 32 := Scalar.select v92 v93 v78
  let c1_i32_50 : BitVec 32 := 1#32
  let v117 : BitVec 32 := Scalar.subi v94 c1_i32_50
  let c512_i32_51 : BitVec 32 := 512#32
  let v118 : BitVec 32 := Scalar.muli v117 c512_i32_51
  let v119 : BitVec 32 := v118
  let v157 : Index := Scalar.indexCast v119
  let c0_56 : Index := 0#32
  ![v157.toNat, 0]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference.lean ====
abbrev S4x8192x8x64 : Shape := ⟨4, ![4, 8192, 8, 64]⟩
abbrev S4x8192x8x32 : Shape := ⟨4, ![4, 8192, 8, 32]⟩
abbrev S4x8192x128 : Shape := ⟨3, ![4, 8192, 128]⟩
abbrev S4x8192x32 : Shape := ⟨3, ![4, 8192, 32]⟩
abbrev S128x512 : Shape := ⟨2, ![128, 512]⟩
abbrev S8192 : Shape := ⟨1, ![8192]⟩
abbrev S4x8192x512 : Shape := ⟨3, ![4, 8192, 512]⟩
abbrev S4x8x8192x8192 : Shape := ⟨4, ![4, 8, 8192, 8192]⟩
abbrev S4x8192x8192x8 : Shape := ⟨4, ![4, 8192, 8192, 8]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩
abbrev S32768x512 : Shape := ⟨2, ![32768, 512]⟩

abbrev nBuf : Space → Nat
  | .hbm => 82
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x32, .f32⟩
  | .hbm, ⟨2, _⟩ => ⟨S4x8192x128, .f32⟩
  | .hbm, ⟨3, _⟩ => ⟨S4x8192x32, .f32⟩
  | .hbm, ⟨4, _⟩ => ⟨S128x512, .f32⟩
  | .hbm, ⟨5, _⟩ => ⟨S128x512, .f32⟩
  | .hbm, ⟨6, _⟩ => ⟨S8192, .i32⟩
  | .hbm, ⟨7, _⟩ => ⟨S4x8192x512, .f32⟩
  | .hbm, ⟨8, _⟩ => ⟨S4x8192x8x64, .f32⟩
  | .hbm, ⟨9, _⟩ => ⟨S4x8192x512, .f32⟩
  | .hbm, ⟨10, _⟩ => ⟨S4x8192x8x64, .f32⟩
  | .hbm, ⟨11, _⟩ => ⟨S4x8x8192x8192, .f32⟩
  | .hbm, ⟨12, _⟩ => ⟨S4x8192x8192x8, .f32⟩
  | .hbm, ⟨13, _⟩ => ⟨S4x8x8192x8192, .f32⟩
  | .hbm, ⟨14, _⟩ => ⟨S4x8x8192x8192, .f32⟩
  | .hbm, ⟨15, _⟩ => ⟨S_, .f32⟩
  | .hbm, ⟨16, _⟩ => ⟨S4x8x8192x8192, .f32⟩
  | .hbm, ⟨17, _⟩ => ⟨S4x8x8192x8192, .f32⟩
  | .hbm, ⟨18, _⟩ => ⟨S1x8192, .i32⟩
  | .hbm, ⟨19, _⟩ => ⟨S_, .i32⟩
  | .hbm, ⟨20, _⟩ => ⟨S_, .i32⟩
  | .hbm, ⟨21, _⟩ => ⟨S1x8192, .i32⟩
  | .hbm, ⟨22, _⟩ => ⟨S1x8192, .i32⟩
  | .hbm, ⟨23, _⟩ => ⟨S1x8192, .i32⟩
  | .hbm, ⟨24, _⟩ => ⟨S_, .i32⟩
  | .hbm, ⟨25, _⟩ => ⟨S1x8192, .i32⟩
  | .hbm, ⟨26, _⟩ => ⟨S1x8192, .i1⟩
  | .hbm, ⟨27, _⟩ => ⟨S1x8192, .i32⟩
  | .hbm, ⟨28, _⟩ => ⟨S1x8192, .i32⟩
  | .hbm, ⟨29, _⟩ => ⟨S_, .i32⟩
  | .hbm, ⟨30, _⟩ => ⟨S1x8192, .i32⟩
  | .hbm, ⟨31, _⟩ => ⟨S1x8192, .i1⟩
  | .hbm, ⟨32, _⟩ => ⟨S1x8192, .i1⟩
  | .hbm, ⟨33, _⟩ => ⟨S_, .i32⟩
  | .hbm, ⟨34, _⟩ => ⟨S1x8192, .i32⟩
  | .hbm, ⟨35, _⟩ => ⟨S1x8192, .i32⟩
  | .hbm, ⟨36, _⟩ => ⟨S1x8192, .i32⟩
  | .hbm, ⟨37, _⟩ => ⟨S8192x1, .i32⟩
  | .hbm, ⟨38, _⟩ => ⟨S_, .i32⟩
  | .hbm, ⟨39, _⟩ => ⟨S_, .i32⟩
  | .hbm, ⟨40, _⟩ => ⟨S8192x1, .i32⟩
  | .hbm, ⟨41, _⟩ => ⟨S8192x1, .i32⟩
  | .hbm, ⟨42, _⟩ => ⟨S8192x1, .i32⟩
  | .hbm, ⟨43, _⟩ => ⟨S_, .i32⟩
  | .hbm, ⟨44, _⟩ => ⟨S8192x1, .i32⟩
  | .hbm, ⟨45, _⟩ => ⟨S8192x1, .i1⟩
  | .hbm, ⟨46, _⟩ => ⟨S8192x1, .i32⟩
  | .hbm, ⟨47, _⟩ => ⟨S8192x1, .i32⟩
  | .hbm, ⟨48, _⟩ => ⟨S_, .i32⟩
  | .hbm, ⟨49, _⟩ => ⟨S8192x1, .i32⟩
  | .hbm, ⟨50, _⟩ => ⟨S8192x1, .i1⟩
  | .hbm, ⟨51, _⟩ => ⟨S8192x1, .i1⟩
  | .hbm, ⟨52, _⟩ => ⟨S_, .i32⟩
  | .hbm, ⟨53, _⟩ => ⟨S8192x1, .i32⟩
  | .hbm, ⟨54, _⟩ => ⟨S8192x1, .i32⟩
  | .hbm, ⟨55, _⟩ => ⟨S8192x1, .i32⟩
  | .hbm, ⟨56, _⟩ => ⟨S8192x8192, .i32⟩
  | .hbm, ⟨57, _⟩ => ⟨S8192x8192, .i32⟩
  | .hbm, ⟨58, _⟩ => ⟨S8192x8192, .i1⟩
  | .hbm, ⟨59, _⟩ => ⟨S_, .f32⟩
  | .hbm, ⟨60, _⟩ => ⟨S_, .f32⟩
  | .hbm, ⟨61, _⟩ => ⟨S4x8x8192x8192, .i1⟩
  | .hbm, ⟨62, _⟩ => ⟨S4x8x8192x8192, .f32⟩
  | .hbm, ⟨63, _⟩ => ⟨S4x8x8192x8192, .f32⟩
  | .hbm, ⟨64, _⟩ => ⟨S_, .f32⟩
  | .hbm, ⟨65, _⟩ => ⟨S4x8x8192, .f32⟩
  | .hbm, ⟨66, _⟩ => ⟨S_, .f32⟩
  | .hbm, ⟨67, _⟩ => ⟨S4x8x8192, .f32⟩
  | .hbm, ⟨68, _⟩ => ⟨S4x8x8192, .f32⟩
  | .hbm, ⟨69, _⟩ => ⟨S4x8x8192x1, .f32⟩
  | .hbm, ⟨70, _⟩ => ⟨S4x8x8192x8192, .f32⟩
  | .hbm, ⟨71, _⟩ => ⟨S4x8x8192x8192, .f32⟩
  | .hbm, ⟨72, _⟩ => ⟨S4x8x8192x8192, .f32⟩
  | .hbm, ⟨73, _⟩ => ⟨S_, .f32⟩
  | .hbm, ⟨74, _⟩ => ⟨S4x8x8192, .f32⟩
  | .hbm, ⟨75, _⟩ => ⟨S4x8x8192x1, .f32⟩
  | .hbm, ⟨76, _⟩ => ⟨S4x8x8192x8192, .f32⟩
  | .hbm, ⟨77, _⟩ => ⟨S4x8x8192x8192, .f32⟩
  | .hbm, ⟨78, _⟩ => ⟨S4x8x64x8192, .f32⟩
  | .hbm, ⟨79, _⟩ => ⟨S4x8192x8x64, .f32⟩
  | .hbm, ⟨80, _⟩ => ⟨S32768x512, .f32⟩
  | .hbm, ⟨81, _⟩ => ⟨S32768x512, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v12 : Ref sig .tc := ⟨.hbm, 36, rfl⟩
abbrev main_v13 : Ref sig .tc := ⟨.hbm, 37, rfl⟩
abbrev main_c_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_cst_1 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v18 : Ref sig .tc := ⟨.hbm, 63, rfl⟩
abbrev main_cst_2 : Ref sig .tc := ⟨.hbm, 64, rfl⟩
abbrev main_v19 : Ref sig .tc := ⟨.hbm, 65, rfl⟩
abbrev main_cst_3 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_cst_4 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩

abbrev nD : Nat := 1
abbrev τ : Topo := Topo.v7x

variable {F : FTy → Type} [FloatOps F]
-- ==== Merge.lean ====
abbrev S4x8192x1024 : Shape := ⟨3, ![4, 8192, 1024]⟩
abbrev S1024 : Shape := ⟨1, ![1024]⟩
abbrev S4x8192x8x64 : Shape := ⟨4, ![4, 8192, 8, 64]⟩
abbrev S1024x7144 : Shape := ⟨2, ![1024, 7144]⟩
abbrev S512x1024 : Shape := ⟨2, ![512, 1024]⟩
abbrev S1024x1024 : Shape := ⟨2, ![1024, 1024]⟩
abbrev S32768x1024 : Shape := ⟨2, ![32768, 1024]⟩
abbrev S1x1024 : Shape := ⟨2, ![1, 1024]⟩
abbrev S1024x3072 : Shape := ⟨2, ![1024, 3072]⟩
abbrev S32768x512 : Shape := ⟨2, ![32768, 512]⟩
abbrev S512x512 : Shape := ⟨2, ![512, 512]⟩
abbrev S512 : Shape := ⟨1, ![512]⟩
abbrev S512x1 : Shape := ⟨2, ![512, 1]⟩

abbrev nBuf : Space → Nat
  | .hbm => 25
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x8192x8x64, .f32⟩
  | .hbm, ⟨3, _⟩ => ⟨S4x8192x8x64, .f32⟩
  | .hbm, ⟨4, _⟩ => ⟨S4x8192x8x64, .f32⟩
  | .hbm, ⟨5, _⟩ => ⟨S1024x7144, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S32768x1024, .f32⟩
  | .hbm, ⟨11, _⟩ => ⟨S1x1024, .f32⟩
  | .hbm, ⟨12, _⟩ => ⟨S1024x3072, .f32⟩
  | .hbm, ⟨13, _⟩ => ⟨S1024x3072, .bf16⟩
  | .hbm, ⟨14, _⟩ => ⟨S512x1024, .bf16⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S32768x512, .f32⟩
  | .hbm, ⟨19, _⟩ => ⟨S32768x512, .bf16⟩
  | .hbm, ⟨20, _⟩ => ⟨S32768x512, .f32⟩
  | .hbm, ⟨21, _⟩ => ⟨S32768x512, .bf16⟩
  | .hbm, ⟨22, _⟩ => ⟨S32768x512, .f32⟩
  | .hbm, ⟨23, _⟩ => ⟨S32768x512, .bf16⟩
  | .hbm, ⟨24, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S1024x3072, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S4x8192x1024 : Shape := ⟨3, ![4, 8192, 1024]⟩
abbrev S1024 : Shape := ⟨1, ![1024]⟩
abbrev S4x8192x8x64 : Shape := ⟨4, ![4, 8192, 8, 64]⟩
abbrev S1024x7144 : Shape := ⟨2, ![1024, 7144]⟩
abbrev S512x1024 : Shape := ⟨2, ![512, 1024]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x7144 : Shape := ⟨3, ![4, 8192, 7144]⟩
abbrev S4x8192x256 : Shape := ⟨3, ![4, 8192, 256]⟩
abbrev S4x8192x128 : Shape := ⟨3, ![4, 8192, 128]⟩
abbrev S4x8192x32 : Shape := ⟨3, ![4, 8192, 32]⟩
abbrev S4x8192x512 : Shape := ⟨3, ![4, 8192, 512]⟩
abbrev S4x8192x64 : Shape := ⟨3, ![4, 8192, 64]⟩
abbrev S4x8192x8 : Shape := ⟨3, ![4, 8192, 8]⟩
abbrev S4x8192x3072 : Shape := ⟨3, ![4, 8192, 3072]⟩
abbrev S4x8192x3x1024 : Shape := ⟨4, ![4, 8192, 3, 1024]⟩
abbrev S4x8192x1x1024 : Shape := ⟨4, ![4, 8192, 1, 1024]⟩
abbrev S32768x1024 : Shape := ⟨2, ![32768, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x8192x8x64, .f32⟩
  | .hbm, ⟨3, _⟩ => ⟨S4x8192x8x64, .f32⟩
  | .hbm, ⟨4, _⟩ => ⟨S4x8192x8x64, .f32⟩
  | .hbm, ⟨5, _⟩ => ⟨S1024x7144, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S4x8192x7144, .f32⟩
  | .hbm, ⟨27, _⟩ => ⟨S4x8192x256, .f32⟩
  | .hbm, ⟨28, _⟩ => ⟨S4x8192x128, .f32⟩
  | .hbm, ⟨29, _⟩ => ⟨S4x8192x32, .f32⟩
  | .hbm, ⟨30, _⟩ => ⟨S4x8192x512, .f32⟩
  | .hbm, ⟨31, _⟩ => ⟨S4x8192x512, .f32⟩
  | .hbm, ⟨32, _⟩ => ⟨S4x8192x512, .f32⟩
  | .hbm, ⟨33, _⟩ => ⟨S4x8192x512, .f32⟩
  | .hbm, ⟨34, _⟩ => ⟨S4x8192x64, .f32⟩
  | .hbm, ⟨35, _⟩ => ⟨S4x8192x8, .f32⟩
  | .hbm, ⟨36, _⟩ => ⟨S4x8192x512, .f32⟩
  | .hbm, ⟨37, _⟩ => ⟨S4x8192x512, .f32⟩
  | .hbm, ⟨38, _⟩ => ⟨S4x8192x512, .f32⟩
  | .hbm, ⟨39, _⟩ => ⟨S4x8192x3072, .f32⟩
  | .hbm, ⟨40, _⟩ => ⟨S4x8192x3072, .f32⟩
  | .hbm, ⟨41, _⟩ => ⟨S4x8192x3072, .f32⟩
  | .hbm, ⟨42, _⟩ => ⟨S_, .f32⟩
  | .hbm, ⟨43, _⟩ => ⟨S4x8192x3072, .f32⟩
  | .hbm, ⟨44, _⟩ => ⟨S4x8192x3072, .f32⟩
  | .hbm, ⟨45, _⟩ => ⟨S_, .f32⟩
  | .hbm, ⟨46, _⟩ => ⟨S4x8192x3072, .f32⟩
  | .hbm, ⟨47, _⟩ => ⟨S4x8192x3072, .f32⟩
  | .hbm, ⟨48, _⟩ => ⟨S4x8192x3x1024, .f32⟩
  | .hbm, ⟨49, _⟩ => ⟨S4x8192x1x1024, .f32⟩
  | .hbm, ⟨50, _⟩ => ⟨S4x8192x1024, .f32⟩
  | .hbm, ⟨51, _⟩ => ⟨S4x8192x512, .f32⟩
  | .hbm, ⟨52, _⟩ => ⟨S4x8192x1024, .f32⟩
  | .hbm, ⟨53, _⟩ => ⟨S4x8192x1024, .f32⟩
  | .hbm, ⟨54, _⟩ => ⟨S4x8192x1x1024, .f32⟩
  | .hbm, ⟨55, _⟩ => ⟨S4x8192x1024, .f32⟩
  | .hbm, ⟨56, _⟩ => ⟨S4x8192x512, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x8192x1x1024, .f32⟩
  | .hbm, ⟨61, _⟩ => ⟨S4x8192x1024, .f32⟩
  | .hbm, ⟨62, _⟩ => ⟨S4x8192x512, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | .hbm, ⟨68, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Mlp.lean ====
abbrev S4x8192x1024 : Shape := ⟨3, ![4, 8192, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1x1024, .f32⟩
  | .hbm, ⟨8, _⟩ => ⟨S1024x4096, .bf16⟩
  | .hbm, ⟨9, _⟩ => ⟨S4096x1024, .bf16⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpReferenceIdeal.lean ====
abbrev S4x8192x1024 : Shape := ⟨3, ![4, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S32768x1024 : Shape := ⟨2, ![32768, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x8192x4096, .f32⟩
  | .hbm, ⟨22, _⟩ => ⟨S_, .f32⟩
  | .hbm, ⟨23, _⟩ => ⟨S4x8192x4096, .f32⟩
  | .hbm, ⟨24, _⟩ => ⟨S4x8192x4096, .f32⟩
  | .hbm, ⟨25, _⟩ => ⟨S4x8192x4096, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S4x8192x1, .f32⟩
  | .hbm, ⟨39, _⟩ => ⟨S4x8192x1024, .f32⟩
  | .hbm, ⟨40, _⟩ => ⟨S4x8192x1024, .f32⟩
  | .hbm, ⟨41, _⟩ => ⟨S1x1x1024, .f32⟩
  | .hbm, ⟨42, _⟩ => ⟨S4x8192x1024, .f32⟩
  | .hbm, ⟨43, _⟩ => ⟨S4x8192x1024, .f32⟩
  | .hbm, ⟨44, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Feed.lean ====
abbrev S4x8192x1024 : Shape := ⟨3, ![4, 8192, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1x1024, .f32⟩
  | .hbm, ⟨8, _⟩ => ⟨S1024x4096, .bf16⟩
  | .hbm, ⟨9, _⟩ => ⟨S4096x1024, .bf16⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FeedReferenceIdeal.lean ====
abbrev S4x8192x1024 : Shape := ⟨3, ![4, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S32768x1024 : Shape := ⟨2, ![32768, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x8192x4096, .f32⟩
  | .hbm, ⟨22, _⟩ => ⟨S_, .f32⟩
  | .hbm, ⟨23, _⟩ => ⟨S4x8192x4096, .f32⟩
  | .hbm, ⟨24, _⟩ => ⟨S4x8192x4096, .f32⟩
  | .hbm, ⟨25, _⟩ => ⟨S4x8192x4096, .f32⟩
  | .hbm, ⟨26, _⟩ => ⟨S4x8192x1024, .f32⟩
  | .hbm, ⟨27, _⟩ => ⟨S4x8192x1024, .f32⟩
  | .hbm, ⟨28, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Tail.lean ====
abbrev S4x8192x1024 : Shape := ⟨3, ![4, 8192, 1024]⟩
abbrev S1024 : Shape := ⟨1, ![1024]⟩
abbrev S1024x7144 : Shape := ⟨2, ![1024, 7144]⟩
abbrev S32768x1024 : Shape := ⟨2, ![32768, 1024]⟩
abbrev S1x1024 : Shape := ⟨2, ![1, 1024]⟩
abbrev S4x512x1024 : Shape := ⟨3, ![4, 512, 1024]⟩
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x7144, .f32⟩
  | .hbm, ⟨3, _⟩ => ⟨S32768x1024, .f32⟩
  | .hbm, ⟨4, _⟩ => ⟨S1x1024, .f32⟩
  | .hbm, ⟨5, _⟩ => ⟨S4x8192x1024, .f32⟩
  | .hbm, ⟨6, _⟩ => ⟨S4x512x1024, .f32⟩
  | .hbm, ⟨7, _⟩ => ⟨S2048x1024, .f32⟩
  | .hbm, ⟨8, _⟩ => ⟨S1024x1024, .f32⟩
  | .hbm, ⟨9, _⟩ => ⟨S1024x1024, .bf16⟩
  | .hbm, ⟨10, _⟩ => ⟨S2048x512, .f32⟩
  | .hbm, ⟨11, _⟩ => ⟨S2048x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== TailReferenceIdeal.lean ====
abbrev S4x8192x1024 : Shape := ⟨3, ![4, 8192, 1024]⟩
abbrev S1024 : Shape := ⟨1, ![1024]⟩
abbrev S1024x7144 : Shape := ⟨2, ![1024, 7144]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x7144 : Shape := ⟨3, ![4, 8192, 7144]⟩
abbrev S4x8192x256 : Shape := ⟨3, ![4, 8192, 256]⟩
abbrev S4x8192x128 : Shape := ⟨3, ![4, 8192, 128]⟩
abbrev S4x8192x32 : Shape := ⟨3, ![4, 8192, 32]⟩
abbrev S4x8192x512 : Shape := ⟨3, ![4, 8192, 512]⟩
abbrev S4x8192x64 : Shape := ⟨3, ![4, 8192, 64]⟩
abbrev S4x8192x8 : Shape := ⟨3, ![4, 8192, 8]⟩
abbrev S4x8192x3072 : Shape := ⟨3, ![4, 8192, 3072]⟩
abbrev S4x512x512 : Shape := ⟨3, ![4, 512, 512]⟩
abbrev S2048x512 : Shape := ⟨2, ![2048, 512]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x7144, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x7144, .f32⟩
  | .hbm, ⟨20, _⟩ => ⟨S4x8192x256, .f32⟩
  | .hbm, ⟨21, _⟩ => ⟨S4x8192x128, .f32⟩
  | .hbm, ⟨22, _⟩ => ⟨S4x8192x32, .f32⟩
  | .hbm, ⟨23, _⟩ => ⟨S4x8192x512, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S4x8192x64, .f32⟩
  | .hbm, ⟨28, _⟩ => ⟨S4x8192x8, .f32⟩
  | .hbm, ⟨29, _⟩ => ⟨S4x8192x512, .f32⟩
  | .hbm, ⟨30, _⟩ => ⟨S4x8192x512, .f32⟩
  | .hbm, ⟨31, _⟩ => ⟨S4x8192x512, .f32⟩
  | .hbm, ⟨32, _⟩ => ⟨S4x8192x3072, .f32⟩
  | .hbm, ⟨33, _⟩ => ⟨S4x512x512, .f32⟩
  | .hbm, ⟨34, _⟩ => ⟨S4x512x512, .f32⟩
  | .hbm, ⟨35, _⟩ => ⟨S2048x512, .f32⟩
  | .hbm, ⟨36, _⟩ => ⟨S2048x512, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Band.lean ====
abbrev S4x8192x1024 : Shape := ⟨3, ![4, 8192, 1024]⟩
abbrev S1024 : Shape := ⟨1, ![1024]⟩
abbrev S1024x7144 : Shape := ⟨2, ![1024, 7144]⟩
abbrev S32768x1024 : Shape := ⟨2, ![32768, 1024]⟩
abbrev S1x1024 : Shape := ⟨2, ![1, 1024]⟩
abbrev S1024x1536 : Shape := ⟨2, ![1024, 1536]⟩
abbrev S32768x512 : Shape := ⟨2, ![32768, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x1536 : Shape := ⟨2, ![512, 1536]⟩

abbrev nBuf : Space → Nat
  | .hbm => 10
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x7144, .f32⟩
  | .hbm, ⟨3, _⟩ => ⟨S32768x1024, .f32⟩
  | .hbm, ⟨4, _⟩ => ⟨S1x1024, .f32⟩
  | .hbm, ⟨5, _⟩ => ⟨S1024x1536, .f32⟩
  | .hbm, ⟨6, _⟩ => ⟨S1024x1536, .bf16⟩
  | .hbm, ⟨7, _⟩ => ⟨S32768x512, .bf16⟩
  | .hbm, ⟨8, _⟩ => ⟨S32768x512, .bf16⟩
  | .hbm, ⟨9, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BandReferenceIdeal.lean ====
abbrev S4x8192x1024 : Shape := ⟨3, ![4, 8192, 1024]⟩
abbrev S1024 : Shape := ⟨1, ![1024]⟩
abbrev S1024x7144 : Shape := ⟨2, ![1024, 7144]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x7144 : Shape := ⟨3, ![4, 8192, 7144]⟩
abbrev S4x8192x256 : Shape := ⟨3, ![4, 8192, 256]⟩
abbrev S4x8192x128 : Shape := ⟨3, ![4, 8192, 128]⟩
abbrev S4x8192x32 : Shape := ⟨3, ![4, 8192, 32]⟩
abbrev S4x8192x512 : Shape := ⟨3, ![4, 8192, 512]⟩
abbrev S4x8192x64 : Shape := ⟨3, ![4, 8192, 64]⟩
abbrev S4x8192x8 : Shape := ⟨3, ![4, 8192, 8]⟩
abbrev S4x8192x3072 : Shape := ⟨3, ![4, 8192, 3072]⟩
abbrev S32768x512 : Shape := ⟨2, ![32768, 512]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x7144, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x7144, .f32⟩
  | .hbm, ⟨20, _⟩ => ⟨S4x8192x256, .f32⟩
  | .hbm, ⟨21, _⟩ => ⟨S4x8192x128, .f32⟩
  | .hbm, ⟨22, _⟩ => ⟨S4x8192x32, .f32⟩
  | .hbm, ⟨23, _⟩ => ⟨S4x8192x512, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S4x8192x64, .f32⟩
  | .hbm, ⟨28, _⟩ => ⟨S4x8192x8, .f32⟩
  | .hbm, ⟨29, _⟩ => ⟨S4x8192x512, .f32⟩
  | .hbm, ⟨30, _⟩ => ⟨S4x8192x512, .f32⟩
  | .hbm, ⟨31, _⟩ => ⟨S4x8192x512, .f32⟩
  | .hbm, ⟨32, _⟩ => ⟨S4x8192x3072, .f32⟩
  | .hbm, ⟨33, _⟩ => ⟨S_, .f32⟩
  | .hbm, ⟨34, _⟩ => ⟨S4x8192x512, .f32⟩
  | .hbm, ⟨35, _⟩ => ⟨S4x8192x512, .f32⟩
  | .hbm, ⟨36, _⟩ => ⟨S32768x512, .f32⟩
  | .hbm, ⟨37, _⟩ => ⟨S32768x512, .bf16⟩
  | .hbm, ⟨38, _⟩ => ⟨S32768x512, .f32⟩
  | .hbm, ⟨39, _⟩ => ⟨S32768x512, .bf16⟩
  | .hbm, ⟨40, _⟩ => ⟨S32768x512, .f32⟩
  | .hbm, ⟨41, _⟩ => ⟨S32768x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Select.lean ====
abbrev S4x8192x1024 : Shape := ⟨3, ![4, 8192, 1024]⟩
abbrev S1024 : Shape := ⟨1, ![1024]⟩
abbrev S1024x7144 : Shape := ⟨2, ![1024, 7144]⟩
abbrev S32768x1024 : Shape := ⟨2, ![32768, 1024]⟩
abbrev S1x1024 : Shape := ⟨2, ![1, 1024]⟩
abbrev S1024x512 : Shape := ⟨2, ![1024, 512]⟩
abbrev S1024x64 : Shape := ⟨2, ![1024, 64]⟩
abbrev S_ : Shape := ⟨0, ![]⟩
abbrev S1024x8 : Shape := ⟨2, ![1024, 8]⟩
abbrev S1024x120 : Shape := ⟨2, ![1024, 120]⟩
abbrev S1024x2304 : Shape := ⟨2, ![1024, 2304]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x0 : Shape := ⟨2, ![8192, 0]⟩
abbrev S8192x128 : Shape := ⟨2, ![8192, 128]⟩
abbrev S32768x512 : Shape := ⟨2, ![32768, 512]⟩
abbrev S32768x128 : Shape := ⟨2, ![32768, 128]⟩
abbrev S32768x64 : Shape := ⟨2, ![32768, 64]⟩
abbrev S512x1024 : Shape := ⟨2, ![512, 1024]⟩
abbrev S512x128 : Shape := ⟨2, ![512, 128]⟩
abbrev S512x512 : Shape := ⟨2, ![512, 512]⟩
abbrev S512x64 : Shape := ⟨2, ![512, 64]⟩
abbrev S512 : Shape := ⟨1, ![512]⟩
abbrev S512x1 : Shape := ⟨2, ![512, 1]⟩
abbrev S512x2304 : Shape := ⟨2, ![512, 2304]⟩

abbrev nBuf : Space → Nat
  | .hbm => 85
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x7144, .f32⟩
  | .hbm, ⟨3, _⟩ => ⟨S32768x1024, .f32⟩
  | .hbm, ⟨4, _⟩ => ⟨S1x1024, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x64, .f32⟩
  | .hbm, ⟨10, _⟩ => ⟨S_, .f32⟩
  | .hbm, ⟨11, _⟩ => ⟨S1024x64, .f32⟩
  | .hbm, ⟨12, _⟩ => ⟨S1024x8, .f32⟩
  | .hbm, ⟨13, _⟩ => ⟨S_, .f32⟩
  | .hbm, ⟨14, _⟩ => ⟨S1024x120, .f32⟩
  | .hbm, ⟨15, _⟩ => ⟨S1024x2304, .f32⟩
  | .hbm, ⟨16, _⟩ => ⟨S1024x2304, .bf16⟩
  | .hbm, ⟨17, _⟩ => ⟨S8192, .i32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8192, .f32⟩
  | .hbm, ⟨27, _⟩ => ⟨S8192x1, .f32⟩
  | .hbm, ⟨28, _⟩ => ⟨S1x8, .f32⟩
  | .hbm, ⟨29, _⟩ => ⟨S8192x8, .f32⟩
  | .hbm, ⟨30, _⟩ => ⟨S8192x8, .f32⟩
  | .hbm, ⟨31, _⟩ => ⟨S8192x8, .f32⟩
  | .hbm, ⟨32, _⟩ => ⟨S8192x8, .f32⟩
  | .hbm, ⟨33, _⟩ => ⟨S8192x8, .f32⟩
  | .hbm, ⟨34, _⟩ => ⟨S_, .f32⟩
  | .hbm, ⟨35, _⟩ => ⟨S8192x48, .f32⟩
  | .hbm, ⟨36, _⟩ => ⟨S8192x64, .f32⟩
  | .hbm, ⟨37, _⟩ => ⟨S8192x8, .f32⟩
  | .hbm, ⟨38, _⟩ => ⟨S_, .f32⟩
  | .hbm, ⟨39, _⟩ => ⟨S8192x48, .f32⟩
  | .hbm, ⟨40, _⟩ => ⟨S8192x64, .f32⟩
  | .hbm, ⟨41, _⟩ => ⟨S_, .f32⟩
  | .hbm, ⟨42, _⟩ => ⟨S8192x0, .f32⟩
  | .hbm, ⟨43, _⟩ => ⟨S8192x128, .f32⟩
  | .hbm, ⟨44, _⟩ => ⟨S_, .f32⟩
  | .hbm, ⟨45, _⟩ => ⟨S8192x0, .f32⟩
  | .hbm, ⟨46, _⟩ => ⟨S8192x128, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S8192, .f32⟩
  | .hbm, ⟨56, _⟩ => ⟨S8192x1, .f32⟩
  | .hbm, ⟨57, _⟩ => ⟨S1x8, .f32⟩
  | .hbm, ⟨58, _⟩ => ⟨S8192x8, .f32⟩
  | .hbm, ⟨59, _⟩ => ⟨S8192x8, .f32⟩
  | .hbm, ⟨60, _⟩ => ⟨S8192x8, .f32⟩
  | .hbm, ⟨61, _⟩ => ⟨S8192x8, .f32⟩
  | .hbm, ⟨62, _⟩ => ⟨S8192x8, .f32⟩
  | .hbm, ⟨63, _⟩ => ⟨S_, .f32⟩
  | .hbm, ⟨64, _⟩ => ⟨S8192x48, .f32⟩
  | .hbm, ⟨65, _⟩ => ⟨S8192x64, .f32⟩
  | .hbm, ⟨66, _⟩ => ⟨S8192x8, .f32⟩
  | .hbm, ⟨67, _⟩ => ⟨S_, .f32⟩
  | .hbm, ⟨68, _⟩ => ⟨S8192x48, .f32⟩
  | .hbm, ⟨69, _⟩ => ⟨S8192x64, .f32⟩
  | .hbm, ⟨70, _⟩ => ⟨S_, .f32⟩
  | .hbm, ⟨71, _⟩ => ⟨S8192x64, .f32⟩
  | .hbm, ⟨72, _⟩ => ⟨S8192x128, .f32⟩
  | .hbm, ⟨73, _⟩ => ⟨S_, .f32⟩
  | .hbm, ⟨74, _⟩ => ⟨S8192x64, .f32⟩
  | .hbm, ⟨75, _⟩ => ⟨S8192x128, .f32⟩
  | .hbm, ⟨76, _⟩ => ⟨S32768x512, .bf16⟩
  | .hbm, ⟨77, _⟩ => ⟨S32768x512, .bf16⟩
  | .hbm, ⟨78, _⟩ => ⟨S32768x512, .bf16⟩
  | .hbm, ⟨79, _⟩ => ⟨S32768x512, .bf16⟩
  | .hbm, ⟨80, _⟩ => ⟨S32768x128, .bf16⟩
  | .hbm, ⟨81, _⟩ => ⟨S32768x128, .f32⟩
  | .hbm, ⟨82, _⟩ => ⟨S32768x512, .f32⟩
  | .hbm, ⟨83, _⟩ => ⟨S32768x512, .f32⟩
  | .hbm, ⟨84, _⟩ => ⟨S32768x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x128, .bf16⟩
  | .local _ .vmem, ⟨21, _⟩ => ⟨S512x128, .bf16⟩
  | .local _ .vmem, ⟨22, _⟩ => ⟨S512x128, .f32⟩
  | .local _ .vmem, ⟨23, _⟩ => ⟨S512x128, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x64, .f32⟩
  | .local _ .vmem, ⟨29, _⟩ => ⟨S512x64, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59_0 : Ref sig .tc := ⟨.hbm, 76, rfl⟩
abbrev main_v59_1 : Ref sig .tc := ⟨.hbm, 77, rfl⟩
abbrev main_v59_2 : Ref sig .tc := ⟨.hbm, 78, rfl⟩
abbrev main_v59_3 : Ref sig .tc := ⟨.hbm, 79, rfl⟩
abbrev main_v59_4 : Ref sig .tc := ⟨.hbm, 80, rfl⟩
abbrev main_v59_5 : Ref sig .tc := ⟨.hbm, 81, rfl⟩
abbrev main_v59_6 : Ref sig .tc := ⟨.hbm, 82, rfl⟩
abbrev main_v59_7 : Ref sig .tc := ⟨.hbm, 83, rfl⟩
abbrev main_v59_8 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== SelectReferenceIdeal.lean ====
abbrev S4x8192x1024 : Shape := ⟨3, ![4, 8192, 1024]⟩
abbrev S1024 : Shape := ⟨1, ![1024]⟩
abbrev S1024x7144 : Shape := ⟨2, ![1024, 7144]⟩
abbrev S8192 : Shape := ⟨1, ![8192]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x7144 : Shape := ⟨3, ![4, 8192, 7144]⟩
abbrev S4x8192x256 : Shape := ⟨3, ![4, 8192, 256]⟩
abbrev S4x8192x128 : Shape := ⟨3, ![4, 8192, 128]⟩
abbrev S4x8192x32 : Shape := ⟨3, ![4, 8192, 32]⟩
abbrev S4x8192x512 : Shape := ⟨3, ![4, 8192, 512]⟩
abbrev S4x8192x64 : Shape := ⟨3, ![4, 8192, 64]⟩
abbrev S4x8192x8 : Shape := ⟨3, ![4, 8192, 8]⟩
abbrev S4x8192x3072 : Shape := ⟨3, ![4, 8192, 3072]⟩
abbrev S4x8192x8x64 : Shape := ⟨4, ![4, 8192, 8, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S4x8192x8x8 : Shape := ⟨4, ![4, 8192, 8, 8]⟩
abbrev S1x8192x1x8 : Shape := ⟨4, ![1, 8192, 1, 8]⟩
abbrev S4x8192x8x16 : Shape := ⟨4, ![4, 8192, 8, 16]⟩
abbrev S4x8192x8x48 : Shape := ⟨4, ![4, 8192, 8, 48]⟩
abbrev S1x8192x8 : Shape := ⟨3, ![1, 8192, 8]⟩
abbrev S4x8192x16 : Shape := ⟨3, ![4, 8192, 16]⟩
abbrev S4x8192x48 : Shape := ⟨3, ![4, 8192, 48]⟩
abbrev S32768x512 : Shape := ⟨2, ![32768, 512]⟩
abbrev S32768x128 : Shape := ⟨2, ![32768, 128]⟩
abbrev S32768x64 : Shape := ⟨2, ![32768, 64]⟩

abbrev nBuf : Space → Nat
  | .hbm => 208
  | .vmem => 0
  | .smem => 0
  | _ => 0

abbrev hbmTy0_0 (i : Nat) : BufTy := match i % 128 with
  | 0 => ⟨S4x8192x1024, .f32⟩
  | 1 => ⟨S1024, .f32⟩
  | 2 => ⟨S1024x7144, .f32⟩
  | 3 => ⟨S8192, .i32⟩
  | 4 => ⟨S4x8192x1024, .f32⟩
  | 5 => ⟨S_, .f32⟩
  | 6 => ⟨S4x8192, .f32⟩
  | 7 => ⟨S4x8192x1, .f32⟩
  | 8 => ⟨S_, .f32⟩
  | 9 => ⟨S4x8192x1, .f32⟩
  | 10 => ⟨S4x8192x1, .f32⟩
  | 11 => ⟨S_, .f32⟩
  | 12 => ⟨S4x8192x1, .f32⟩
  | 13 => ⟨S4x8192x1, .f32⟩
  | 14 => ⟨S4x8192x1, .f32⟩
  | 15 => ⟨S4x8192x1024, .f32⟩
  | 16 => ⟨S4x8192x1024, .f32⟩
  | 17 => ⟨S1x1x1024, .f32⟩
  | 18 => ⟨S4x8192x1024, .f32⟩
  | 19 => ⟨S4x8192x1024, .f32⟩
  | 20 => ⟨S4x8192x7144, .f32⟩
  | 21 => ⟨S4x8192x256, .f32⟩
  | 22 => ⟨S4x8192x128, .f32⟩
  | 23 => ⟨S4x8192x32, .f32⟩
  | 24 => ⟨S4x8192x512, .f32⟩
  | 25 => ⟨S4x8192x512, .f32⟩
  | 26 => ⟨S4x8192x512, .f32⟩
  | 27 => ⟨S4x8192x512, .f32⟩
  | 28 => ⟨S4x8192x64, .f32⟩
  | 29 => ⟨S4x8192x8, .f32⟩
  | 30 => ⟨S4x8192x512, .f32⟩
  | 31 => ⟨S4x8192x512, .f32⟩
  | 32 => ⟨S4x8192x512, .f32⟩
  | 33 => ⟨S4x8192x3072, .f32⟩
  | 34 => ⟨S4x8192x8x64, .f32⟩
  | 35 => ⟨S8, .f32⟩
  | 36 => ⟨S8, .f32⟩
  | 37 => ⟨S_, .f32⟩
  | 38 => ⟨S8, .f32⟩
  | 39 => ⟨S8, .f32⟩
  | 40 => ⟨S_, .f32⟩
  | 41 => ⟨S8, .f32⟩
  | 42 => ⟨S8, .f32⟩
  | 43 => ⟨S8192, .f32⟩
  | 44 => ⟨S8192x1, .f32⟩
  | 45 => ⟨S1x8, .f32⟩
  | 46 => ⟨S8192x8, .f32⟩
  | 47 => ⟨S8192x8, .f32⟩
  | 48 => ⟨S8192x8, .f32⟩
  | 49 => ⟨S8192x1x8, .f32⟩
  | 50 => ⟨S8192x1x8, .f32⟩
  | 51 => ⟨S8192x1x8, .f32⟩
  | 52 => ⟨S4x8192x8x8, .f32⟩
  | 53 => ⟨S4x8192x8x8, .f32⟩
  | 54 => ⟨S1x8192x1x8, .f32⟩
  | 55 => ⟨S4x8192x8x8, .f32⟩
  | 56 => ⟨S4x8192x8x8, .f32⟩
  | 57 => ⟨S1x8192x1x8, .f32⟩
  | 58 => ⟨S4x8192x8x8, .f32⟩
  | 59 => ⟨S4x8192x8x8, .f32⟩
  | 60 => ⟨S4x8192x8x8, .f32⟩
  | 61 => ⟨S1x8192x1x8, .f32⟩
  | 62 => ⟨S4x8192x8x8, .f32⟩
  | 63 => ⟨S4x8192x8x8, .f32⟩
  | 64 => ⟨S1x8192x1x8, .f32⟩
  | 65 => ⟨S4x8192x8x8, .f32⟩
  | 66 => ⟨S4x8192x8x8, .f32⟩
  | 67 => ⟨S4x8192x8x8, .f32⟩
  | 68 => ⟨S4x8192x8x16, .f32⟩
  | 69 => ⟨S4x8192x8x48, .f32⟩
  | 70 => ⟨S4x8192x8x64, .f32⟩
  | 71 => ⟨S4x8192x8x64, .f32⟩
  | 72 => ⟨S8, .f32⟩
  | 73 => ⟨S8, .f32⟩
  | 74 => ⟨S_, .f32⟩
  | 75 => ⟨S8, .f32⟩
  | 76 => ⟨S8, .f32⟩
  | 77 => ⟨S_, .f32⟩
  | 78 => ⟨S8, .f32⟩
  | 79 => ⟨S8, .f32⟩
  | 80 => ⟨S8192, .f32⟩
  | 81 => ⟨S8192x1, .f32⟩
  | 82 => ⟨S1x8, .f32⟩
  | 83 => ⟨S8192x8, .f32⟩
  | 84 => ⟨S8192x8, .f32⟩
  | 85 => ⟨S8192x8, .f32⟩
  | 86 => ⟨S8192x1x8, .f32⟩
  | 87 => ⟨S8192x1x8, .f32⟩
  | 88 => ⟨S8192x1x8, .f32⟩
  | 89 => ⟨S4x8192x8x8, .f32⟩
  | 90 => ⟨S4x8192x8x8, .f32⟩
  | 91 => ⟨S1x8192x1x8, .f32⟩
  | 92 => ⟨S4x8192x8x8, .f32⟩
  | 93 => ⟨S4x8192x8x8, .f32⟩
  | 94 => ⟨S1x8192x1x8, .f32⟩
  | 95 => ⟨S4x8192x8x8, .f32⟩
  | 96 => ⟨S4x8192x8x8, .f32⟩
  | 97 => ⟨S4x8192x8x8, .f32⟩
  | 98 => ⟨S1x8192x1x8, .f32⟩
  | 99 => ⟨S4x8192x8x8, .f32⟩
  | 100 => ⟨S4x8192x8x8, .f32⟩
  | 101 => ⟨S1x8192x1x8, .f32⟩
  | 102 => ⟨S4x8192x8x8, .f32⟩
  | 103 => ⟨S4x8192x8x8, .f32⟩
  | 104 => ⟨S4x8192x8x8, .f32⟩
  | 105 => ⟨S4x8192x8x16, .f32⟩
  | 106 => ⟨S4x8192x8x48, .f32⟩
  | 107 => ⟨S4x8192x8x64, .f32⟩
  | 108 => ⟨S4x8192x8x64, .f32⟩
  | 109 => ⟨S4x8192x8x64, .f32⟩
  | 110 => ⟨S8, .f32⟩
  | 111 => ⟨S8, .f32⟩
  | 112 => ⟨S_, .f32⟩
  | 113 => ⟨S8, .f32⟩
  | 114 => ⟨S8, .f32⟩
  | 115 => ⟨S_, .f32⟩
  | 116 => ⟨S8, .f32⟩
  | 117 => ⟨S8, .f32⟩
  | 118 => ⟨S8192, .f32⟩
  | 119 => ⟨S8192x1, .f32⟩
  | 120 => ⟨S1x8, .f32⟩
  | 121 => ⟨S8192x8, .f32⟩
  | 122 => ⟨S8192x8, .f32⟩
  | 123 => ⟨S8192x8, .f32⟩
  | 124 => ⟨S8192x1x8, .f32⟩
  | 125 => ⟨S8192x1x8, .f32⟩
  | 126 => ⟨S8192x1x8, .f32⟩
  | 127 => ⟨S4x8192x8x8, .f32⟩
  | _ => ⟨S4x8192x1024, .f32⟩

abbrev hbmTy0_1 (i : Nat) : BufTy := match i % 128 with
  | 0 => ⟨S4x8192x8x8, .f32⟩
  | 1 => ⟨S1x8192x1x8, .f32⟩
  | 2 => ⟨S4x8192x8x8, .f32⟩
  | 3 => ⟨S4x8192x8x8, .f32⟩
  | 4 => ⟨S1x8192x1x8, .f32⟩
  | 5 => ⟨S4x8192x8x8, .f32⟩
  | 6 => ⟨S4x8192x8x8, .f32⟩
  | 7 => ⟨S4x8192x8x8, .f32⟩
  | 8 => ⟨S1x8192x1x8, .f32⟩
  | 9 => ⟨S4x8192x8x8, .f32⟩
  | 10 => ⟨S4x8192x8x8, .f32⟩
  | 11 => ⟨S1x8192x1x8, .f32⟩
  | 12 => ⟨S4x8192x8x8, .f32⟩
  | 13 => ⟨S4x8192x8x8, .f32⟩
  | 14 => ⟨S4x8192x8x8, .f32⟩
  | 15 => ⟨S4x8192x8x16, .f32⟩
  | 16 => ⟨S4x8192x8x48, .f32⟩
  | 17 => ⟨S4x8192x8x64, .f32⟩
  | 18 => ⟨S_, .f32⟩
  | 19 => ⟨S4x8192x8x64, .f32⟩
  | 20 => ⟨S4x8192x8x64, .f32⟩
  | 21 => ⟨S8, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S8192, .f32⟩
  | 30 => ⟨S8192x1, .f32⟩
  | 31 => ⟨S1x8, .f32⟩
  | 32 => ⟨S8192x8, .f32⟩
  | 33 => ⟨S8192x8, .f32⟩
  | 34 => ⟨S8192x8, .f32⟩
  | 35 => ⟨S8192x8, .f32⟩
  | 36 => ⟨S8192x8, .f32⟩
  | 37 => ⟨S4x8192x8, .f32⟩
  | 38 => ⟨S4x8192x8, .f32⟩
  | 39 => ⟨S1x8192x8, .f32⟩
  | 40 => ⟨S4x8192x8, .f32⟩
  | 41 => ⟨S4x8192x8, .f32⟩
  | 42 => ⟨S1x8192x8, .f32⟩
  | 43 => ⟨S4x8192x8, .f32⟩
  | 44 => ⟨S4x8192x8, .f32⟩
  | 45 => ⟨S4x8192x8, .f32⟩
  | 46 => ⟨S1x8192x8, .f32⟩
  | 47 => ⟨S4x8192x8, .f32⟩
  | 48 => ⟨S4x8192x8, .f32⟩
  | 49 => ⟨S1x8192x8, .f32⟩
  | 50 => ⟨S4x8192x8, .f32⟩
  | 51 => ⟨S4x8192x8, .f32⟩
  | 52 => ⟨S4x8192x8, .f32⟩
  | 53 => ⟨S4x8192x16, .f32⟩
  | 54 => ⟨S4x8192x48, .f32⟩
  | 55 => ⟨S4x8192x64, .f32⟩
  | 56 => ⟨S_, .f32⟩
  | 57 => ⟨S4x8192x8, .f32⟩
  | 58 => ⟨S4x8192x8, .f32⟩
  | 59 => ⟨S_, .f32⟩
  | 60 => ⟨S4x8192x8x64, .f32⟩
  | 61 => ⟨S4x8192x8x64, .f32⟩
  | 62 => ⟨S32768x512, .f32⟩
  | 63 => ⟨S32768x512, .bf16⟩
  | 64 => ⟨S32768x512, .f32⟩
  | 65 => ⟨S32768x512, .bf16⟩
  | 66 => ⟨S32768x512, .f32⟩
  | 67 => ⟨S32768x512, .bf16⟩
  | 68 => ⟨S32768x512, .f32⟩
  | 69 => ⟨S32768x512, .bf16⟩
  | 70 => ⟨S4x8192x128, .f32⟩
  | 71 => ⟨S32768x128, .f32⟩
  | 72 => ⟨S32768x128, .bf16⟩
  | 73 => ⟨S_, .i32⟩
  | 74 => ⟨S_, .f32⟩
  | 75 => ⟨S4x8192x128, .f32⟩
  | 76 => ⟨S32768x128, .f32⟩
  | 77 => ⟨S32768x512, .f32⟩
  | 78 => ⟨S32768x512, .f32⟩
  | 79 => ⟨S32768x64, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_cst_4 : Ref sig .tc := ⟨.hbm, 74, rfl⟩
abbrev main_v66 : Ref sig .tc := ⟨.hbm, 75, rfl⟩
abbrev main_v67 : Ref sig .tc := ⟨.hbm, 76, rfl⟩
abbrev main_cst_5 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_cst_6 : Ref sig .tc := ⟨.hbm, 112, rfl⟩
abbrev main_v102 : Ref sig .tc := ⟨.hbm, 113, rfl⟩
abbrev main_v103 : Ref sig .tc := ⟨.hbm, 114, rfl⟩
abbrev main_cst_7 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_cst_8 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_cst_9 : Ref sig .tc := ⟨.hbm, 151, rfl⟩
abbrev main_v138 : Ref sig .tc := ⟨.hbm, 152, rfl⟩
abbrev main_v139 : Ref sig .tc := ⟨.hbm, 153, rfl⟩
abbrev main_cst_10 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_cst_11 : Ref sig .tc := ⟨.hbm, 184, rfl⟩
abbrev main_v169 : Ref sig .tc := ⟨.hbm, 185, rfl⟩
abbrev main_v170 : Ref sig .tc := ⟨.hbm, 186, rfl⟩
abbrev main_cst_12 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_c : Ref sig .tc := ⟨.hbm, 201, rfl⟩
abbrev main_call0_v0 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩

abbrev nD : Nat := 1
abbrev τ : Topo := Topo.v7x

variable {F : FTy → Type} [FloatOps F]
-- ==== Proof.RowOps.lean ====
/-
  One row of the feed-forward part and one row of the merge of the mixers, over the extended reals.
-/
module

public import Idealize.ShloMosaic.Lib.IdealHost
public import Idealize.ShloMosaic.PureOps.Ideal

@[expose] public section

noncomputable section

namespace Cert.RowOps

open Idealize.ShloMosaic

/-- A row over the root of its mean square, times the gains. -/
def rms (x g : Fin 1024 → EReal) (j : Fin 1024) : EReal :=
  x j * Ideal.rsqrt (Ideal.div (∑ k, x k * x k) (Ideal.ofBits .f32 1149239296#32) + Ideal.ofBits .f32 897988541#32) * g j

/-- A hidden unit: the square of the positive part of the row's product with the unit's column. -/
def hidden (xn col : Fin 1024 → EReal) : EReal := max (∑ k, xn k * col k) 0 * max (∑ k, xn k * col k) 0

/-- The hidden units' contribution to one output. -/
def feed (xn : Fin 1024 → EReal) (up : Fin 1024 → Fin 4096 → EReal) (down : Fin 4096 → EReal) : EReal :=
  ∑ f : Fin 4096, hidden xn (fun k => up k f) * down f

/-- A row of the feed-forward part: the hidden units' contributions added to the row. -/
def feedRow (x g2 : Fin 1024 → EReal) (up : Fin 1024 → Fin 4096 → EReal) (down : Fin 4096 → Fin 1024 → EReal) (j : Fin 1024) : EReal :=
  x j + feed (rms x g2) up (fun f => down f j)

/-- A row of the feed-forward part with the final norm. -/
def mlpRow (x g2 gf : Fin 1024 → EReal) (up : Fin 1024 → Fin 4096 → EReal) (down : Fin 4096 → Fin 1024 → EReal) (j : Fin 1024) : EReal :=
  rms (feedRow x g2 up down) gf j

/-- A mixer's gated projection: the gate's logistic times the projected output. -/
def gated (xn gate : Fin 1024 → EReal) (o w : Fin 512 → EReal) : EReal := Ideal.logistic (∑ k, xn k * gate k) * ∑ k, o k * w k

/-- A row of the merge: the three gated projections added, taken through the output weights, added to the row. -/
def mergeRow (x g1 : Fin 1024 → EReal) (oa ob oc : Fin 512 → EReal) (ga gb gc : Fin 1024 → Fin 1024 → EReal)
    (wa wb wc : Fin 512 → Fin 1024 → EReal) (wout : Fin 1024 → Fin 1024 → EReal) (j : Fin 1024) : EReal :=
  x j + ∑ i : Fin 1024, (gated (rms x g1) (fun k => ga k i) oa (fun k => wa k i) + gated (rms x g1) (fun k => gb k i) ob (fun k => wb k i)
    + gated (rms x g1) (fun k => gc k i) oc (fun k => wc k i)) * wout i j

/-- Column `1024·b + f` of the hidden units. -/
def col (b : ℕ) (hb : b < 4) (f : Fin 1024) : Fin 4096 := ⟨1024 * b + f.val, by have := f.isLt; omega⟩

theorem b0 : 0 < 4 := by decide
theorem b1 : 1 < 4 := by decide
theorem b2 : 2 < 4 := by decide
theorem b3 : 3 < 4 := by decide

/-- A sum over 4096 is four sums over 1024, in order. -/
theorem sum_four (F : Fin 4096 → EReal) :
    ∑ f : Fin 4096, F f = ∑ f : Fin 1024, F (col 0 b0 f) + ∑ f : Fin 1024, F (col 1 b1 f) + ∑ f : Fin 1024, F (col 2 b2 f) + ∑ f : Fin 1024, F (col 3 b3 f) := by
  have h1 := Fin.sum_univ_add (a := 3072) (b := 1024) (fun f => F f)
  have h2 := Fin.sum_univ_add (a := 2048) (b := 1024) (fun f => F (Fin.castAdd 1024 f))
  have h3 := Fin.sum_univ_add (a := 1024) (b := 1024) (fun f => F (Fin.castAdd 1024 (Fin.castAdd 1024 f)))
  refine h1.trans ?_
  refine congrArg₂ (· + ·) (h2.trans (congrArg₂ (· + ·) (h3.trans (congrArg₂ (· + ·) ?_ ?_)) ?_)) ?_
  all_goals exact Finset.sum_congr rfl fun f _ => congrArg F (Fin.ext (by simp only [col, Fin.val_castAdd, Fin.val_natAdd] <;> omega))

end Cert.RowOps
-- ==== Proof.MergeBlock.lean ====
/-
  The merge call: what one grid point leaves in its block of 512 rows.
-/
module

public import proofs.«01_k».proof.Proof.Gen.MergeIdeal.Value
public import proofs.«01_k».proof.Proof.RowOps
public import Idealize.ShloMosaic.Lib.Pipeline.Value
public import Idealize.ShloMosaic.Lib.Pointwise

@[expose] public section

set_option maxRecDepth 16384
set_option maxHeartbeats 2000000

noncomputable section

namespace Cert.MergeIdeal.Rows

open Idealize.ShloMosaic Idealize.ShloMosaic.TcCoe Idealize.ShloMosaic.Tactic Idealize.SL.Sem
open Cert.MergeIdeal Cert.MergeIdeal.Gen Cert.RowOps

/-- The normed rows. -/
theorem normed_at (v0 : Vec Ideal S512x1024 .f32) (v2 : Vec Ideal S1x1024 .f32) (r : Fin 512) (j : Fin 1024) :
    k0_pay3 (F := Ideal) v0 v2 (ix2 r j) = rms (fun k => v0 (ix2 r k)) (fun k => v2 (ix2 0 k)) j := by
  pointwise [k0_pay3, k0_pay2]
  rfl

/-- The first mixer's gated projection. -/
theorem first_at (v0 : Vec Ideal S512x1024 .f32) (v2 : Vec Ideal S1x1024 .f32) (w : Vec Ideal S1024x1024 .bf16) (o : Vec Ideal S512x512 .bf16) (u : Vec Ideal S512x1024 .bf16)
    (r : Fin 512) (j : Fin 1024) :
    k0_pay4 (F := Ideal) v0 v2 w o u (ix2 r j)
      = gated (fun k => k0_pay3 (F := Ideal) v0 v2 (ix2 r k)) (fun k => w (ix2 k j)) (fun k => o (ix2 r k)) (fun k => u (ix2 k j)) := by
  pointwise [k0_pay4]
  rfl

/-- The second mixer's gate. -/
theorem gate_at (v0 : Vec Ideal S512x1024 .f32) (v2 : Vec Ideal S1x1024 .f32) (w : Vec Ideal S1024x1024 .bf16) (r : Fin 512) (j : Fin 1024) :
    k0_pay5 (F := Ideal) v0 v2 w (ix2 r j) = Ideal.logistic (∑ k, k0_pay3 (F := Ideal) v0 v2 (ix2 r k) * w (ix2 k j)) := by
  pointwise [k0_pay5]

/-- The block's result: the other two mixers, the output weights and the residual. -/
theorem last_at (v1 : FVec Ideal S512x1024 .f32) (v16 : FVec Ideal S512x1024 .bf16) (v28 v32 : FVec Ideal S512x1024 .f32) (v34 : FVec Ideal S512x512 .bf16)
    (v35 : Vec Ideal S512x1024 .bf16) (v40 : Vec Ideal S1024x1024 .bf16) (v44 : Vec Ideal S512x512 .bf16) (v46 : Vec Ideal S512x1024 .bf16) (v52 : Vec Ideal S1024x1024 .bf16)
    (r : Fin 512) (j : Fin 1024) :
    k0_pay1 (F := Ideal) v1 v16 v28 v32 v34 v35 v40 v44 v46 v52 (ix2 r j)
      = v1 (ix2 r j) + ∑ i : Fin 1024, (v28 (ix2 r i) + v32 (ix2 r i) * (∑ k : Fin 512, v34 (ix2 r k) * v35 (ix2 k i))
          + gated (fun k => v16 (ix2 r k)) (fun k => v40 (ix2 k i)) (fun k => v44 (ix2 r k)) (fun k => v46 (ix2 k i))) * v52 (ix2 i j) := by
  pointwise [k0_pay1]
  rfl

theorem hz : (![0, 0] : Fin 2 → ℕ) = fun _ => 0 := by
  funext a; match a with | ⟨0, _⟩ => rfl | ⟨1, _⟩ => rfl

/-- Column `1024·b + i` of the gates. -/
def gcol (b : ℕ) (hb : b < 3) (i : Fin 1024) : Fin 3072 := ⟨1024 * b + i.val, by have := i.isLt; omega⟩

theorem g0 : 0 < 3 := by decide
theorem g1 : 1 < 3 := by decide
theorem g2 : 2 < 3 := by decide

/-- A load of one mixer's gate columns. -/
theorem ld_gate (X : Vec Ideal S1024x3072 .bf16) (b : ℕ) (hb : b < 3) (off : Fin 2 → ℕ) (h : off = ![0, 1024 * b]) (inb : ∀ a, off a + S1024x1024.size a ≤ S1024x3072.size a) (k x : Fin 1024) :
    View.ld X (Rect.unit (s := S1024x3072) off S1024x1024.size inb) (ix2 k x) = X (ix2 k (gcol b hb x)) := by
  subst h
  refine congrArg X (funext fun a => Fin.ext ?_)
  match a with
  | ⟨0, _⟩ => show 0 + 1 * k.val = k.val; omega
  | ⟨1, _⟩ => show 1024 * b + 1 * x.val = 1024 * b + x.val; omega

/-- What a point leaves: each row's merge. -/
theorem out_at (x0 : Vec Ideal S512x1024 .f32) (x1 : Vec Ideal S1x1024 .f32) (x2 x3 x4 : Vec Ideal S512x512 .bf16) (x5 : Vec Ideal S1024x3072 .bf16) (x6 x7 x8 : Vec Ideal S512x1024 .bf16)
    (x9 : Vec Ideal S1024x1024 .bf16) (r : Fin 512) (j : Fin 1024) :
    out0_10 (F := Ideal) x0 x1 x2 x3 x4 x5 x6 x7 x8 x9 (ix2 r j)
      = mergeRow (fun k => x0 (ix2 r k)) (fun k => x1 (ix2 0 k)) (fun k => x2 (ix2 r k)) (fun k => x3 (ix2 r k)) (fun k => x4 (ix2 r k))
          (fun k i => x5 (ix2 k (gcol 0 g0 i))) (fun k i => x5 (ix2 k (gcol 1 g1 i))) (fun k i => x5 (ix2 k (gcol 2 g2 i)))
          (fun k i => x6 (ix2 k i)) (fun k i => x7 (ix2 k i)) (fun k i => x8 (ix2 k i)) (fun i j => x9 (ix2 i j)) j := by
  unfold out0_10
  refine (congrFun (View.canon_unit_zero hz _ _) (ix2 r j)).trans ?_
  rw [last_at]
  have h0 : ∀ x : Vec Ideal S512x1024 .f32, View.ld x r0_0 = x := fun x => View.ld_unit_zero hz _ _
  have h0' : ∀ x : Vec Ideal S512x1024 .bf16, View.ld x r0_0 = x := fun x => View.ld_unit_zero hz _ _
  have h1 : View.ld x1 r0_1 = x1 := View.ld_unit_zero hz _ _
  have h3 : ∀ x : Vec Ideal S512x512 .bf16, View.ld x r0_3 = x := fun x => View.ld_unit_zero hz _ _
  have h6 : View.ld x9 r0_6 = x9 := View.ld_unit_zero hz _ _
  rw [h0 x0, h0' x6, h0' x7, h0' x8, h1, h3 x2, h3 x3, h3 x4, h6]
  have hn : (fun k => k0_pay3 (F := Ideal) x0 x1 (ix2 r k)) = rms (fun k => x0 (ix2 r k)) (fun k => x1 (ix2 0 k)) := funext fun k => normed_at x0 x1 r k
  unfold mergeRow
  refine congrArg₂ (· + ·) (by pointwise [k0_pay2]) (Finset.sum_congr rfl fun i _ => congrArg (· * x9 (ix2 i j)) ?_)
  rw [first_at, gate_at, hn]
  refine congrArg₂ (· + ·) (congrArg₂ (· + ·) ?_ ?_) ?_
  · exact congrArg (fun q => gated _ q _ _) (funext fun k => ld_gate x5 0 g0 _ rfl _ k i)
  · refine congrArg₂ (fun p q => Ideal.logistic p * q) (Finset.sum_congr rfl fun k _ => congrArg₂ (· * ·) (congrFun hn k) (ld_gate x5 1 g1 _ rfl _ k i)) ?_
    exact Finset.sum_congr rfl fun k _ => congrArg (· * x7 (ix2 k i)) (by pointwise [k0_pay6])
  · exact congrArg (fun q => gated _ q _ _) (funext fun k => ld_gate x5 2 g2 _ rfl _ k i)

end Cert.MergeIdeal.Rows
-- ==== Proof.MergeIndex.lean ====
/-
  The merge's indices: a mixer's head and channel, and its gate's columns of the input weights.
-/
module

public import proofs.«01_k».proof.Proof.RowOps

@[expose] public section

noncomputable section

namespace Cert.RowOps

/-- The head and the channel of a mixer's column. -/
def hd (k : Fin 512) : Fin 8 := ⟨k.val / 64, by have := k.isLt; omega⟩
def ch (k : Fin 512) : Fin 64 := ⟨k.val % 64, Nat.mod_lt _ (by decide)⟩

/-- Column `i` of mixer `b`'s gate among the input weights' columns. -/
def wcol (b : ℕ) (hb : b < 3) (i : Fin 1024) : Fin 7144 := ⟨4072 + (1024 * b + i.val), by have := i.isLt; omega⟩

end Cert.RowOps
-- ==== Proof.RowBlocks.lean ====
/-
  Arrays of rows in blocks: the array of given blocks of 512 rows, and the arguments' reshapes read at a row.
-/
module

public import Idealize.ShloMosaic.Lib.Pipeline.Value
public import Idealize.ShloMosaic.Lib.Pointwise

@[expose] public section

noncomputable section

namespace Cert.RowOps

open Idealize.ShloMosaic Idealize.ShloMosaic.TcCoe Idealize.ShloMosaic.Tactic Idealize.SL.Sem

/-- A block of rows, and all rows. -/
abbrev Block : Shape := ⟨2, ![512, 1024]⟩
abbrev Rows : Shape := ⟨2, ![32768, 1024]⟩

/-- An index of a matrix from its two coordinates. -/
theorem idx_eq {n0 n1 : ℕ} (p : (⟨2, ![n0, n1]⟩ : Shape).Idx) (k : Fin n0) (l : Fin n1) (h0 : (p 0).val = k.val) (h1 : (p 1).val = l.val) : p = ix2 k l :=
  (eq_ix2 (n0 := n0) (n1 := n1) p).trans (congrArg₂ (ix2 (n0 := n0) (n1 := n1)) (Fin.ext h0) (Fin.ext h1))

section Spread

variable {F : FTy → Type} [FloatOps F] {N n w : ℕ} {e : EltTy} (hN : n ≤ 512 * N)

/-- The block that holds row `i`. -/
def pt (i : Fin n) : Fin N := ⟨i.val / 512, by have := i.isLt; omega⟩

/-- The array of given blocks. -/
def spread (B : Fin N → Vec F ⟨2, ![512, w]⟩ e) : Vec F ⟨2, ![n, w]⟩ e := fun i =>
  B (pt hN (i 0)) (ix2 ⟨(i 0).val % 512, Nat.mod_lt _ (by decide)⟩ (i 1))

/-- The array of given blocks at a block's element. -/
theorem spread_at (B : Fin N → Vec F ⟨2, ![512, w]⟩ e) (t : Fin N) (j : (⟨2, ![512, w]⟩ : Shape).Idx) (p : (⟨2, ![n, w]⟩ : Shape).Idx)
    (h0 : (p 0).val = 512 * t.val + (j 0).val) (h1 : (p 1).val = (j 1).val) :
    spread hN B p = B t j := by
  have hj : (j 0).val < 512 := (j 0).isLt
  unfold spread
  rw [show pt hN (p 0) = t from Fin.ext (by show (p 0).val / 512 = _; rw [h0]; omega)]
  exact congrArg (B t) (idx_eq (n0 := 512) (n1 := w) j _ _ (by show _ = (p 0).val % 512; rw [h0]; omega) h1.symm).symm

/-- Every index lies in its row's block. -/
theorem in_block (off size : Fin 2 → ℕ) (i : (⟨2, ![n, w]⟩ : Shape).Idx) (h : off 0 = 512 * (pt hN (i 0)).val ∧ off 1 = 0 ∧ size 0 = 512 ∧ size 1 = w) (a : Fin 2) :
    off a ≤ (i a).val ∧ (i a).val < off a + size a := by
  obtain ⟨h0, h1, s0, s1⟩ := h
  have hp : (pt hN (i 0)).val = (i 0).val / 512 := rfl
  have hw : (i 1).val < w := (i 1).isLt
  match a with
  | ⟨0, _⟩ => show off 0 ≤ (i 0).val ∧ (i 0).val < off 0 + size 0; omega
  | ⟨1, _⟩ => show off 1 ≤ (i 1).val ∧ (i 1).val < off 1 + size 1; omega

end Spread

/-- The batch and the position of a row. -/
def bat (r : Fin 32768) : Fin 4 := ⟨r.val / 8192, by have := r.isLt; omega⟩
def pos (r : Fin 32768) : Fin 8192 := ⟨r.val % 8192, Nat.mod_lt _ (by decide)⟩

/-- The rows, merged over the batches, at an index. -/
theorem rows_at (X : Vec Ideal ⟨3, ![4, 8192, 1024]⟩ .f32) (h : (⟨3, ![4, 8192, 1024]⟩ : Shape).ShapeCasts Rows) (r : Fin 32768) (k : Fin 1024) :
    shapeCast Rows X h (ix2 r k) = X (ix3 (bat r) (pos r) k) := by
  pointwise [bat, pos]

/-- The gains, as a matrix of one row, at an index. -/
theorem gains_at (X : Vec Ideal ⟨1, ![1024]⟩ .f32) (h : (⟨1, ![1024]⟩ : Shape).ShapeCasts ⟨2, ![1, 1024]⟩) (k : Fin 1024) :
    shapeCast ⟨2, ![1, 1024]⟩ X h (ix2 0 k) = X (ix1 k) := by
  pointwise []

end Cert.RowOps
-- ==== Proof.MergeArray.lean ====
/-
  The merge call's result array, row by row, from the arguments.
-/
module

public import proofs.«01_k».proof.Proof.MergeBlock
public import proofs.«01_k».proof.Proof.MergeIndex
public import proofs.«01_k».proof.Proof.RowBlocks
public import Idealize.ShloMosaic.Lib.StableHlo.Run

@[expose] public section

set_option maxRecDepth 16384
set_option maxHeartbeats 2000000

noncomputable section

namespace Cert.MergeIdeal.Rows

open Idealize.ShloMosaic Idealize.ShloMosaic.TcCoe Idealize.ShloMosaic.Tactic Idealize.SL.Sem Idealize.ShloMosaic.StableHlo
open Cert.MergeIdeal Cert.MergeIdeal.Gen Cert.RowOps
open Idealize.ShloMosaic.Pipeline (Dat)

/-- The blocks hold every row. -/
theorem rows_0 : 32768 ≤ 512 * grid0.N := by rw [N_0]

section Generic

variable {F : FTy → Type} [FloatOps F]
variable (m : (ℓ : Loc nD τ sig) → Buf (Elt F) ℓ)

/-- What point `t` leaves in its block. -/
def blockOut (c : Dev nD) (t : Fin grid0.N) : Vec F S512x1024 .f32 :=
  out0_10 (F := F) (iblk m c 0 t) (iblk m c 1 t) (iblk m c 2 t) (iblk m c 3 t) (iblk m c 4 t) (iblk m c 5 t) (iblk m c 6 t) (iblk m c 7 t) (iblk m c 8 t) (iblk m c 9 t)

/-- The result array. -/
def result (c : Dev nD) : Buf (Elt F) ((c : Thread nD τ).loc main_v14) := spread rows_0 (blockOut m c)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index10 : ∀ t : Fin grid0.N, win0_10.index t 0 = t.val ∧ win0_10.index t 1 = 0 := by decide +kernel

theorem rect_out : ∀ t : Fin grid0.N, win0_10.index t 0 * win0_10.size 0 = 512 * t.val ∧ win0_10.index t 1 * win0_10.size 1 = 0
    ∧ win0_10.xsize (grid0.coords t) 0 = 512 ∧ win0_10.xsize (grid0.coords t) 1 = 1024 := by decide +kernel

/-- The array of given blocks, read through a point's window, is the point's block. -/
theorem read_spread (B : Fin grid0.N → Vec F S512x1024 .f32) (t : Fin cfg0.N) :
    (cfg0.win 10).cut (grid0.coords t) (B t) = ((cfg0.win 10).blk t).view.read (Elt F) (spread rows_0 B) := by
  funext j
  rw [View.read_apply]
  exact (spread_at rows_0 B t j ((win0_10.rect t).idx j)
    (by show win0_10.index t 0 * 512 + 1 * (j 0).val = _; rw [(index10 t).1]; omega)
    (by show win0_10.index t 1 * 1024 + 1 * (j 1).val = _; rw [(index10 t).2]; omega)).symm

/-- Row `i` lies in its point's block. -/
theorem cover (i : S32768x1024.Idx) : i ∈ ((cfg0.win 10).blk (pt rows_0 (i 0))).view.set := by
  show i ∈ ((View.whole main_v14).slice (win0_10.rect (pt rows_0 (i 0)))).set
  rw [View.set_slice_whole, Rect.mem_set_unit]
  intro a
  have h0 : (i 0 : Nat) < 32768 := (i 0).isLt
  have h1 : (i 1 : Nat) < 1024 := (i 1).isLt
  obtain ⟨r0, r1, x0, x1⟩ := rect_out (pt rows_0 (i 0))
  have ht : (pt rows_0 (i 0)).val = (i 0).val / 512 := rfl
  match a with
  | ⟨0, _⟩ => show win0_10.index (pt rows_0 (i 0)) 0 * win0_10.size 0 ≤ (i 0 : Nat) ∧ (i 0 : Nat) < win0_10.index (pt rows_0 (i 0)) 0 * win0_10.size 0 + win0_10.xsize (grid0.coords (pt rows_0 (i 0))) 0
              rw [r0, x0, ht]; omega
  | ⟨1, _⟩ => show win0_10.index (pt rows_0 (i 0)) 1 * win0_10.size 1 ≤ (i 1 : Nat) ∧ (i 1 : Nat) < win0_10.index (pt rows_0 (i 0)) 1 * win0_10.size 1 + win0_10.xsize (grid0.coords (pt rows_0 (i 0))) 1
              rw [r1, x1]; omega

/-- The result array after the run. -/
theorem final (c : Dev nD) : (dats m 0 c).arrAt 10 cfg0.N = result m c :=
  (dats m 0 c).arrAt_eq_of_cover 10 (result m c) (fun t _ => (Value.flushed10 m c t).trans (read_spread (blockOut m c) t))
    fun i => ⟨pt rows_0 (i 0), flush0_10 _, cover i⟩

/-- The rows' block of point `t`. -/
theorem iblk0_at (c : Dev nD) (t : Fin cfg0.N) (i : Fin 512) (j : Fin 1024) (k : Fin 32768) (hk : k.val = 512 * t.val + i.val) :
    (iblk m c 0 t : Vec F S512x1024 .f32) (ix2 i j) = (V m c main_v0 : Vec F S32768x1024 .f32) (ix2 k j) := by
  unfold iblk
  rw [View.read_apply]
  exact congrArg (V m c main_v0 : Vec F S32768x1024 .f32) (idx_eq _ k j (by show win0_0.index t 0 * 512 + 1 * i.val = _; rw [(index0 t).1, hk]; omega)
    (by show win0_0.index t 1 * 1024 + 1 * j.val = _; rw [(index0 t).2]; omega))

/-- The gains' block: the whole array. -/
theorem iblk1_at (c : Dev nD) (t : Fin cfg0.N) (i : Fin 1) (j : Fin 1024) :
    (iblk m c 1 t : Vec F S1x1024 .f32) (ix2 i j) = (V m c main_v1 : Vec F S1x1024 .f32) (ix2 i j) := by
  unfold iblk
  rw [View.read_apply]
  exact congrArg (V m c main_v1 : Vec F S1x1024 .f32) (idx_eq _ i j (by show win0_1.index t 0 * 1 + 1 * i.val = _; rw [(index1 t).1]; omega)
    (by show win0_1.index t 1 * 1024 + 1 * j.val = _; rw [(index1 t).2]; omega))

/-- The first mixer's block of point `t`. -/
theorem iblk2_at (c : Dev nD) (t : Fin cfg0.N) (i : Fin 512) (j : Fin 512) (k : Fin 32768) (hk : k.val = 512 * t.val + i.val) :
    (iblk m c 2 t : Vec F S512x512 .bf16) (ix2 i j) = (V m c main_v9 : Vec F S32768x512 .bf16) (ix2 k j) := by
  unfold iblk
  rw [View.read_apply]
  exact congrArg (V m c main_v9 : Vec F S32768x512 .bf16) (idx_eq _ k j (by show win0_2.index t 0 * 512 + 1 * i.val = _; rw [(index2 t).1, hk]; omega)
    (by show win0_2.index t 1 * 512 + 1 * j.val = _; rw [(index2 t).2]; omega))

/-- The second mixer's block of point `t`. -/
theorem iblk3_at (c : Dev nD) (t : Fin cfg0.N) (i : Fin 512) (j : Fin 512) (k : Fin 32768) (hk : k.val = 512 * t.val + i.val) :
    (iblk m c 3 t : Vec F S512x512 .bf16) (ix2 i j) = (V m c main_v11 : Vec F S32768x512 .bf16) (ix2 k j) := by
  unfold iblk
  rw [View.read_apply]
  exact congrArg (V m c main_v11 : Vec F S32768x512 .bf16) (idx_eq _ k j (by show win0_3.index t 0 * 512 + 1 * i.val = _; rw [(index3 t).1, hk]; omega)
    (by show win0_3.index t 1 * 512 + 1 * j.val = _; rw [(index3 t).2]; omega))

/-- The third mixer's block of point `t`. -/
theorem iblk4_at (c : Dev nD) (t : Fin cfg0.N) (i : Fin 512) (j : Fin 512) (k : Fin 32768) (hk : k.val = 512 * t.val + i.val) :
    (iblk m c 4 t : Vec F S512x512 .bf16) (ix2 i j) = (V m c main_v13 : Vec F S32768x512 .bf16) (ix2 k j) := by
  unfold iblk
  rw [View.read_apply]
  exact congrArg (V m c main_v13 : Vec F S32768x512 .bf16) (idx_eq _ k j (by show win0_4.index t 0 * 512 + 1 * i.val = _; rw [(index4 t).1, hk]; omega)
    (by show win0_4.index t 1 * 512 + 1 * j.val = _; rw [(index4 t).2]; omega))

/-- The gates' block: the whole array. -/
theorem iblk5_at (c : Dev nD) (t : Fin cfg0.N) (i : Fin 1024) (j : Fin 3072) :
    (iblk m c 5 t : Vec F S1024x3072 .bf16) (ix2 i j) = (V m c main_v3 : Vec F S1024x3072 .bf16) (ix2 i j) := by
  unfold iblk
  rw [View.read_apply]
  exact congrArg (V m c main_v3 : Vec F S1024x3072 .bf16) (idx_eq _ i j (by show win0_5.index t 0 * 1024 + 1 * i.val = _; rw [(index5 t).1]; omega)
    (by show win0_5.index t 1 * 3072 + 1 * j.val = _; rw [(index5 t).2]; omega))

/-- The first projection's block: the whole array. -/
theorem iblk6_at (c : Dev nD) (t : Fin cfg0.N) (i : Fin 512) (j : Fin 1024) :
    (iblk m c 6 t : Vec F S512x1024 .bf16) (ix2 i j) = (V m c main_v4 : Vec F S512x1024 .bf16) (ix2 i j) := by
  unfold iblk
  rw [View.read_apply]
  exact congrArg (V m c main_v4 : Vec F S512x1024 .bf16) (idx_eq _ i j (by show win0_6.index t 0 * 512 + 1 * i.val = _; rw [(index6 t).1]; omega)
    (by show win0_6.index t 1 * 1024 + 1 * j.val = _; rw [(index6 t).2]; omega))

/-- The second projection's block: the whole array. -/
theorem iblk7_at (c : Dev nD) (t : Fin cfg0.N) (i : Fin 512) (j : Fin 1024) :
    (iblk m c 7 t : Vec F S512x1024 .bf16) (ix2 i j) = (V m c main_v5 : Vec F S512x1024 .bf16) (ix2 i j) := by
  unfold iblk
  rw [View.read_apply]
  exact congrArg (V m c main_v5 : Vec F S512x1024 .bf16) (idx_eq _ i j (by show win0_7.index t 0 * 512 + 1 * i.val = _; rw [(index7 t).1]; omega)
    (by show win0_7.index t 1 * 1024 + 1 * j.val = _; rw [(index7 t).2]; omega))

/-- The third projection's block: the whole array. -/
theorem iblk8_at (c : Dev nD) (t : Fin cfg0.N) (i : Fin 512) (j : Fin 1024) :
    (iblk m c 8 t : Vec F S512x1024 .bf16) (ix2 i j) = (V m c main_v6 : Vec F S512x1024 .bf16) (ix2 i j) := by
  unfold iblk
  rw [View.read_apply]
  exact congrArg (V m c main_v6 : Vec F S512x1024 .bf16) (idx_eq _ i j (by show win0_8.index t 0 * 512 + 1 * i.val = _; rw [(index8 t).1]; omega)
    (by show win0_8.index t 1 * 1024 + 1 * j.val = _; rw [(index8 t).2]; omega))

/-- The output weights' block: the whole array. -/
theorem iblk9_at (c : Dev nD) (t : Fin cfg0.N) (i : Fin 1024) (j : Fin 1024) :
    (iblk m c 9 t : Vec F S1024x1024 .bf16) (ix2 i j) = (V m c main_v7 : Vec F S1024x1024 .bf16) (ix2 i j) := by
  unfold iblk
  rw [View.read_apply]
  exact congrArg (V m c main_v7 : Vec F S1024x1024 .bf16) (idx_eq _ i j (by show win0_9.index t 0 * 1024 + 1 * i.val = _; rw [(index9 t).1]; omega)
    (by show win0_9.index t 1 * 1024 + 1 * j.val = _; rw [(index9 t).2]; omega))

/-- The arrays that the call receives, from the arguments. -/
theorem received (c : Dev nD) :
    V m c main_v0 = (fun i => shapeCast S32768x1024 (m (c, Proc.tc.devRef main_arg0) : Vec F S4x8192x1024 .f32) shapeCasts_S4x8192x1024_S32768x1024 i)
    ∧ V m c main_v1 = (fun i => shapeCast S1x1024 (m (c, Proc.tc.devRef main_arg1) : Vec F S1024 .f32) shapeCasts_S1024_S1x1024 i)
    ∧ V m c main_v3 = (truncf (F := F) .bf16 (extractStridedSlice S1024x3072 ![0, 4072] (m (c, Proc.tc.devRef main_arg5) : Vec F S1024x7144 .f32) slices_S1024x7144_S1024x3072_0_4072) bitsLt_bf16_f32)
    ∧ V m c main_v4 = (truncf (F := F) .bf16 (m (c, Proc.tc.devRef main_arg6) : Vec F S512x1024 .f32) bitsLt_bf16_f32)
    ∧ V m c main_v5 = (truncf (F := F) .bf16 (m (c, Proc.tc.devRef main_arg7) : Vec F S512x1024 .f32) bitsLt_bf16_f32)
    ∧ V m c main_v6 = (truncf (F := F) .bf16 (m (c, Proc.tc.devRef main_arg8) : Vec F S512x1024 .f32) bitsLt_bf16_f32)
    ∧ V m c main_v7 = (truncf (F := F) .bf16 (m (c, Proc.tc.devRef main_arg9) : Vec F S1024x1024 .f32) bitsLt_bf16_f32)
    ∧ V m c main_v9 = (truncf (F := F) .bf16 (fun i => shapeCast S32768x512 (m (c, Proc.tc.devRef main_arg2) : Vec F S4x8192x8x64 .f32) shapeCasts_S4x8192x8x64_S32768x512 i) bitsLt_bf16_f32)
    ∧ V m c main_v11 = (truncf (F := F) .bf16 (fun i => shapeCast S32768x512 (m (c, Proc.tc.devRef main_arg3) : Vec F S4x8192x8x64 .f32) shapeCasts_S4x8192x8x64_S32768x512 i) bitsLt_bf16_f32)
    ∧ V m c main_v13 = (truncf (F := F) .bf16 (fun i => shapeCast S32768x512 (m (c, Proc.tc.devRef main_arg4) : Vec F S4x8192x8x64 .f32) shapeCasts_S4x8192x8x64_S32768x512 i) bitsLt_bf16_f32) := by
  refine ⟨?_, ?_, ?_, ?_, ?_, ?_, ?_, ?_, ?_, ?_⟩
  all_goals
    show StableHlo.after _ _ _ = _
    simp only [hostOps0, List.flatten_cons, List.flatten_nil, List.append_nil, List.cons_append, List.nil_append]
    after_results_simp
    try rfl

end Generic

variable (m : (ℓ : Loc nD τ sig) → Buf (Elt Ideal) ℓ)

/-- A mixer's rows, merged over the batches and the heads, at an index. -/
theorem heads_at (X : Vec Ideal S4x8192x8x64 .f32) (r : Fin 32768) (k : Fin 512) :
    shapeCast S32768x512 X shapeCasts_S4x8192x8x64_S32768x512 (ix2 r k) = X (ix4 (bat r) (pos r) (hd k) (ch k)) := by
  pointwise [bat, pos, hd, ch]

/-- The gates' columns of the input weights, at an index. -/
theorem gates_at (X : Vec Ideal S1024x7144 .f32) (b : ℕ) (hb : b < 3) (k i : Fin 1024) :
    extractStridedSlice S1024x3072 ![0, 4072] X slices_S1024x7144_S1024x3072_0_4072 (ix2 k (gcol b hb i)) = X (ix2 k (wcol b hb i)) := by
  pointwise [gcol, wcol]

/-- The result array at an index, from the arguments. -/
theorem result_at (c : Dev nD) (r : Fin 32768) (j : Fin 1024) :
    result m c (ix2 r j)
      = mergeRow (fun k => (m (c, Proc.tc.devRef main_arg0) : Vec Ideal S4x8192x1024 .f32) (ix3 (bat r) (pos r) k))
          (fun k => (m (c, Proc.tc.devRef main_arg1) : Vec Ideal S1024 .f32) (ix1 k))
          (fun k => (m (c, Proc.tc.devRef main_arg2) : Vec Ideal S4x8192x8x64 .f32) (ix4 (bat r) (pos r) (hd k) (ch k)))
          (fun k => (m (c, Proc.tc.devRef main_arg3) : Vec Ideal S4x8192x8x64 .f32) (ix4 (bat r) (pos r) (hd k) (ch k)))
          (fun k => (m (c, Proc.tc.devRef main_arg4) : Vec Ideal S4x8192x8x64 .f32) (ix4 (bat r) (pos r) (hd k) (ch k)))
          (fun k i => (m (c, Proc.tc.devRef main_arg5) : Vec Ideal S1024x7144 .f32) (ix2 k (wcol 0 g0 i)))
          (fun k i => (m (c, Proc.tc.devRef main_arg5) : Vec Ideal S1024x7144 .f32) (ix2 k (wcol 1 g1 i)))
          (fun k i => (m (c, Proc.tc.devRef main_arg5) : Vec Ideal S1024x7144 .f32) (ix2 k (wcol 2 g2 i)))
          (fun k i => (m (c, Proc.tc.devRef main_arg6) : Vec Ideal S512x1024 .f32) (ix2 k i))
          (fun k i => (m (c, Proc.tc.devRef main_arg7) : Vec Ideal S512x1024 .f32) (ix2 k i))
          (fun k i => (m (c, Proc.tc.devRef main_arg8) : Vec Ideal S512x1024 .f32) (ix2 k i))
          (fun k i => (m (c, Proc.tc.devRef main_arg9) : Vec Ideal S1024x1024 .f32) (ix2 k i)) j := by
  obtain ⟨w0, w1, w3, w4, w5, w6, w7, w9, w11, w13⟩ := received m c
  show blockOut m c (pt rows_0 r) (ix2 ⟨r.val % 512, Nat.mod_lt _ (by decide)⟩ j) = _
  unfold blockOut
  refine (out_at _ _ _ _ _ _ _ _ _ _ _ j).trans ?_
  have e0 : (fun k => (iblk m c 0 (pt rows_0 r) : Vec Ideal S512x1024 .f32) (ix2 ⟨r.val % 512, Nat.mod_lt _ (by decide)⟩ k)) = fun k => (m (c, Proc.tc.devRef main_arg0) : Vec Ideal S4x8192x1024 .f32) (ix3 (bat r) (pos r) k) := by
    funext k
    refine (iblk0_at m c (pt rows_0 r) _ k r (by show r.val = 512 * (r.val / 512) + r.val % 512; omega)).trans ?_
    rw [w0]
    exact rows_at _ _ r k
  have e1 : (fun k => (iblk m c 1 (pt rows_0 r) : Vec Ideal S1x1024 .f32) (ix2 0 k)) = fun k => (m (c, Proc.tc.devRef main_arg1) : Vec Ideal S1024 .f32) (ix1 k) := by
    funext k
    refine (iblk1_at m c (pt rows_0 r) 0 k).trans ?_
    rw [w1]
    exact gains_at _ _ k
  have e2 : (fun k => (iblk m c 2 (pt rows_0 r) : Vec Ideal S512x512 .bf16) (ix2 ⟨r.val % 512, Nat.mod_lt _ (by decide)⟩ k)) = fun k => (m (c, Proc.tc.devRef main_arg2) : Vec Ideal S4x8192x8x64 .f32) (ix4 (bat r) (pos r) (hd k) (ch k)) := by
    funext k
    refine (iblk2_at m c (pt rows_0 r) _ k r (by show r.val = 512 * (r.val / 512) + r.val % 512; omega)).trans ?_
    rw [w9]
    exact heads_at _ r k
  have e3 : (fun k => (iblk m c 3 (pt rows_0 r) : Vec Ideal S512x512 .bf16) (ix2 ⟨r.val % 512, Nat.mod_lt _ (by decide)⟩ k)) = fun k => (m (c, Proc.tc.devRef main_arg3) : Vec Ideal S4x8192x8x64 .f32) (ix4 (bat r) (pos r) (hd k) (ch k)) := by
    funext k
    refine (iblk3_at m c (pt rows_0 r) _ k r (by show r.val = 512 * (r.val / 512) + r.val % 512; omega)).trans ?_
    rw [w11]
    exact heads_at _ r k
  have e4 : (fun k => (iblk m c 4 (pt rows_0 r) : Vec Ideal S512x512 .bf16) (ix2 ⟨r.val % 512, Nat.mod_lt _ (by decide)⟩ k)) = fun k => (m (c, Proc.tc.devRef main_arg4) : Vec Ideal S4x8192x8x64 .f32) (ix4 (bat r) (pos r) (hd k) (ch k)) := by
    funext k
    refine (iblk4_at m c (pt rows_0 r) _ k r (by show r.val = 512 * (r.val / 512) + r.val % 512; omega)).trans ?_
    rw [w13]
    exact heads_at _ r k
  have c0 : (fun k i => (iblk m c 5 (pt rows_0 r) : Vec Ideal S1024x3072 .bf16) (ix2 k (gcol 0 g0 i))) = fun k i => (m (c, Proc.tc.devRef main_arg5) : Vec Ideal S1024x7144 .f32) (ix2 k (wcol 0 g0 i)) := by
    funext k i
    refine (iblk5_at m c (pt rows_0 r) k _).trans ?_
    rw [w3]
    exact gates_at _ 0 g0 k i
  have c1 : (fun k i => (iblk m c 5 (pt rows_0 r) : Vec Ideal S1024x3072 .bf16) (ix2 k (gcol 1 g1 i))) = fun k i => (m (c, Proc.tc.devRef main_arg5) : Vec Ideal S1024x7144 .f32) (ix2 k (wcol 1 g1 i)) := by
    funext k i
    refine (iblk5_at m c (pt rows_0 r) k _).trans ?_
    rw [w3]
    exact gates_at _ 1 g1 k i
  have c2 : (fun k i => (iblk m c 5 (pt rows_0 r) : Vec Ideal S1024x3072 .bf16) (ix2 k (gcol 2 g2 i))) = fun k i => (m (c, Proc.tc.devRef main_arg5) : Vec Ideal S1024x7144 .f32) (ix2 k (wcol 2 g2 i)) := by
    funext k i
    refine (iblk5_at m c (pt rows_0 r) k _).trans ?_
    rw [w3]
    exact gates_at _ 2 g2 k i
  have e6 : (fun k i => (iblk m c 6 (pt rows_0 r) : Vec Ideal S512x1024 .bf16) (ix2 k i)) = fun k i => (m (c, Proc.tc.devRef main_arg6) : Vec Ideal S512x1024 .f32) (ix2 k i) := by
    funext k i
    refine (iblk6_at m c (pt rows_0 r) k i).trans ?_
    rw [w4]
    rfl
  have e7 : (fun k i => (iblk m c 7 (pt rows_0 r) : Vec Ideal S512x1024 .bf16) (ix2 k i)) = fun k i => (m (c, Proc.tc.devRef main_arg7) : Vec Ideal S512x1024 .f32) (ix2 k i) := by
    funext k i
    refine (iblk7_at m c (pt rows_0 r) k i).trans ?_
    rw [w5]
    rfl
  have e8 : (fun k i => (iblk m c 8 (pt rows_0 r) : Vec Ideal S512x1024 .bf16) (ix2 k i)) = fun k i => (m (c, Proc.tc.devRef main_arg8) : Vec Ideal S512x1024 .f32) (ix2 k i) := by
    funext k i
    refine (iblk8_at m c (pt rows_0 r) k i).trans ?_
    rw [w6]
    rfl
  have e9 : (fun k i => (iblk m c 9 (pt rows_0 r) : Vec Ideal S1024x1024 .bf16) (ix2 k i)) = fun k i => (m (c, Proc.tc.devRef main_arg9) : Vec Ideal S1024x1024 .f32) (ix2 k i) := by
    funext k i
    refine (iblk9_at m c (pt rows_0 r) k i).trans ?_
    rw [w7]
    rfl
  rw [e0, e1, e2, e3, e4, c0, c1, c2, e6, e7, e8, e9]

end Cert.MergeIdeal.Rows
-- ==== Proof.MergeRef.lean ====
/-
  The merge's reference, row by row, from the arguments.
-/
module

public import proofs.«01_k».proof.Proof.Gen.MergeReferenceIdeal.Run
public import proofs.«01_k».proof.Proof.MergeIndex
public import proofs.«01_k».proof.Proof.RowBlocks
public import Idealize.ShloMosaic.Lib.Pointwise

@[expose] public section

set_option maxRecDepth 16384
set_option maxHeartbeats 2000000

noncomputable section

namespace Cert.MergeReferenceIdeal.Ref

open Idealize.ShloMosaic Idealize.ShloMosaic.TcCoe Idealize.ShloMosaic.Tactic Idealize.SL.Sem
open Cert.MergeReferenceIdeal Cert.MergeReferenceIdeal.Gen Cert.RowOps

section Terms
variable {F : FTy → Type} [FloatOps F]

/-- The norm of each row, times the gains. -/
def norm (x : FVec F S4x8192x1024 .f32) (g : FVec F S1024 .f32) : FVec F S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))

/-- The three gates of each row. -/
def gates (h : FVec F S4x8192x1024 .f32) (w : FVec F S1024x7144 .f32) : FVec F S4x8192x3x1024 .f32 :=
  shapeCast S4x8192x3x1024 (Host.divf (broadcastInDim S4x8192x3072 ![] bcast_S_S4x8192x3072 (constant S_ .f32 0x3F800000#32)) (addf (broadcastInDim S4x8192x3072 ![] bcast_S_S4x8192x3072 (constant S_ .f32 0x3F800000#32)) (Host.exp (Host.negf (extractStridedSlice S4x8192x3072 ![0, 0, 4072] (Host.dotGeneral dot_S4x8192x1024_S1024x7144_S4x8192x7144_2_0_01_1_n_n none h w) slices_S4x8192x7144_S4x8192x3072_0_0_4072))))) shapeCasts_S4x8192x3072_S4x8192x3x1024

/-- A mixer's projected rows. -/
def proj (o : FVec F S4x8192x8x64 .f32) (w : FVec F S512x1024 .f32) : FVec F S4x8192x1024 .f32 :=
  Host.dotGeneral dot_S4x8192x512_S512x1024_S4x8192x1024_2_0_01_1_n_n none (shapeCast S4x8192x512 o shapeCasts_S4x8192x8x64_S4x8192x512) w

/-- The three gated projections added. -/
def mixed (g : FVec F S4x8192x3x1024 .f32) (a b c : FVec F S4x8192x1024 .f32) : FVec F S4x8192x1024 .f32 :=
  addf (addf (mulf (shapeCast S4x8192x1024 (extractStridedSlice S4x8192x1x1024 ![0, 0, 0, 0] g slices_S4x8192x3x1024_S4x8192x1x1024_0_0_0_0) shapeCasts_S4x8192x1x1024_S4x8192x1024) a)
    (mulf (shapeCast S4x8192x1024 (extractStridedSlice S4x8192x1x1024 ![0, 0, 1, 0] g slices_S4x8192x3x1024_S4x8192x1x1024_0_0_1_0) shapeCasts_S4x8192x1x1024_S4x8192x1024) b))
    (mulf (shapeCast S4x8192x1024 (extractStridedSlice S4x8192x1x1024 ![0, 0, 2, 0] g slices_S4x8192x3x1024_S4x8192x1x1024_0_0_2_0) shapeCasts_S4x8192x1x1024_S4x8192x1024) c)

/-- The rows with the merged mixers added. -/
def added (x y : FVec F S4x8192x1024 .f32) (w : FVec F S1024x1024 .f32) : FVec F S4x8192x1024 .f32 :=
  addf x (Host.dotGeneral dot_S4x8192x1024_S1024x1024_S4x8192x1024_2_0_01_1_n_n none y w)

/-- The whole reference. -/
def whole (x : FVec F S4x8192x1024 .f32) (g : FVec F S1024 .f32) (oa ob oc : FVec F S4x8192x8x64 .f32) (w : FVec F S1024x7144 .f32) (wa wb wc : FVec F S512x1024 .f32) (wout : FVec F S1024x1024 .f32) : FVec F S32768x1024 .f32 :=
  shapeCast S32768x1024 (added x (mixed (gates (norm x g) w) (proj oa wa) (proj ob wb) (proj oc wc)) wout) shapeCasts_S4x8192x1024_S32768x1024

variable (m : (ℓ : Loc nD τ sig) → Buf (Elt F) ℓ)

/-- The reference's result array from its arguments. -/
theorem res_eq (c : Dev nD) : Value.res_main_v53 m c
    = whole (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5))
        (m (c, Proc.tc.devRef main_arg6)) (m (c, Proc.tc.devRef main_arg7)) (m (c, Proc.tc.devRef main_arg8)) (m (c, Proc.tc.devRef main_arg9)) := by
  unfold Value.res_main_v53 whole added mixed gates proj norm
  rfl

end Terms

/-- A normed row. -/
theorem norm_at (x : FVec Ideal S4x8192x1024 .f32) (g : FVec Ideal S1024 .f32) (b : Fin 4) (s : Fin 8192) (j : Fin 1024) :
    norm (F := Ideal) x g (ix3 b s j) = rms (fun k => x (ix3 b s k)) (fun k => g (ix1 k)) j := by
  pointwise [norm]
  rfl

/-- A row's gate. -/
theorem gates_at (h : FVec Ideal S4x8192x1024 .f32) (w : FVec Ideal S1024x7144 .f32) (b : Fin 4) (s : Fin 8192) (n : ℕ) (hn : n < 3) (j : Fin 1024) :
    gates (F := Ideal) h w (ix4 b s ⟨n, hn⟩ j) = Ideal.logistic (∑ k, h (ix3 b s k) * w (ix2 k (wcol n hn j))) := by
  pointwise [gates]
  show _ = Ideal.div 1 (1 + Ideal.exp (-∑ k, h (ix3 b s k) * w (ix2 k (wcol n hn j))))
  refine congrArg (fun q => Ideal.div 1 (1 + Ideal.exp (-q))) (Finset.sum_congr rfl fun k _ => congrArg (fun q => h (ix3 b s k) * w (ix2 k q)) (Fin.ext ?_))
  show 4072 + (n * 1024 + j.val) = 4072 + (1024 * n + j.val)
  omega

/-- A projected row. -/
theorem proj_at (o : FVec Ideal S4x8192x8x64 .f32) (w : FVec Ideal S512x1024 .f32) (b : Fin 4) (s : Fin 8192) (j : Fin 1024) :
    proj (F := Ideal) o w (ix3 b s j) = ∑ k : Fin 512, o (ix4 b s (hd k) (ch k)) * w (ix2 k j) := by
  pointwise [proj, hd, ch]

/-- The three gated projections of a row. -/
theorem mixed_at (g : FVec Ideal S4x8192x3x1024 .f32) (x y z : FVec Ideal S4x8192x1024 .f32) (b : Fin 4) (s : Fin 8192) (j : Fin 1024) :
    mixed (F := Ideal) g x y z (ix3 b s j) = g (ix4 b s ⟨0, by decide⟩ j) * x (ix3 b s j) + g (ix4 b s ⟨1, by decide⟩ j) * y (ix3 b s j) + g (ix4 b s ⟨2, by decide⟩ j) * z (ix3 b s j) := by
  pointwise [mixed]

/-- A row with the merged mixers added. -/
theorem added_at (x y : FVec Ideal S4x8192x1024 .f32) (w : FVec Ideal S1024x1024 .f32) (b : Fin 4) (s : Fin 8192) (j : Fin 1024) :
    added (F := Ideal) x y w (ix3 b s j) = x (ix3 b s j) + ∑ i : Fin 1024, y (ix3 b s i) * w (ix2 i j) := by
  pointwise [added]

/-- The reference at an index. -/
theorem ref_at (x : FVec Ideal S4x8192x1024 .f32) (g : FVec Ideal S1024 .f32) (oa ob oc : FVec Ideal S4x8192x8x64 .f32) (w : FVec Ideal S1024x7144 .f32) (wa wb wc : FVec Ideal S512x1024 .f32) (wout : FVec Ideal S1024x1024 .f32)
    (r : Fin 32768) (j : Fin 1024) :
    whole (F := Ideal) x g oa ob oc w wa wb wc wout (ix2 r j)
      = mergeRow (fun k => x (ix3 (bat r) (pos r) k)) (fun k => g (ix1 k)) (fun k => oa (ix4 (bat r) (pos r) (hd k) (ch k))) (fun k => ob (ix4 (bat r) (pos r) (hd k) (ch k))) (fun k => oc (ix4 (bat r) (pos r) (hd k) (ch k)))
          (fun k i => w (ix2 k (wcol 0 (by decide) i))) (fun k i => w (ix2 k (wcol 1 (by decide) i))) (fun k i => w (ix2 k (wcol 2 (by decide) i)))
          (fun k i => wa (ix2 k i)) (fun k i => wb (ix2 k i)) (fun k i => wc (ix2 k i)) (fun k i => wout (ix2 k i)) j := by
  have hn : ∀ k, norm (F := Ideal) x g (ix3 (bat r) (pos r) k) = rms (fun k => x (ix3 (bat r) (pos r) k)) (fun k => g (ix1 k)) k := fun k => norm_at x g (bat r) (pos r) k
  refine (rows_at _ _ r j).trans ((added_at _ _ _ (bat r) (pos r) j).trans ?_)
  unfold mergeRow
  refine congrArg (x (ix3 (bat r) (pos r) j) + ·) (Finset.sum_congr rfl fun i _ => congrArg (· * wout (ix2 i j)) ?_)
  rw [mixed_at, gates_at, gates_at, gates_at, proj_at, proj_at, proj_at]
  simp only [hn]
  rfl

end Cert.MergeReferenceIdeal.Ref
-- ==== Proof.MlpBlock.lean ====
/-
  The feed-forward call: what one grid point leaves in its block of 512 rows.
-/
module

public import proofs.«01_k».proof.Proof.Gen.MlpIdeal.Value
public import proofs.«01_k».proof.Proof.RowOps
public import Idealize.ShloMosaic.Lib.Pipeline.Value
public import Idealize.ShloMosaic.Lib.Pointwise

@[expose] public section

set_option maxRecDepth 16384
set_option maxHeartbeats 2000000

noncomputable section

namespace Cert.MlpIdeal.Rows

open Idealize.ShloMosaic Idealize.ShloMosaic.TcCoe Idealize.ShloMosaic.Tactic Idealize.SL.Sem
open Cert.MlpIdeal Cert.MlpIdeal.Gen Cert.RowOps

/-- The normed rows. -/
theorem normed_at (v0 : Vec Ideal S512x1024 .f32) (v2 : Vec Ideal S1x1024 .f32) (r : Fin 512) (j : Fin 1024) :
    k0_pay2 (F := Ideal) v0 v2 (ix2 r j) = rms (fun k => v0 (ix2 r k)) (fun k => v2 (ix2 0 k)) j := by
  pointwise [k0_pay2, k0_pay1]
  rfl

/-- The first 1024 hidden units' contribution. -/
theorem first_at (v0 : Vec Ideal S512x1024 .f32) (v2 : Vec Ideal S1x1024 .f32) (w u : Vec Ideal S1024x1024 .bf16) (r : Fin 512) (j : Fin 1024) :
    k0_pay3 (F := Ideal) v0 v2 w u (ix2 r j) = ∑ x : Fin 1024, hidden (fun k => k0_pay2 (F := Ideal) v0 v2 (ix2 r k)) (fun k => w (ix2 k x)) * u (ix2 x j) := by
  pointwise [k0_pay3]
  rfl

/-- The second 1024 hidden units. -/
theorem second_at (v0 : Vec Ideal S512x1024 .f32) (v2 : Vec Ideal S1x1024 .f32) (w : Vec Ideal S1024x1024 .bf16) (r : Fin 512) (x : Fin 1024) :
    k0_pay4 (F := Ideal) v0 v2 w (ix2 r x) = hidden (fun k => k0_pay2 (F := Ideal) v0 v2 (ix2 r k)) (fun k => w (ix2 k x)) := by
  pointwise [k0_pay4]
  rfl

/-- The block's result: the rest of the hidden units, the residual and the final norm. -/
theorem last_at (v1 : FVec Ideal S512x1024 .f32) (v16 : FVec Ideal S512x1024 .bf16) (v28 : FVec Ideal S512x1024 .f32) (v35 : FVec Ideal S512x1024 .bf16)
    (v37 : FVec Ideal S1024x1024 .bf16) (v40 v47 v51 v58 : Vec Ideal S1024x1024 .bf16) (v63 : Vec Ideal S1x1024 .f32) (r : Fin 512) (j : Fin 1024) :
    k0_pay6 (F := Ideal) v1 v16 v28 v35 v37 v40 v47 v51 v58 v63 (ix2 r j)
      = rms (fun i => v1 (ix2 r i) + (v28 (ix2 r i) + ∑ x : Fin 1024, v35 (ix2 r x) * v37 (ix2 x i)
          + ∑ x : Fin 1024, hidden (fun k => v16 (ix2 r k)) (fun k => v40 (ix2 k x)) * v47 (ix2 x i)
          + ∑ x : Fin 1024, hidden (fun k => v16 (ix2 r k)) (fun k => v51 (ix2 k x)) * v58 (ix2 x i))) (fun k => v63 (ix2 0 k)) j := by
  pointwise [k0_pay6]
  rfl

theorem hz : (![0, 0] : Fin 2 → ℕ) = fun _ => 0 := by
  funext a; match a with | ⟨0, _⟩ => rfl | ⟨1, _⟩ => rfl

/-- A load of 1024 columns of the first weight. -/
theorem ld_up (X : Vec Ideal S1024x4096 .bf16) (b : ℕ) (hb : b < 4) (off : Fin 2 → ℕ) (h : off = ![0, 1024 * b]) (inb : ∀ a, off a + S1024x1024.size a ≤ S1024x4096.size a) (k x : Fin 1024) :
    View.ld X (Rect.unit (s := S1024x4096) off S1024x1024.size inb) (ix2 k x) = X (ix2 k (col b hb x)) := by
  subst h
  refine congrArg X (funext fun a => Fin.ext ?_)
  match a with
  | ⟨0, _⟩ => show 0 + 1 * k.val = k.val; omega
  | ⟨1, _⟩ => show 1024 * b + 1 * x.val = 1024 * b + x.val; omega

/-- A load of 1024 rows of the second weight. -/
theorem ld_down (X : Vec Ideal S4096x1024 .bf16) (b : ℕ) (hb : b < 4) (off : Fin 2 → ℕ) (h : off = ![1024 * b, 0]) (inb : ∀ a, off a + S1024x1024.size a ≤ S4096x1024.size a) (x i : Fin 1024) :
    View.ld X (Rect.unit (s := S4096x1024) off S1024x1024.size inb) (ix2 x i) = X (ix2 (col b hb x) i) := by
  subst h
  refine congrArg X (funext fun a => Fin.ext ?_)
  match a with
  | ⟨0, _⟩ => show 1024 * b + 1 * x.val = 1024 * b + x.val; omega
  | ⟨1, _⟩ => show 0 + 1 * i.val = i.val; omega

/-- The four chunks of hidden units, added in order, are the sum over all hidden units. -/
theorem chunks_at (x0 : Vec Ideal S512x1024 .f32) (x1 : Vec Ideal S1x1024 .f32) (x2 : Vec Ideal S1024x4096 .bf16) (x3 : Vec Ideal S4096x1024 .bf16) (r : Fin 512) (i : Fin 1024) :
    k0_pay3 (F := Ideal) x0 x1 (View.ld x2 r0_2) (View.ld x3 r0_3) (ix2 r i)
        + ∑ x : Fin 1024, k0_pay4 (F := Ideal) x0 x1 (View.ld x2 r0_4) (ix2 r x) * k0_pay5 (F := Ideal) (View.ld x3 r0_5) (ix2 x i)
        + ∑ x : Fin 1024, hidden (fun k => k0_pay2 (F := Ideal) x0 x1 (ix2 r k)) (fun k => (View.ld x2 r0_6 : Vec Ideal S1024x1024 .bf16) (ix2 k x)) * (View.ld x3 r0_7 : Vec Ideal S1024x1024 .bf16) (ix2 x i)
        + ∑ x : Fin 1024, hidden (fun k => k0_pay2 (F := Ideal) x0 x1 (ix2 r k)) (fun k => (View.ld x2 r0_8 : Vec Ideal S1024x1024 .bf16) (ix2 k x)) * (View.ld x3 r0_9 : Vec Ideal S1024x1024 .bf16) (ix2 x i)
      = feed (rms (fun k => x0 (ix2 r k)) (fun k => x1 (ix2 0 k))) (fun k f => x2 (ix2 k f)) (fun f => x3 (ix2 f i)) := by
  have hn : (fun k => k0_pay2 (F := Ideal) x0 x1 (ix2 r k)) = rms (fun k => x0 (ix2 r k)) (fun k => x1 (ix2 0 k)) := funext fun k => normed_at x0 x1 r k
  have e5 : ∀ (v : Vec Ideal S1024x1024 .bf16) (x : Fin 1024), k0_pay5 (F := Ideal) v (ix2 x i) = v (ix2 x i) := fun v x => by pointwise [k0_pay5]
  unfold feed
  rw [sum_four, first_at, hn]
  refine congrArg₂ (· + ·) (congrArg₂ (· + ·) (congrArg₂ (· + ·) ?_ ?_) ?_) ?_
  · refine Finset.sum_congr rfl fun x _ => congrArg₂ (· * ·) (congrArg (hidden _) (funext fun k => ?_)) ?_
    · exact ld_up x2 0 b0 _ rfl _ k x
    · exact ld_down x3 0 b0 _ rfl _ x i
  · refine Finset.sum_congr rfl fun x _ => congrArg₂ (· * ·) ?_ ?_
    · rw [second_at, hn]
      exact congrArg (hidden _) (funext fun k => ld_up x2 1 b1 _ rfl _ k x)
    · rw [e5]
      exact ld_down x3 1 b1 _ rfl _ x i
  · refine Finset.sum_congr rfl fun x _ => congrArg₂ (· * ·) (congrArg (hidden _) (funext fun k => ?_)) ?_
    · exact ld_up x2 2 b2 _ rfl _ k x
    · exact ld_down x3 2 b2 _ rfl _ x i
  · refine Finset.sum_congr rfl fun x _ => congrArg₂ (· * ·) (congrArg (hidden _) (funext fun k => ?_)) ?_
    · exact ld_up x2 3 b3 _ rfl _ k x
    · exact ld_down x3 3 b3 _ rfl _ x i

/-- What a point leaves: each row's feed-forward part. -/
theorem out_at (x0 : Vec Ideal S512x1024 .f32) (x1 : Vec Ideal S1x1024 .f32) (x2 : Vec Ideal S1024x4096 .bf16) (x3 : Vec Ideal S4096x1024 .bf16) (x4 : Vec Ideal S1x1024 .f32)
    (r : Fin 512) (j : Fin 1024) :
    out0_5 (F := Ideal) x0 x1 x2 x3 x4 (ix2 r j)
      = mlpRow (fun k => x0 (ix2 r k)) (fun k => x1 (ix2 0 k)) (fun k => x4 (ix2 0 k)) (fun k f => x2 (ix2 k f)) (fun f i => x3 (ix2 f i)) j := by
  unfold out0_5
  refine (congrFun (View.canon_unit_zero hz _ _) (ix2 r j)).trans ?_
  rw [last_at]
  have h0 : View.ld x0 r0_0 = x0 := View.ld_unit_zero hz _ _
  have h1 : View.ld x1 r0_1 = x1 := View.ld_unit_zero hz _ _
  have h4 : View.ld x4 r0_1 = x4 := View.ld_unit_zero hz _ _
  rw [h0, h1, h4]
  exact congrArg (fun q => rms q (fun k => x4 (ix2 0 k)) j) (funext fun i => congrArg₂ (· + ·) (by pointwise [k0_pay1]) (chunks_at x0 x1 x2 x3 r i))

end Cert.MlpIdeal.Rows
-- ==== Proof.MlpArray.lean ====
/-
  The feed-forward call's result array, row by row, from the arguments.
-/
module

public import proofs.«01_k».proof.Proof.MlpBlock
public import proofs.«01_k».proof.Proof.RowBlocks
public import Idealize.ShloMosaic.Lib.StableHlo.Run

@[expose] public section

set_option maxRecDepth 16384
set_option maxHeartbeats 2000000

noncomputable section

namespace Cert.MlpIdeal.Rows

open Idealize.ShloMosaic Idealize.ShloMosaic.TcCoe Idealize.ShloMosaic.Tactic Idealize.SL.Sem Idealize.ShloMosaic.StableHlo
open Cert.MlpIdeal Cert.MlpIdeal.Gen Cert.RowOps
open Idealize.ShloMosaic.Pipeline (Dat)

/-- The blocks hold every row. -/
theorem rows_0 : 32768 ≤ 512 * grid0.N := by rw [N_0]

section Generic

variable {F : FTy → Type} [FloatOps F]
variable (m : (ℓ : Loc nD τ sig) → Buf (Elt F) ℓ)

/-- What point `t` leaves in its block. -/
def blockOut (c : Dev nD) (t : Fin grid0.N) : Vec F S512x1024 .f32 :=
  out0_5 (F := F) (iblk m c 0 t) (iblk m c 1 t) (iblk m c 2 t) (iblk m c 3 t) (iblk m c 4 t)

/-- The result array. -/
def result (c : Dev nD) : Buf (Elt F) ((c : Thread nD τ).loc main_v5) := spread rows_0 (blockOut m c)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel

theorem rect_out : ∀ t : Fin grid0.N, win0_5.index t 0 * win0_5.size 0 = 512 * t.val ∧ win0_5.index t 1 * win0_5.size 1 = 0
    ∧ win0_5.xsize (grid0.coords t) 0 = 512 ∧ win0_5.xsize (grid0.coords t) 1 = 1024 := by decide +kernel

/-- The array of given blocks, read through a point's window, is the point's block. -/
theorem read_spread (B : Fin grid0.N → Vec F S512x1024 .f32) (t : Fin cfg0.N) :
    (cfg0.win 5).cut (grid0.coords t) (B t) = ((cfg0.win 5).blk t).view.read (Elt F) (spread rows_0 B) := by
  funext j
  rw [View.read_apply]
  exact (spread_at rows_0 B t j ((win0_5.rect t).idx j)
    (by show win0_5.index t 0 * 512 + 1 * (j 0).val = _; rw [(index5 t).1]; omega)
    (by show win0_5.index t 1 * 1024 + 1 * (j 1).val = _; rw [(index5 t).2]; omega)).symm

/-- Row `i` lies in its point's block. -/
theorem cover (i : S32768x1024.Idx) : i ∈ ((cfg0.win 5).blk (pt rows_0 (i 0))).view.set := by
  show i ∈ ((View.whole main_v5).slice (win0_5.rect (pt rows_0 (i 0)))).set
  rw [View.set_slice_whole, Rect.mem_set_unit]
  intro a
  have h0 : (i 0 : Nat) < 32768 := (i 0).isLt
  have h1 : (i 1 : Nat) < 1024 := (i 1).isLt
  obtain ⟨r0, r1, x0, x1⟩ := rect_out (pt rows_0 (i 0))
  have ht : (pt rows_0 (i 0)).val = (i 0).val / 512 := rfl
  match a with
  | ⟨0, _⟩ => show win0_5.index (pt rows_0 (i 0)) 0 * win0_5.size 0 ≤ (i 0 : Nat) ∧ (i 0 : Nat) < win0_5.index (pt rows_0 (i 0)) 0 * win0_5.size 0 + win0_5.xsize (grid0.coords (pt rows_0 (i 0))) 0
              rw [r0, x0, ht]; omega
  | ⟨1, _⟩ => show win0_5.index (pt rows_0 (i 0)) 1 * win0_5.size 1 ≤ (i 1 : Nat) ∧ (i 1 : Nat) < win0_5.index (pt rows_0 (i 0)) 1 * win0_5.size 1 + win0_5.xsize (grid0.coords (pt rows_0 (i 0))) 1
              rw [r1, x1]; omega

/-- The result array after the run. -/
theorem final (c : Dev nD) : (dats m 0 c).arrAt 5 cfg0.N = result m c :=
  (dats m 0 c).arrAt_eq_of_cover 5 (result m c) (fun t _ => (Value.flushed5 m c t).trans (read_spread (blockOut m c) t))
    fun i => ⟨pt rows_0 (i 0), flush0_5 _, cover i⟩

/-- The rows' block of point `t`. -/
theorem iblk0_at (c : Dev nD) (t : Fin cfg0.N) (i : Fin 512) (j : Fin 1024) (k : Fin 32768) (hk : k.val = 512 * t.val + i.val) :
    (iblk m c 0 t : Vec F S512x1024 .f32) (ix2 i j) = (V m c main_v0 : Vec F S32768x1024 .f32) (ix2 k j) := by
  unfold iblk
  rw [View.read_apply]
  exact congrArg (V m c main_v0 : Vec F S32768x1024 .f32) (idx_eq _ k j (by show win0_0.index t 0 * 512 + 1 * i.val = _; rw [(index0 t).1, hk]; omega)
    (by show win0_0.index t 1 * 1024 + 1 * j.val = _; rw [(index0 t).2]; omega))

/-- The first gains' block: the whole array. -/
theorem iblk1_at (c : Dev nD) (t : Fin cfg0.N) (i : Fin 1) (j : Fin 1024) :
    (iblk m c 1 t : Vec F S1x1024 .f32) (ix2 i j) = (V m c main_v1 : Vec F S1x1024 .f32) (ix2 i j) := by
  unfold iblk
  rw [View.read_apply]
  exact congrArg (V m c main_v1 : Vec F S1x1024 .f32) (idx_eq _ i j (by show win0_1.index t 0 * 1 + 1 * i.val = _; rw [(index1 t).1]; omega)
    (by show win0_1.index t 1 * 1024 + 1 * j.val = _; rw [(index1 t).2]; omega))

/-- The first weight's block: the whole array. -/
theorem iblk2_at (c : Dev nD) (t : Fin cfg0.N) (i : Fin 1024) (j : Fin 4096) :
    (iblk m c 2 t : Vec F S1024x4096 .bf16) (ix2 i j) = (V m c main_v3 : Vec F S1024x4096 .bf16) (ix2 i j) := by
  unfold iblk
  rw [View.read_apply]
  exact congrArg (V m c main_v3 : Vec F S1024x4096 .bf16) (idx_eq _ i j (by show win0_2.index t 0 * 1024 + 1 * i.val = _; rw [(index2 t).1]; omega)
    (by show win0_2.index t 1 * 4096 + 1 * j.val = _; rw [(index2 t).2]; omega))

/-- The second weight's block: the whole array. -/
theorem iblk3_at (c : Dev nD) (t : Fin cfg0.N) (i : Fin 4096) (j : Fin 1024) :
    (iblk m c 3 t : Vec F S4096x1024 .bf16) (ix2 i j) = (V m c main_v4 : Vec F S4096x1024 .bf16) (ix2 i j) := by
  unfold iblk
  rw [View.read_apply]
  exact congrArg (V m c main_v4 : Vec F S4096x1024 .bf16) (idx_eq _ i j (by show win0_3.index t 0 * 4096 + 1 * i.val = _; rw [(index3 t).1]; omega)
    (by show win0_3.index t 1 * 1024 + 1 * j.val = _; rw [(index3 t).2]; omega))

/-- The last gains' block: the whole array. -/
theorem iblk4_at (c : Dev nD) (t : Fin cfg0.N) (i : Fin 1) (j : Fin 1024) :
    (iblk m c 4 t : Vec F S1x1024 .f32) (ix2 i j) = (V m c main_v2 : Vec F S1x1024 .f32) (ix2 i j) := by
  unfold iblk
  rw [View.read_apply]
  exact congrArg (V m c main_v2 : Vec F S1x1024 .f32) (idx_eq _ i j (by show win0_4.index t 0 * 1 + 1 * i.val = _; rw [(index4 t).1]; omega)
    (by show win0_4.index t 1 * 1024 + 1 * j.val = _; rw [(index4 t).2]; omega))

/-- The arrays that the call receives, from the arguments. -/
theorem received (c : Dev nD) :
    V m c main_v0 = (fun i => shapeCast S32768x1024 (m (c, Proc.tc.devRef main_arg0) : Vec F S4x8192x1024 .f32) shapeCasts_S4x8192x1024_S32768x1024 i)
    ∧ V m c main_v1 = (fun i => shapeCast S1x1024 (m (c, Proc.tc.devRef main_arg1) : Vec F S1024 .f32) shapeCasts_S1024_S1x1024 i)
    ∧ V m c main_v2 = (fun i => shapeCast S1x1024 (m (c, Proc.tc.devRef main_arg4) : Vec F S1024 .f32) shapeCasts_S1024_S1x1024 i)
    ∧ V m c main_v3 = (truncf (F := F) .bf16 (m (c, Proc.tc.devRef main_arg2) : Vec F S1024x4096 .f32) bitsLt_bf16_f32)
    ∧ V m c main_v4 = (truncf (F := F) .bf16 (m (c, Proc.tc.devRef main_arg3) : Vec F S4096x1024 .f32) bitsLt_bf16_f32) := by
  refine ⟨?_, ?_, ?_, ?_, ?_⟩
  all_goals
    show StableHlo.after _ _ _ = _
    simp only [hostOps0, List.flatten_cons, List.flatten_nil, List.append_nil, List.cons_append, List.nil_append]
    after_results_simp
    try rfl

end Generic

variable (m : (ℓ : Loc nD τ sig) → Buf (Elt Ideal) ℓ)

section Arguments

variable (c : Dev nD) (r : Fin 32768)

/-- A row of the rows' block, from the arguments. -/
theorem row_arg : (fun k => (iblk m c 0 (pt rows_0 r) : Vec Ideal S512x1024 .f32) (ix2 ⟨r.val % 512, Nat.mod_lt _ (by decide)⟩ k))
    = fun k => (m (c, Proc.tc.devRef main_arg0) : Vec Ideal S4x8192x1024 .f32) (ix3 (bat r) (pos r) k) := by
  funext k
  refine (iblk0_at m c (pt rows_0 r) _ k r (by show r.val = 512 * (r.val / 512) + r.val % 512; omega)).trans ?_
  rw [(received m c).1]
  exact rows_at _ _ r k

/-- The first gains, from the arguments. -/
theorem gains_arg (t : Fin cfg0.N) : (fun k => (iblk m c 1 t : Vec Ideal S1x1024 .f32) (ix2 0 k)) = fun k => (m (c, Proc.tc.devRef main_arg1) : Vec Ideal S1024 .f32) (ix1 k) := by
  funext k
  refine (iblk1_at m c t 0 k).trans ?_
  rw [(received m c).2.1]
  exact gains_at _ _ k

/-- The last gains, from the arguments. -/
theorem last_arg (t : Fin cfg0.N) : (fun k => (iblk m c 4 t : Vec Ideal S1x1024 .f32) (ix2 0 k)) = fun k => (m (c, Proc.tc.devRef main_arg4) : Vec Ideal S1024 .f32) (ix1 k) := by
  funext k
  refine (iblk4_at m c t 0 k).trans ?_
  rw [(received m c).2.2.1]
  exact gains_at _ _ k

/-- The first weight, from the arguments. -/
theorem up_arg (t : Fin cfg0.N) : (fun k f => (iblk m c 2 t : Vec Ideal S1024x4096 .bf16) (ix2 k f)) = fun k f => (m (c, Proc.tc.devRef main_arg2) : Vec Ideal S1024x4096 .f32) (ix2 k f) := by
  funext k f
  refine (iblk2_at m c t k f).trans ?_
  rw [(received m c).2.2.2.1]
  rfl

/-- The second weight, from the arguments. -/
theorem down_arg (t : Fin cfg0.N) : (fun f i => (iblk m c 3 t : Vec Ideal S4096x1024 .bf16) (ix2 f i)) = fun f i => (m (c, Proc.tc.devRef main_arg3) : Vec Ideal S4096x1024 .f32) (ix2 f i) := by
  funext f i
  refine (iblk3_at m c t f i).trans ?_
  rw [(received m c).2.2.2.2]
  rfl

end Arguments

/-- The result array at an index, from the arguments. -/
theorem result_at (c : Dev nD) (r : Fin 32768) (j : Fin 1024) :
    result m c (ix2 r j)
      = mlpRow (fun k => (m (c, Proc.tc.devRef main_arg0) : Vec Ideal S4x8192x1024 .f32) (ix3 (bat r) (pos r) k))
          (fun k => (m (c, Proc.tc.devRef main_arg1) : Vec Ideal S1024 .f32) (ix1 k))
          (fun k => (m (c, Proc.tc.devRef main_arg4) : Vec Ideal S1024 .f32) (ix1 k))
          (fun k f => (m (c, Proc.tc.devRef main_arg2) : Vec Ideal S1024x4096 .f32) (ix2 k f))
          (fun f i => (m (c, Proc.tc.devRef main_arg3) : Vec Ideal S4096x1024 .f32) (ix2 f i)) j := by
  show blockOut m c (pt rows_0 r) (ix2 ⟨r.val % 512, Nat.mod_lt _ (by decide)⟩ j) = _
  unfold blockOut
  refine (out_at _ _ _ _ _ _ j).trans ?_
  rw [row_arg, gains_arg, last_arg, up_arg, down_arg]

end Cert.MlpIdeal.Rows
-- ==== Proof.MlpRef.lean ====
/-
  The feed-forward reference, row by row, from the arguments.
-/
module

public import proofs.«01_k».proof.Proof.Gen.MlpReferenceIdeal.Run
public import proofs.«01_k».proof.Proof.RowOps
public import proofs.«01_k».proof.Proof.RowBlocks
public import Idealize.ShloMosaic.Lib.Pointwise

@[expose] public section

set_option maxRecDepth 16384
set_option maxHeartbeats 2000000

noncomputable section

namespace Cert.MlpReferenceIdeal.Ref

open Idealize.ShloMosaic Idealize.ShloMosaic.TcCoe Idealize.ShloMosaic.Tactic Idealize.SL.Sem
open Cert.MlpReferenceIdeal Cert.MlpReferenceIdeal.Gen Cert.RowOps

section Terms
variable {F : FTy → Type} [FloatOps F]

/-- The norm of each row, times the gains. -/
def norm (x : FVec F S4x8192x1024 .f32) (g : FVec F S1024 .f32) : FVec F S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))

/-- The hidden units before the square. -/
def pre (h : FVec F S4x8192x1024 .f32) (up : FVec F S1024x4096 .f32) : FVec F S4x8192x4096 .f32 :=
  maximumf (Host.dotGeneral dot_S4x8192x1024_S1024x4096_S4x8192x4096_2_0_01_1_n_n none h up) (broadcastInDim S4x8192x4096 ![] bcast_S_S4x8192x4096 (constant S_ .f32 0x00000000#32))

/-- The rows with the feed-forward part added. -/
def added (x h : FVec F S4x8192x1024 .f32) (up : FVec F S1024x4096 .f32) (down : FVec F S4096x1024 .f32) : FVec F S4x8192x1024 .f32 :=
  addf x (Host.dotGeneral dot_S4x8192x4096_S4096x1024_S4x8192x1024_2_0_01_1_n_n none (mulf (pre h up) (pre h up)) down)

variable (m : (ℓ : Loc nD τ sig) → Buf (Elt F) ℓ)

/-- The reference's result array from its arguments. -/
theorem res_eq (c : Dev nD) : Value.res_main_v31 m c
    = shapeCast S32768x1024 (norm (added (m (c, Proc.tc.devRef main_arg0)) (norm (m (c, Proc.tc.devRef main_arg0)) (m (c, Proc.tc.devRef main_arg1))) (m (c, Proc.tc.devRef main_arg2)) (m (c, Proc.tc.devRef main_arg3))) (m (c, Proc.tc.devRef main_arg4))) shapeCasts_S4x8192x1024_S32768x1024 := by
  unfold Value.res_main_v31 norm added pre
  rfl

end Terms

/-- A normed row. -/
theorem norm_at (x : FVec Ideal S4x8192x1024 .f32) (g : FVec Ideal S1024 .f32) (b : Fin 4) (s : Fin 8192) (j : Fin 1024) :
    norm (F := Ideal) x g (ix3 b s j) = rms (fun k => x (ix3 b s k)) (fun k => g (ix1 k)) j := by
  pointwise [norm]
  rfl

/-- A row with the feed-forward part added. -/
theorem added_at (x h : FVec Ideal S4x8192x1024 .f32) (up : FVec Ideal S1024x4096 .f32) (down : FVec Ideal S4096x1024 .f32) (b : Fin 4) (s : Fin 8192) (j : Fin 1024) :
    added (F := Ideal) x h up down (ix3 b s j) = x (ix3 b s j) + feed (fun k => h (ix3 b s k)) (fun k f => up (ix2 k f)) (fun f => down (ix2 f j)) := by
  pointwise [added, pre]
  rfl

/-- A row with its own feed-forward part added. -/
theorem fed_at (x : FVec Ideal S4x8192x1024 .f32) (g2 : FVec Ideal S1024 .f32) (up : FVec Ideal S1024x4096 .f32) (down : FVec Ideal S4096x1024 .f32) (b : Fin 4) (s : Fin 8192) (j : Fin 1024) :
    added (F := Ideal) x (norm x g2) up down (ix3 b s j)
      = feedRow (fun k => x (ix3 b s k)) (fun k => g2 (ix1 k)) (fun k f => up (ix2 k f)) (fun f i => down (ix2 f i)) j :=
  (added_at _ _ _ _ b s j).trans
    (congrArg (fun q => x (ix3 b s j) + feed q (fun k f => up (ix2 k f)) (fun f => down (ix2 f j))) (funext fun k => norm_at x g2 b s k))

/-- The reference at an index. -/
theorem ref_at (x : FVec Ideal S4x8192x1024 .f32) (g2 gf : FVec Ideal S1024 .f32) (up : FVec Ideal S1024x4096 .f32) (down : FVec Ideal S4096x1024 .f32)
    (r : Fin 32768) (j : Fin 1024) :
    shapeCast S32768x1024 (norm (F := Ideal) (added x (norm x g2) up down) gf) shapeCasts_S4x8192x1024_S32768x1024 (ix2 r j)
      = mlpRow (fun k => x (ix3 (bat r) (pos r) k)) (fun k => g2 (ix1 k)) (fun k => gf (ix1 k)) (fun k f => up (ix2 k f)) (fun f i => down (ix2 f i)) j := by
  refine (rows_at _ _ r j).trans ((norm_at _ _ (bat r) (pos r) j).trans ?_)
  exact congrArg (fun q => rms q (fun k => gf (ix1 k)) j) (funext fun i => fed_at x g2 up down (bat r) (pos r) i)

end Cert.MlpReferenceIdeal.Ref
-- ==== Proof.FeedArray.lean ====
/-
  The other layers' feed-forward call: its result array, row by row, from the arguments. Its payloads and its windows are
  those of the last layer's call, up to the final norm, so that call's lemmas apply.
-/
module

public import proofs.«01_k».proof.Proof.MlpArray
public import proofs.«01_k».proof.Proof.Gen.FeedIdeal.Value

@[expose] public section

set_option maxRecDepth 16384
set_option maxHeartbeats 2000000

noncomputable section

namespace Cert.FeedIdeal.Rows

open Idealize.ShloMosaic Idealize.ShloMosaic.TcCoe Idealize.ShloMosaic.Tactic Idealize.SL.Sem
open Cert.FeedIdeal Cert.FeedIdeal.Gen Cert.RowOps
open Idealize.ShloMosaic.Pipeline (Dat)

/-- The block's result: the rest of the hidden units and the residual. -/
theorem last_at (v1 : FVec Ideal S512x1024 .f32) (v16 : FVec Ideal S512x1024 .bf16) (v28 : FVec Ideal S512x1024 .f32) (v35 : FVec Ideal S512x1024 .bf16)
    (v37 : FVec Ideal S1024x1024 .bf16) (v40 v47 v51 v58 : Vec Ideal S1024x1024 .bf16) (r : Fin 512) (i : Fin 1024) :
    k0_pay1 (F := Ideal) v1 v16 v28 v35 v37 v40 v47 v51 v58 (ix2 r i)
      = v1 (ix2 r i) + (v28 (ix2 r i) + ∑ x : Fin 1024, v35 (ix2 r x) * v37 (ix2 x i)
          + ∑ x : Fin 1024, hidden (fun k => v16 (ix2 r k)) (fun k => v40 (ix2 k x)) * v47 (ix2 x i)
          + ∑ x : Fin 1024, hidden (fun k => v16 (ix2 r k)) (fun k => v51 (ix2 k x)) * v58 (ix2 x i)) := by
  pointwise [k0_pay1]
  rfl

/-- What a point leaves: each row's feed-forward part. -/
theorem out_at (x0 : Vec Ideal S512x1024 .f32) (x1 : Vec Ideal S1x1024 .f32) (x2 : Vec Ideal S1024x4096 .bf16) (x3 : Vec Ideal S4096x1024 .bf16) (x4 : Vec Ideal S1x1024 .f32)
    (r : Fin 512) (j : Fin 1024) :
    out0_5 (F := Ideal) x0 x1 x2 x3 x4 (ix2 r j)
      = feedRow (fun k => x0 (ix2 r k)) (fun k => x1 (ix2 0 k)) (fun k f => x2 (ix2 k f)) (fun f i => x3 (ix2 f i)) j := by
  unfold out0_5
  refine (congrFun (View.canon_unit_zero Cert.MlpIdeal.Rows.hz _ _) (ix2 r j)).trans ?_
  rw [last_at]
  have h0 : View.ld x0 r0_0 = x0 := View.ld_unit_zero Cert.MlpIdeal.Rows.hz _ _
  have h1 : View.ld x1 r0_1 = x1 := View.ld_unit_zero Cert.MlpIdeal.Rows.hz _ _
  rw [h0, h1]
  exact congrArg₂ (· + ·) (by pointwise [k0_pay2]) (Cert.MlpIdeal.Rows.chunks_at x0 x1 x2 x3 r j)

/-- The blocks hold every row. -/
theorem rows_0 : 32768 ≤ 512 * grid0.N := by rw [N_0]

section Generic

variable {F : FTy → Type} [FloatOps F]
variable (m : (ℓ : Loc nD τ sig) → Buf (Elt F) ℓ)

/-- What point `t` leaves in its block. -/
def blockOut (c : Dev nD) (t : Fin grid0.N) : Vec F S512x1024 .f32 :=
  out0_5 (F := F) (iblk m c 0 t) (iblk m c 1 t) (iblk m c 2 t) (iblk m c 3 t) (iblk m c 4 t)

/-- The result array. -/
def result (c : Dev nD) : Buf (Elt F) ((c : Thread nD τ).loc main_v5) := spread rows_0 (blockOut m c)

/-- The result array after the run. -/
theorem final (c : Dev nD) : (dats m 0 c).arrAt 5 cfg0.N = result m c :=
  (dats m 0 c).arrAt_eq_of_cover 5 (result m c) (fun t _ => (Value.flushed5 m c t).trans (Cert.MlpIdeal.Rows.read_spread (blockOut m c) t))
    fun i => ⟨pt rows_0 (i 0), flush0_5 _, Cert.MlpIdeal.Rows.cover i⟩

end Generic

variable (m : (ℓ : Loc nD τ sig) → Buf (Elt Ideal) ℓ)

/-- The result array at an index, from the arguments. -/
theorem result_at (c : Dev nD) (r : Fin 32768) (j : Fin 1024) :
    result m c (ix2 r j)
      = feedRow (fun k => (m (c, Proc.tc.devRef main_arg0) : Vec Ideal S4x8192x1024 .f32) (ix3 (bat r) (pos r) k))
          (fun k => (m (c, Proc.tc.devRef main_arg1) : Vec Ideal S1024 .f32) (ix1 k))
          (fun k f => (m (c, Proc.tc.devRef main_arg2) : Vec Ideal S1024x4096 .f32) (ix2 k f))
          (fun f i => (m (c, Proc.tc.devRef main_arg3) : Vec Ideal S4096x1024 .f32) (ix2 f i)) j := by
  show blockOut m c (pt rows_0 r) (ix2 ⟨r.val % 512, Nat.mod_lt _ (by decide)⟩ j) = _
  unfold blockOut
  refine (out_at _ _ _ _ _ _ j).trans ?_
  exact congrFun (congr (congr (congr (congrArg feedRow (Cert.MlpIdeal.Rows.row_arg m c r)) (Cert.MlpIdeal.Rows.gains_arg m c (pt rows_0 r)))
    (Cert.MlpIdeal.Rows.up_arg m c (pt rows_0 r))) (Cert.MlpIdeal.Rows.down_arg m c (pt rows_0 r))) j

end Cert.FeedIdeal.Rows
-- ==== Proof.FeedRef.lean ====
/-
  The reference of the other layers' feed-forward part, row by row, from the arguments.
-/
module

public import proofs.«01_k».proof.Proof.Gen.FeedReferenceIdeal.Run
public import proofs.«01_k».proof.Proof.MlpRef

@[expose] public section

set_option maxRecDepth 16384
set_option maxHeartbeats 2000000

noncomputable section

namespace Cert.FeedReferenceIdeal.Ref

open Idealize.ShloMosaic Idealize.ShloMosaic.TcCoe Idealize.ShloMosaic.Tactic Idealize.SL.Sem
open Cert.FeedReferenceIdeal Cert.FeedReferenceIdeal.Gen Cert.RowOps
open Cert.MlpReferenceIdeal.Ref (norm added fed_at)

/-- The reference's result, of its arguments. -/
def whole {F : FTy → Type} [FloatOps F] (x : FVec F S4x8192x1024 .f32) (g2 : FVec F S1024 .f32) (up : FVec F S1024x4096 .f32) (down : FVec F S4096x1024 .f32) : FVec F S32768x1024 .f32 :=
  shapeCast S32768x1024 (added x (norm x g2) up down) shapeCasts_S4x8192x1024_S32768x1024

/-- The reference ends with its result in the result array and its arguments unchanged. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = whole (m (c, Proc.tc.devRef main_arg0)) (m (c, Proc.tc.devRef main_arg1)) (m (c, Proc.tc.devRef main_arg2)) (m (c, Proc.tc.devRef main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Value.run m ρ)

/-- The reference at an index. -/
theorem ref_at (x : FVec Ideal S4x8192x1024 .f32) (g2 : FVec Ideal S1024 .f32) (up : FVec Ideal S1024x4096 .f32) (down : FVec Ideal S4096x1024 .f32)
    (r : Fin 32768) (j : Fin 1024) :
    whole (F := Ideal) x g2 up down (ix2 r j)
      = feedRow (fun k => x (ix3 (bat r) (pos r) k)) (fun k => g2 (ix1 k)) (fun k f => up (ix2 k f)) (fun f i => down (ix2 f i)) j :=
  (rows_at _ _ r j).trans (fed_at x g2 up down (bat r) (pos r) j)

end Cert.FeedReferenceIdeal.Ref
-- ==== Proof.ProjRow.lean ====
/-
  A row's projections: the normed row's products with columns of the input weights.
-/
module

public import proofs.«01_k».proof.Proof.RowOps

@[expose] public section

noncomputable section

namespace Cert.RowOps

open Idealize.ShloMosaic

/-- The normed row's product with a column. -/
def proj (x g w : Fin 1024 → EReal) : EReal := ∑ k, rms x g k * w k

/-- Column `o + j` of the input weights. -/
def wseg {n : ℕ} (o : ℕ) (h : o + n ≤ 7144) (j : Fin n) : Fin 7144 := ⟨o + j.val, by have := j.isLt; omega⟩

end Cert.RowOps
-- ==== Proof.TailArray.lean ====
/-
  The band mixer's cache call: its two result arrays, row by row, from the arguments.
-/
module

public import proofs.«01_k».proof.Proof.Gen.TailIdeal.Value
public import proofs.«01_k».proof.Proof.ProjRow
public import proofs.«01_k».proof.Proof.RowBlocks
public import Idealize.ShloMosaic.Lib.StableHlo.Run

@[expose] public section

set_option maxRecDepth 16384
set_option maxHeartbeats 2000000

noncomputable section

namespace Cert.TailIdeal.Rows

open Idealize.ShloMosaic Idealize.ShloMosaic.TcCoe Idealize.ShloMosaic.Tactic Idealize.SL.Sem Idealize.ShloMosaic.StableHlo
open Cert.TailIdeal Cert.TailIdeal.Gen Cert.RowOps
open Idealize.ShloMosaic.Pipeline (Dat)

/-- The blocks hold every row. -/
theorem rows_0 : 2048 ≤ 512 * grid0.N := by rw [N_0]

/-- The batch and the position of a row. -/
def bat (r : Fin 2048) : Fin 4 := ⟨r.val / 512, by have := r.isLt; omega⟩
def pos (r : Fin 2048) : Fin 8192 := ⟨7680 + r.val % 512, by omega⟩

/-- The projections. -/
theorem z_at (v0 : Vec Ideal S512x1024 .f32) (v2 : Vec Ideal S1x1024 .f32) (w : Vec Ideal S1024x1024 .bf16) (r : Fin 512) (j : Fin 1024) :
    k0_pay1 (F := Ideal) v0 v2 w (ix2 r j) = proj (fun k => v0 (ix2 r k)) (fun k => v2 (ix2 0 k)) (fun k => w (ix2 k j)) := by
  pointwise [k0_pay1]
  rfl

theorem hz : (![0, 0] : Fin 2 → ℕ) = fun _ => 0 := by
  funext a; match a with | ⟨0, _⟩ => rfl | ⟨1, _⟩ => rfl

/-- What a point leaves: the first half of the projections, -/
theorem out3_at (x0 : Vec Ideal S512x1024 .f32) (x1 : Vec Ideal S1x1024 .f32) (x2 : Vec Ideal S1024x1024 .bf16) (r j : Fin 512) :
    out0_3 (F := Ideal) x0 x1 x2 (ix2 r j) = proj (fun k => x0 (ix2 r k)) (fun k => x1 (ix2 0 k)) (fun k => x2 (ix2 k ⟨j.val, by omega⟩)) := by
  unfold out0_3
  refine (congrFun (View.canon_unit_zero hz _ _) (ix2 r j)).trans ?_
  rw [show View.ld x0 r0_0 = x0 from View.ld_unit_zero hz _ _, show View.ld x1 r0_1 = x1 from View.ld_unit_zero hz _ _, show View.ld x2 r0_2 = x2 from View.ld_unit_zero hz _ _]
  refine Eq.trans ?_ (z_at x0 x1 x2 r _)
  pointwise [k0_pay2]

/-- and the second half. -/
theorem out4_at (x0 : Vec Ideal S512x1024 .f32) (x1 : Vec Ideal S1x1024 .f32) (x2 : Vec Ideal S1024x1024 .bf16) (r j : Fin 512) :
    out0_4 (F := Ideal) x0 x1 x2 (ix2 r j) = proj (fun k => x0 (ix2 r k)) (fun k => x1 (ix2 0 k)) (fun k => x2 (ix2 k ⟨512 + j.val, by omega⟩)) := by
  unfold out0_4
  refine (congrFun (View.canon_unit_zero hz _ _) (ix2 r j)).trans ?_
  rw [show View.ld x0 r0_0 = x0 from View.ld_unit_zero hz _ _, show View.ld x1 r0_1 = x1 from View.ld_unit_zero hz _ _, show View.ld x2 r0_2 = x2 from View.ld_unit_zero hz _ _]
  refine Eq.trans ?_ (z_at x0 x1 x2 r _)
  pointwise [k0_pay3]

section Generic

variable {F : FTy → Type} [FloatOps F]
variable (m : (ℓ : Loc nD τ sig) → Buf (Elt F) ℓ)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel

theorem rect_out : ∀ t : Fin grid0.N, win0_3.index t 0 * win0_3.size 0 = 512 * t.val ∧ win0_3.index t 1 * win0_3.size 1 = 0
    ∧ win0_3.xsize (grid0.coords t) 0 = 512 ∧ win0_3.xsize (grid0.coords t) 1 = 512 := by decide +kernel

/-- The array of given blocks, read through a point's window, is the point's block. -/
theorem read_spread (B : Fin grid0.N → Vec F S512x512 .f32) (t : Fin cfg0.N) :
    (cfg0.win 3).cut (grid0.coords t) (B t) = ((cfg0.win 3).blk t).view.read (Elt F) (spread rows_0 B) := by
  funext j
  rw [View.read_apply]
  exact (spread_at rows_0 B t j ((win0_3.rect t).idx j)
    (by show win0_3.index t 0 * 512 + 1 * (j 0).val = _; rw [(index3 t).1]; omega)
    (by show win0_3.index t 1 * 512 + 1 * (j 1).val = _; rw [(index3 t).2]; omega)).symm

/-- Row `i` lies in its point's block. -/
theorem cover (i : S2048x512.Idx) : i ∈ ((cfg0.win 3).blk (pt rows_0 (i 0))).view.set := by
  show i ∈ ((View.whole main_v7_0).slice (win0_3.rect (pt rows_0 (i 0)))).set
  rw [View.set_slice_whole, Rect.mem_set_unit]
  exact in_block rows_0 _ _ i (rect_out _)

/-- The two result arrays. -/
def keys (c : Dev nD) : Buf (Elt F) ((c : Thread nD τ).loc main_v7_0) := spread rows_0 fun t => out0_3 (F := F) (iblk m c 0 t) (iblk m c 1 t) (iblk m c 2 t)
def values (c : Dev nD) : Buf (Elt F) ((c : Thread nD τ).loc main_v7_1) := spread rows_0 fun t => out0_4 (F := F) (iblk m c 0 t) (iblk m c 1 t) (iblk m c 2 t)

/-- The result arrays after the run. -/
theorem final3 (c : Dev nD) : (dats m 0 c).arrAt 3 cfg0.N = keys m c :=
  (dats m 0 c).arrAt_eq_of_cover 3 (keys m c) (fun t _ => (Value.flushed3 m c t).trans (read_spread (fun t => out0_3 (F := F) (iblk m c 0 t) (iblk m c 1 t) (iblk m c 2 t)) t))
    fun i => ⟨pt rows_0 (i 0), flush0_3 _, cover i⟩
theorem final4 (c : Dev nD) : (dats m 0 c).arrAt 4 cfg0.N = values m c :=
  (dats m 0 c).arrAt_eq_of_cover 4 (values m c) (fun t _ => (Value.flushed4 m c t).trans (read_spread (fun t => out0_4 (F := F) (iblk m c 0 t) (iblk m c 1 t) (iblk m c 2 t)) t))
    fun i => ⟨pt rows_0 (i 0), flush0_4 _, cover i⟩

/-- The rows' block of point `t`. -/
theorem iblk0_at (c : Dev nD) (t : Fin cfg0.N) (i : Fin 512) (j : Fin 1024) (k : Fin 2048) (hk : k.val = 512 * t.val + i.val) :
    (iblk m c 0 t : Vec F S512x1024 .f32) (ix2 i j) = (V m c main_v4 : Vec F S2048x1024 .f32) (ix2 k j) := by
  unfold iblk
  rw [View.read_apply]
  exact congrArg (V m c main_v4 : Vec F S2048x1024 .f32) (idx_eq _ k j (by show win0_0.index t 0 * 512 + 1 * i.val = _; rw [(index0 t).1, hk]; omega)
    (by show win0_0.index t 1 * 1024 + 1 * j.val = _; rw [(index0 t).2]; omega))

/-- The gains' block: the whole array. -/
theorem iblk1_at (c : Dev nD) (t : Fin cfg0.N) (i : Fin 1) (j : Fin 1024) :
    (iblk m c 1 t : Vec F S1x1024 .f32) (ix2 i j) = (V m c main_v1 : Vec F S1x1024 .f32) (ix2 i j) := by
  unfold iblk
  rw [View.read_apply]
  exact congrArg (V m c main_v1 : Vec F S1x1024 .f32) (idx_eq _ i j (by show win0_1.index t 0 * 1 + 1 * i.val = _; rw [(index1 t).1]; omega)
    (by show win0_1.index t 1 * 1024 + 1 * j.val = _; rw [(index1 t).2]; omega))

/-- The weights' block: the whole array. -/
theorem iblk2_at (c : Dev nD) (t : Fin cfg0.N) (i j : Fin 1024) :
    (iblk m c 2 t : Vec F S1024x1024 .bf16) (ix2 i j) = (V m c main_v6 : Vec F S1024x1024 .bf16) (ix2 i j) := by
  unfold iblk
  rw [View.read_apply]
  exact congrArg (V m c main_v6 : Vec F S1024x1024 .bf16) (idx_eq _ i j (by show win0_2.index t 0 * 1024 + 1 * i.val = _; rw [(index2 t).1]; omega)
    (by show win0_2.index t 1 * 1024 + 1 * j.val = _; rw [(index2 t).2]; omega))

end Generic

section Arguments

variable (m : (ℓ : Loc nD τ sig) → Buf (Elt Ideal) ℓ) (c : Dev nD)

/-- The received rows, gains and weights at an index, from the arguments. -/
theorem rows_arg (r : Fin 2048) (k : Fin 1024) : (V m c main_v4 : Vec Ideal S2048x1024 .f32) (ix2 r k) = (m (c, Proc.tc.devRef main_arg0) : Vec Ideal S4x8192x1024 .f32) (ix3 (bat r) (pos r) k) := by
  show StableHlo.after _ _ _ _ = _
  simp only [hostOps0, List.flatten_cons, List.flatten_nil, List.append_nil, List.cons_append, List.nil_append]
  after_results_simp
  pointwise [bat, pos]
theorem gains_arg (k : Fin 1024) : (V m c main_v1 : Vec Ideal S1x1024 .f32) (ix2 0 k) = (m (c, Proc.tc.devRef main_arg1) : Vec Ideal S1024 .f32) (ix1 k) := by
  show StableHlo.after _ _ _ _ = _
  simp only [hostOps0, List.flatten_cons, List.flatten_nil, List.append_nil, List.cons_append, List.nil_append]
  after_results_simp
  exact gains_at _ _ k
theorem weights_arg (k j : Fin 1024) : (V m c main_v6 : Vec Ideal S1024x1024 .bf16) (ix2 k j) = (m (c, Proc.tc.devRef main_arg2) : Vec Ideal S1024x7144 .f32) (ix2 k (wseg 3048 (by decide) j)) := by
  show StableHlo.after _ _ _ _ = _
  simp only [hostOps0, List.flatten_cons, List.flatten_nil, List.append_nil, List.cons_append, List.nil_append]
  after_results_simp
  pointwise [wseg]

/-- A projection of a block's row, from the arguments. -/
theorem proj_arg (r : Fin 2048) (j : Fin 1024) (q : Fin 7144) (hq : q.val = 3048 + j.val) :
    proj (fun k => (iblk m c 0 (pt rows_0 r) : Vec Ideal S512x1024 .f32) (ix2 ⟨r.val % 512, Nat.mod_lt _ (by decide)⟩ k))
        (fun k => (iblk m c 1 (pt rows_0 r) : Vec Ideal S1x1024 .f32) (ix2 0 k)) (fun k => (iblk m c 2 (pt rows_0 r) : Vec Ideal S1024x1024 .bf16) (ix2 k j))
      = proj (fun k => (m (c, Proc.tc.devRef main_arg0) : Vec Ideal S4x8192x1024 .f32) (ix3 (bat r) (pos r) k))
          (fun k => (m (c, Proc.tc.devRef main_arg1) : Vec Ideal S1024 .f32) (ix1 k))
          (fun k => (m (c, Proc.tc.devRef main_arg2) : Vec Ideal S1024x7144 .f32) (ix2 k q)) :=
  congr (congrArg₂ proj
    (funext fun k => (iblk0_at m c (pt rows_0 r) _ k r (by show r.val = 512 * (r.val / 512) + r.val % 512; omega)).trans (rows_arg m c r k))
    (funext fun k => (iblk1_at m c (pt rows_0 r) 0 k).trans (gains_arg m c k)))
    (funext fun k => (iblk2_at m c (pt rows_0 r) k j).trans ((weights_arg m c k j).trans
      (congrArg (fun q => (m (c, Proc.tc.devRef main_arg2) : Vec Ideal S1024x7144 .f32) (ix2 k q)) (Fin.ext hq.symm))))

/-- The result arrays at an index, from the arguments. -/
theorem keys_at (r : Fin 2048) (j : Fin 512) : keys m c (ix2 r j)
    = proj (fun k => (m (c, Proc.tc.devRef main_arg0) : Vec Ideal S4x8192x1024 .f32) (ix3 (bat r) (pos r) k))
        (fun k => (m (c, Proc.tc.devRef main_arg1) : Vec Ideal S1024 .f32) (ix1 k))
        (fun k => (m (c, Proc.tc.devRef main_arg2) : Vec Ideal S1024x7144 .f32) (ix2 k (wseg 3048 (by decide) j))) :=
  (out3_at _ _ _ ⟨r.val % 512, Nat.mod_lt _ (by decide)⟩ j).trans (proj_arg m c r ⟨j.val, by omega⟩ (wseg 3048 (by decide) j) rfl)
theorem values_at (r : Fin 2048) (j : Fin 512) : values m c (ix2 r j)
    = proj (fun k => (m (c, Proc.tc.devRef main_arg0) : Vec Ideal S4x8192x1024 .f32) (ix3 (bat r) (pos r) k))
        (fun k => (m (c, Proc.tc.devRef main_arg1) : Vec Ideal S1024 .f32) (ix1 k))
        (fun k => (m (c, Proc.tc.devRef main_arg2) : Vec Ideal S1024x7144 .f32) (ix2 k (wseg 3560 (by decide) j))) :=
  (out4_at _ _ _ ⟨r.val % 512, Nat.mod_lt _ (by decide)⟩ j).trans (proj_arg m c r ⟨512 + j.val, by omega⟩ (wseg 3560 (by decide) j) (by show 3560 + j.val = 3048 + (512 + j.val); omega))

end Arguments

end Cert.TailIdeal.Rows
-- ==== Proof.TailRef.lean ====
/-
  The reference of the band mixer's cache, row by row, from the arguments.
-/
module

public import proofs.«01_k».proof.Proof.Gen.TailReferenceIdeal.Run
public import proofs.«01_k».proof.Proof.MlpRef
public import proofs.«01_k».proof.Proof.TailArray

@[expose] public section

set_option maxRecDepth 16384
set_option maxHeartbeats 2000000

noncomputable section

namespace Cert.TailReferenceIdeal.Ref

open Idealize.ShloMosaic Idealize.ShloMosaic.TcCoe Idealize.ShloMosaic.Tactic Idealize.SL.Sem
open Cert.TailReferenceIdeal Cert.TailReferenceIdeal.Gen Cert.RowOps
open Cert.MlpReferenceIdeal.Ref (norm norm_at)

/-- The projections of every row. -/
def z {F : FTy → Type} [FloatOps F] (x : FVec F S4x8192x1024 .f32) (g : FVec F S1024 .f32) (w : FVec F S1024x7144 .f32) : FVec F S4x8192x7144 .f32 :=
  Host.dotGeneral dot_S4x8192x1024_S1024x7144_S4x8192x7144_2_0_01_1_n_n none (norm x g) w

/-- A projection of a row. -/
theorem z_at (x : FVec Ideal S4x8192x1024 .f32) (g : FVec Ideal S1024 .f32) (w : FVec Ideal S1024x7144 .f32) (b : Fin 4) (s : Fin 8192) (j : Fin 7144) :
    z (F := Ideal) x g w (ix3 b s j) = proj (fun k => x (ix3 b s k)) (fun k => g (ix1 k)) (fun k => w (ix2 k j)) := by
  refine Eq.trans (b := ∑ k, norm (F := Ideal) x g (ix3 b s k) * w (ix2 k j)) ?_ (Finset.sum_congr rfl fun k _ => congrArg (· * w (ix2 k j)) (norm_at x g b s k))
  pointwise [z]

/-- The columns from `o` on of the last 512 positions. -/
def part {F : FTy → Type} [FloatOps F] (x : FVec F S4x8192x1024 .f32) (g : FVec F S1024 .f32) (w : FVec F S1024x7144 .f32) (o : ℕ) (h : S4x8192x7144.Slices ![0, 0, o] S4x8192x512) : FVec F S2048x512 .f32 :=
  shapeCast S2048x512 (extractStridedSlice S4x512x512 ![0, 7680, 0] (extractStridedSlice S4x8192x512 ![0, 0, o] (z x g w) h) slices_S4x8192x512_S4x512x512_0_7680_0) shapeCasts_S4x512x512_S2048x512

/-- The columns at an index. -/
theorem part_at (x : FVec Ideal S4x8192x1024 .f32) (g : FVec Ideal S1024 .f32) (w : FVec Ideal S1024x7144 .f32) (o : ℕ) (h : S4x8192x7144.Slices ![0, 0, o] S4x8192x512) (ho : o + 512 ≤ 7144) (r : Fin 2048) (j : Fin 512) :
    part (F := Ideal) x g w o h (ix2 r j)
      = proj (fun k => x (ix3 (Cert.TailIdeal.Rows.bat r) (Cert.TailIdeal.Rows.pos r) k)) (fun k => g (ix1 k)) (fun k => w (ix2 k (wseg o ho j))) := by
  refine Eq.trans ?_ (z_at x g w _ _ _)
  pointwise [part, wseg, Cert.TailIdeal.Rows.bat, Cert.TailIdeal.Rows.pos]

/-- The reference ends with its results in the result arrays and its arguments unchanged. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = part (m (c, Proc.tc.devRef main_arg0)) (m (c, Proc.tc.devRef main_arg1)) (m (c, Proc.tc.devRef main_arg2)) 3048 slices_S4x8192x7144_S4x8192x512_0_0_3048
      ∧ r.2.mem ((c.tc : Thread nD τ).loc main_v30) = part (m (c, Proc.tc.devRef main_arg0)) (m (c, Proc.tc.devRef main_arg1)) (m (c, Proc.tc.devRef main_arg2)) 3560 slices_S4x8192x7144_S4x8192x512_0_0_3560
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2.1.trans rfl, (h c).2.2⟩) (Value.run m ρ)

end Cert.TailReferenceIdeal.Ref
-- ==== Proof.BandArray.lean ====
/-
  The band mixer's projection call: its three result arrays, row by row, from the arguments.
-/
module

public import proofs.«01_k».proof.Proof.Gen.BandIdeal.Value
public import proofs.«01_k».proof.Proof.ProjRow
public import proofs.«01_k».proof.Proof.RowBlocks
public import Idealize.ShloMosaic.Lib.StableHlo.Run

@[expose] public section

set_option maxRecDepth 16384
set_option maxHeartbeats 2000000

noncomputable section

namespace Cert.BandIdeal.Rows

open Idealize.ShloMosaic Idealize.ShloMosaic.TcCoe Idealize.ShloMosaic.Tactic Idealize.SL.Sem Idealize.ShloMosaic.StableHlo
open Cert.BandIdeal Cert.BandIdeal.Gen Cert.RowOps
open Idealize.ShloMosaic.Pipeline (Dat)

/-- The blocks hold every row. -/
theorem rows_0 : 32768 ≤ 512 * grid0.N := by rw [N_0]

/-- The scale on the queries. -/
def scale : EReal := Ideal.ofBits .f32 0x3E38AA3B#32

/-- The projections. -/
theorem z_at (v0 : Vec Ideal S512x1024 .f32) (v2 : Vec Ideal S1x1024 .f32) (w : Vec Ideal S1024x1536 .bf16) (r : Fin 512) (j : Fin 1536) :
    k0_pay1 (F := Ideal) v0 v2 w (ix2 r j) = proj (fun k => v0 (ix2 r k)) (fun k => v2 (ix2 0 k)) (fun k => w (ix2 k j)) := by
  pointwise [k0_pay1]
  rfl

theorem hz : (![0, 0] : Fin 2 → ℕ) = fun _ => 0 := by
  funext a; match a with | ⟨0, _⟩ => rfl | ⟨1, _⟩ => rfl

/-- What a point leaves: the first third of the projections, scaled, -/
theorem out3_at (x0 : Vec Ideal S512x1024 .f32) (x1 : Vec Ideal S1x1024 .f32) (x2 : Vec Ideal S1024x1536 .bf16) (r j : Fin 512) :
    out0_3 (F := Ideal) x0 x1 x2 (ix2 r j) = proj (fun k => x0 (ix2 r k)) (fun k => x1 (ix2 0 k)) (fun k => x2 (ix2 k ⟨j.val, by omega⟩)) * scale := by
  unfold out0_3
  refine (congrFun (View.canon_unit_zero hz _ _) (ix2 r j)).trans ?_
  rw [show View.ld x0 r0_0 = x0 from View.ld_unit_zero hz _ _, show View.ld x1 r0_1 = x1 from View.ld_unit_zero hz _ _, show View.ld x2 r0_2 = x2 from View.ld_unit_zero hz _ _]
  refine Eq.trans ?_ (congrArg (· * scale) (z_at x0 x1 x2 r _))
  pointwise [k0_pay2]
  rfl

/-- the second third, -/
theorem out4_at (x0 : Vec Ideal S512x1024 .f32) (x1 : Vec Ideal S1x1024 .f32) (x2 : Vec Ideal S1024x1536 .bf16) (r j : Fin 512) :
    out0_4 (F := Ideal) x0 x1 x2 (ix2 r j) = proj (fun k => x0 (ix2 r k)) (fun k => x1 (ix2 0 k)) (fun k => x2 (ix2 k ⟨512 + j.val, by omega⟩)) := by
  unfold out0_4
  refine (congrFun (View.canon_unit_zero hz _ _) (ix2 r j)).trans ?_
  rw [show View.ld x0 r0_0 = x0 from View.ld_unit_zero hz _ _, show View.ld x1 r0_1 = x1 from View.ld_unit_zero hz _ _, show View.ld x2 r0_2 = x2 from View.ld_unit_zero hz _ _]
  refine Eq.trans ?_ (z_at x0 x1 x2 r _)
  pointwise [k0_pay3]

/-- and the last third. -/
theorem out5_at (x0 : Vec Ideal S512x1024 .f32) (x1 : Vec Ideal S1x1024 .f32) (x2 : Vec Ideal S1024x1536 .bf16) (r j : Fin 512) :
    out0_5 (F := Ideal) x0 x1 x2 (ix2 r j) = proj (fun k => x0 (ix2 r k)) (fun k => x1 (ix2 0 k)) (fun k => x2 (ix2 k ⟨1024 + j.val, by omega⟩)) := by
  unfold out0_5
  refine (congrFun (View.canon_unit_zero hz _ _) (ix2 r j)).trans ?_
  rw [show View.ld x0 r0_0 = x0 from View.ld_unit_zero hz _ _, show View.ld x1 r0_1 = x1 from View.ld_unit_zero hz _ _, show View.ld x2 r0_2 = x2 from View.ld_unit_zero hz _ _]
  refine Eq.trans ?_ (z_at x0 x1 x2 r _)
  pointwise [k0_pay4]

section Generic

variable {F : FTy → Type} [FloatOps F]
variable (m : (ℓ : Loc nD τ sig) → Buf (Elt F) ℓ)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel

theorem rect_out : ∀ t : Fin grid0.N, win0_3.index t 0 * win0_3.size 0 = 512 * t.val ∧ win0_3.index t 1 * win0_3.size 1 = 0
    ∧ win0_3.xsize (grid0.coords t) 0 = 512 ∧ win0_3.xsize (grid0.coords t) 1 = 512 := by decide +kernel

/-- The array of given blocks, read through a point's window, is the point's block. -/
theorem read_spread (B : Fin grid0.N → Vec F S512x512 .bf16) (t : Fin cfg0.N) :
    (cfg0.win 3).cut (grid0.coords t) (B t) = ((cfg0.win 3).blk t).view.read (Elt F) (spread rows_0 B) := by
  funext j
  rw [View.read_apply]
  exact (spread_at rows_0 B t j ((win0_3.rect t).idx j)
    (by show win0_3.index t 0 * 512 + 1 * (j 0).val = _; rw [(index3 t).1]; omega)
    (by show win0_3.index t 1 * 512 + 1 * (j 1).val = _; rw [(index3 t).2]; omega)).symm

/-- Row `i` lies in its point's block. -/
theorem cover (i : S32768x512.Idx) : i ∈ ((cfg0.win 3).blk (pt rows_0 (i 0))).view.set := by
  show i ∈ ((View.whole main_v4_0).slice (win0_3.rect (pt rows_0 (i 0)))).set
  rw [View.set_slice_whole, Rect.mem_set_unit]
  exact in_block rows_0 _ _ i (rect_out _)

/-- The three result arrays. -/
def queries (c : Dev nD) : Buf (Elt F) ((c : Thread nD τ).loc main_v4_0) := spread rows_0 fun t => out0_3 (F := F) (iblk m c 0 t) (iblk m c 1 t) (iblk m c 2 t)
def keys (c : Dev nD) : Buf (Elt F) ((c : Thread nD τ).loc main_v4_1) := spread rows_0 fun t => out0_4 (F := F) (iblk m c 0 t) (iblk m c 1 t) (iblk m c 2 t)
def values (c : Dev nD) : Buf (Elt F) ((c : Thread nD τ).loc main_v4_2) := spread rows_0 fun t => out0_5 (F := F) (iblk m c 0 t) (iblk m c 1 t) (iblk m c 2 t)

/-- The result arrays after the run. -/
theorem final3 (c : Dev nD) : (dats m 0 c).arrAt 3 cfg0.N = queries m c :=
  (dats m 0 c).arrAt_eq_of_cover 3 (queries m c) (fun t _ => (Value.flushed3 m c t).trans (read_spread (fun t => out0_3 (F := F) (iblk m c 0 t) (iblk m c 1 t) (iblk m c 2 t)) t))
    fun i => ⟨pt rows_0 (i 0), flush0_3 _, cover i⟩
theorem final4 (c : Dev nD) : (dats m 0 c).arrAt 4 cfg0.N = keys m c :=
  (dats m 0 c).arrAt_eq_of_cover 4 (keys m c) (fun t _ => (Value.flushed4 m c t).trans (read_spread (fun t => out0_4 (F := F) (iblk m c 0 t) (iblk m c 1 t) (iblk m c 2 t)) t))
    fun i => ⟨pt rows_0 (i 0), flush0_4 _, cover i⟩
theorem final5 (c : Dev nD) : (dats m 0 c).arrAt 5 cfg0.N = values m c :=
  (dats m 0 c).arrAt_eq_of_cover 5 (values m c) (fun t _ => (Value.flushed5 m c t).trans (read_spread (fun t => out0_5 (F := F) (iblk m c 0 t) (iblk m c 1 t) (iblk m c 2 t)) t))
    fun i => ⟨pt rows_0 (i 0), flush0_5 _, cover i⟩

/-- The rows' block of point `t`. -/
theorem iblk0_at (c : Dev nD) (t : Fin cfg0.N) (i : Fin 512) (j : Fin 1024) (k : Fin 32768) (hk : k.val = 512 * t.val + i.val) :
    (iblk m c 0 t : Vec F S512x1024 .f32) (ix2 i j) = (V m c main_v0 : Vec F S32768x1024 .f32) (ix2 k j) := by
  unfold iblk
  rw [View.read_apply]
  exact congrArg (V m c main_v0 : Vec F S32768x1024 .f32) (idx_eq _ k j (by show win0_0.index t 0 * 512 + 1 * i.val = _; rw [(index0 t).1, hk]; omega)
    (by show win0_0.index t 1 * 1024 + 1 * j.val = _; rw [(index0 t).2]; omega))

/-- The gains' block: the whole array. -/
theorem iblk1_at (c : Dev nD) (t : Fin cfg0.N) (i : Fin 1) (j : Fin 1024) :
    (iblk m c 1 t : Vec F S1x1024 .f32) (ix2 i j) = (V m c main_v1 : Vec F S1x1024 .f32) (ix2 i j) := by
  unfold iblk
  rw [View.read_apply]
  exact congrArg (V m c main_v1 : Vec F S1x1024 .f32) (idx_eq _ i j (by show win0_1.index t 0 * 1 + 1 * i.val = _; rw [(index1 t).1]; omega)
    (by show win0_1.index t 1 * 1024 + 1 * j.val = _; rw [(index1 t).2]; omega))

/-- The weights' block: the whole array. -/
theorem iblk2_at (c : Dev nD) (t : Fin cfg0.N) (i : Fin 1024) (j : Fin 1536) :
    (iblk m c 2 t : Vec F S1024x1536 .bf16) (ix2 i j) = (V m c main_v3 : Vec F S1024x1536 .bf16) (ix2 i j) := by
  unfold iblk
  rw [View.read_apply]
  exact congrArg (V m c main_v3 : Vec F S1024x1536 .bf16) (idx_eq _ i j (by show win0_2.index t 0 * 1024 + 1 * i.val = _; rw [(index2 t).1]; omega)
    (by show win0_2.index t 1 * 1536 + 1 * j.val = _; rw [(index2 t).2]; omega))

end Generic

section Arguments

variable (m : (ℓ : Loc nD τ sig) → Buf (Elt Ideal) ℓ) (c : Dev nD)

/-- The received rows, gains and weights at an index, from the arguments. -/
theorem rows_arg (r : Fin 32768) (k : Fin 1024) : (V m c main_v0 : Vec Ideal S32768x1024 .f32) (ix2 r k) = (m (c, Proc.tc.devRef main_arg0) : Vec Ideal S4x8192x1024 .f32) (ix3 (bat r) (pos r) k) := by
  show StableHlo.after _ _ _ _ = _
  simp only [hostOps0, List.flatten_cons, List.flatten_nil, List.append_nil, List.cons_append, List.nil_append]
  after_results_simp
  exact rows_at _ _ r k
theorem gains_arg (k : Fin 1024) : (V m c main_v1 : Vec Ideal S1x1024 .f32) (ix2 0 k) = (m (c, Proc.tc.devRef main_arg1) : Vec Ideal S1024 .f32) (ix1 k) := by
  show StableHlo.after _ _ _ _ = _
  simp only [hostOps0, List.flatten_cons, List.flatten_nil, List.append_nil, List.cons_append, List.nil_append]
  after_results_simp
  exact gains_at _ _ k
theorem weights_arg (k : Fin 1024) (j : Fin 1536) : (V m c main_v3 : Vec Ideal S1024x1536 .bf16) (ix2 k j) = (m (c, Proc.tc.devRef main_arg2) : Vec Ideal S1024x7144 .f32) (ix2 k (wseg 2536 (by decide) j)) := by
  show StableHlo.after _ _ _ _ = _
  simp only [hostOps0, List.flatten_cons, List.flatten_nil, List.append_nil, List.cons_append, List.nil_append]
  after_results_simp
  pointwise [wseg]

/-- A projection of a block's row, from the arguments. -/
theorem proj_arg (r : Fin 32768) (j : Fin 1536) (q : Fin 7144) (hq : q.val = 2536 + j.val) :
    proj (fun k => (iblk m c 0 (pt rows_0 r) : Vec Ideal S512x1024 .f32) (ix2 ⟨r.val % 512, Nat.mod_lt _ (by decide)⟩ k))
        (fun k => (iblk m c 1 (pt rows_0 r) : Vec Ideal S1x1024 .f32) (ix2 0 k)) (fun k => (iblk m c 2 (pt rows_0 r) : Vec Ideal S1024x1536 .bf16) (ix2 k j))
      = proj (fun k => (m (c, Proc.tc.devRef main_arg0) : Vec Ideal S4x8192x1024 .f32) (ix3 (bat r) (pos r) k))
          (fun k => (m (c, Proc.tc.devRef main_arg1) : Vec Ideal S1024 .f32) (ix1 k))
          (fun k => (m (c, Proc.tc.devRef main_arg2) : Vec Ideal S1024x7144 .f32) (ix2 k q)) :=
  congr (congrArg₂ proj
    (funext fun k => (iblk0_at m c (pt rows_0 r) _ k r (by show r.val = 512 * (r.val / 512) + r.val % 512; omega)).trans (rows_arg m c r k))
    (funext fun k => (iblk1_at m c (pt rows_0 r) 0 k).trans (gains_arg m c k)))
    (funext fun k => (iblk2_at m c (pt rows_0 r) k j).trans ((weights_arg m c k j).trans
      (congrArg (fun q => (m (c, Proc.tc.devRef main_arg2) : Vec Ideal S1024x7144 .f32) (ix2 k q)) (Fin.ext hq.symm))))

/-- The result arrays at an index, from the arguments. -/
theorem queries_at (r : Fin 32768) (j : Fin 512) : queries m c (ix2 r j)
    = proj (fun k => (m (c, Proc.tc.devRef main_arg0) : Vec Ideal S4x8192x1024 .f32) (ix3 (bat r) (pos r) k))
        (fun k => (m (c, Proc.tc.devRef main_arg1) : Vec Ideal S1024 .f32) (ix1 k))
        (fun k => (m (c, Proc.tc.devRef main_arg2) : Vec Ideal S1024x7144 .f32) (ix2 k (wseg 2536 (by decide) j))) * scale :=
  (out3_at _ _ _ ⟨r.val % 512, Nat.mod_lt _ (by decide)⟩ j).trans (congrArg (· * scale) (proj_arg m c r ⟨j.val, by omega⟩ (wseg 2536 (by decide) j) rfl))
theorem keys_at (r : Fin 32768) (j : Fin 512) : keys m c (ix2 r j)
    = proj (fun k => (m (c, Proc.tc.devRef main_arg0) : Vec Ideal S4x8192x1024 .f32) (ix3 (bat r) (pos r) k))
        (fun k => (m (c, Proc.tc.devRef main_arg1) : Vec Ideal S1024 .f32) (ix1 k))
        (fun k => (m (c, Proc.tc.devRef main_arg2) : Vec Ideal S1024x7144 .f32) (ix2 k (wseg 3048 (by decide) j))) :=
  (out4_at _ _ _ ⟨r.val % 512, Nat.mod_lt _ (by decide)⟩ j).trans (proj_arg m c r ⟨512 + j.val, by omega⟩ (wseg 3048 (by decide) j) (by show 3048 + j.val = 2536 + (512 + j.val); omega))
theorem values_at (r : Fin 32768) (j : Fin 512) : values m c (ix2 r j)
    = proj (fun k => (m (c, Proc.tc.devRef main_arg0) : Vec Ideal S4x8192x1024 .f32) (ix3 (bat r) (pos r) k))
        (fun k => (m (c, Proc.tc.devRef main_arg1) : Vec Ideal S1024 .f32) (ix1 k))
        (fun k => (m (c, Proc.tc.devRef main_arg2) : Vec Ideal S1024x7144 .f32) (ix2 k (wseg 3560 (by decide) j))) :=
  (out5_at _ _ _ ⟨r.val % 512, Nat.mod_lt _ (by decide)⟩ j).trans (proj_arg m c r ⟨1024 + j.val, by omega⟩ (wseg 3560 (by decide) j) (by show 3560 + j.val = 2536 + (1024 + j.val); omega))

end Arguments

end Cert.BandIdeal.Rows
-- ==== Proof.BandRef.lean ====
/-
  The reference of the band mixer's projections, row by row, from the arguments.
-/
module

public import proofs.«01_k».proof.Proof.Gen.BandReferenceIdeal.Run
public import proofs.«01_k».proof.Proof.TailRef
public import proofs.«01_k».proof.Proof.BandArray

@[expose] public section

set_option maxRecDepth 16384
set_option maxHeartbeats 2000000

noncomputable section

namespace Cert.BandReferenceIdeal.Ref

open Idealize.ShloMosaic Idealize.ShloMosaic.TcCoe Idealize.ShloMosaic.Tactic Idealize.SL.Sem
open Cert.BandReferenceIdeal Cert.BandReferenceIdeal.Gen Cert.RowOps
open Cert.TailReferenceIdeal.Ref (z z_at)

/-- The columns from `o` on. -/
def part {F : FTy → Type} [FloatOps F] (x : FVec F S4x8192x1024 .f32) (g : FVec F S1024 .f32) (w : FVec F S1024x7144 .f32) (o : ℕ) (h : S4x8192x7144.Slices ![0, 0, o] S4x8192x512) : FVec F S32768x512 .bf16 :=
  truncf .bf16 (shapeCast S32768x512 (extractStridedSlice S4x8192x512 ![0, 0, o] (z x g w) h) shapeCasts_S4x8192x512_S32768x512) bitsLt_bf16_f32

/-- The queries' columns, scaled. -/
def scaled {F : FTy → Type} [FloatOps F] (x : FVec F S4x8192x1024 .f32) (g : FVec F S1024 .f32) (w : FVec F S1024x7144 .f32) : FVec F S32768x512 .bf16 :=
  truncf .bf16 (shapeCast S32768x512 (mulf (extractStridedSlice S4x8192x512 ![0, 0, 2536] (z x g w) slices_S4x8192x7144_S4x8192x512_0_0_2536) (broadcastInDim S4x8192x512 ![] bcast_S_S4x8192x512 (constant S_ .f32 0x3E38AA3B#32))) shapeCasts_S4x8192x512_S32768x512) bitsLt_bf16_f32

/-- The columns at an index. -/
theorem part_at (x : FVec Ideal S4x8192x1024 .f32) (g : FVec Ideal S1024 .f32) (w : FVec Ideal S1024x7144 .f32) (o : ℕ) (h : S4x8192x7144.Slices ![0, 0, o] S4x8192x512) (ho : o + 512 ≤ 7144) (r : Fin 32768) (j : Fin 512) :
    part (F := Ideal) x g w o h (ix2 r j) = proj (fun k => x (ix3 (bat r) (pos r) k)) (fun k => g (ix1 k)) (fun k => w (ix2 k (wseg o ho j))) := by
  refine Eq.trans ?_ (z_at x g w _ _ _)
  pointwise [part, wseg, bat, pos]

/-- The queries' columns at an index. -/
theorem scaled_at (x : FVec Ideal S4x8192x1024 .f32) (g : FVec Ideal S1024 .f32) (w : FVec Ideal S1024x7144 .f32) (r : Fin 32768) (j : Fin 512) :
    scaled (F := Ideal) x g w (ix2 r j)
      = proj (fun k => x (ix3 (bat r) (pos r) k)) (fun k => g (ix1 k)) (fun k => w (ix2 k (wseg 2536 (by decide) j))) * Cert.BandIdeal.Rows.scale := by
  refine Eq.trans ?_ (congrArg (· * Cert.BandIdeal.Rows.scale) (z_at x g w _ _ _))
  pointwise [scaled, wseg, bat, pos]
  rfl

/-- The reference ends with its results in the result arrays and its arguments unchanged. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = scaled (m (c, Proc.tc.devRef main_arg0)) (m (c, Proc.tc.devRef main_arg1)) (m (c, Proc.tc.devRef main_arg2))
      ∧ r.2.mem ((c.tc : Thread nD τ).loc main_v32) = part (m (c, Proc.tc.devRef main_arg0)) (m (c, Proc.tc.devRef main_arg1)) (m (c, Proc.tc.devRef main_arg2)) 3048 slices_S4x8192x7144_S4x8192x512_0_0_3048
      ∧ r.2.mem ((c.tc : Thread nD τ).loc main_v34) = part (m (c, Proc.tc.devRef main_arg0)) (m (c, Proc.tc.devRef main_arg1)) (m (c, Proc.tc.devRef main_arg2)) 3560 slices_S4x8192x7144_S4x8192x512_0_0_3560
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2.1.trans rfl, (h c).2.2.1.trans rfl, (h c).2.2.2⟩) (Value.run m ρ)

end Cert.BandReferenceIdeal.Ref
-- ==== Proof.RopeRow.lean ====
/-
  The rotary embedding of one head's row, and its form on lanes: the row times a table of cosines plus the row's partner
  lanes times a table of signed sines.
-/
module

public import proofs.«01_k».proof.Proof.ProjRow

@[expose] public section

noncomputable section

namespace Cert.RowOps

open Idealize.ShloMosaic

/-- The embedding of a row of 64 channels: the first 16 turned in pairs, the others as they are. -/
def rope (c s : Fin 8 → EReal) (x : Fin 64 → EReal) (d : Fin 64) : EReal :=
  if h : d.val < 8 then x d * c ⟨d.val, h⟩ - x ⟨d.val + 8, by omega⟩ * s ⟨d.val, h⟩
  else if h : d.val < 16 then x d * c ⟨d.val - 8, by omega⟩ + x ⟨d.val - 8, by omega⟩ * s ⟨d.val - 8, by omega⟩
  else x d

/-- The tables at a channel. -/
def cosLane (c : Fin 8 → EReal) (d : ℕ) : EReal := if d < 16 then c ⟨d % 8, Nat.mod_lt _ (by decide)⟩ else 1
def sinLane (s : Fin 8 → EReal) (d : ℕ) : EReal :=
  if d < 8 then -s ⟨d % 8, Nat.mod_lt _ (by decide)⟩ else if d < 16 then s ⟨d % 8, Nat.mod_lt _ (by decide)⟩ else 0

/-- The head and the channel of a lane. -/
def lane (l : ℕ) (d : Fin 64) (hl : l < 128) : Fin 128 := ⟨l / 64 * 64 + d.val, by have := d.isLt; omega⟩

/-- The embedding on lanes. -/
theorem lane_rope (x : Fin 128 → EReal) (c s : Fin 8 → EReal) (l : Fin 128) :
    x l * cosLane c (l.val % 64) + (if l.val % 16 < 8 then x ⟨(l.val + 8) % 128, Nat.mod_lt _ (by decide)⟩ else x ⟨(l.val + 120) % 128, Nat.mod_lt _ (by decide)⟩) * sinLane s (l.val % 64)
      = rope c s (fun d => x (lane l.val d l.isLt)) ⟨l.val % 64, Nat.mod_lt _ (by decide)⟩ := by
  have hl := l.isLt
  have e0 : lane l.val ⟨l.val % 64, Nat.mod_lt _ (by decide)⟩ l.isLt = l := Fin.ext (by show l.val / 64 * 64 + l.val % 64 = l.val; omega)
  unfold rope cosLane sinLane
  by_cases h8 : l.val % 64 < 8
  · have h16 : l.val % 16 < 8 := by omega
    rw [if_pos (by omega), if_pos h16, if_pos h8, dif_pos h8, mul_neg, ← sub_eq_add_neg]
    dsimp only
    rw [e0]
    have e1 : (⟨(l.val + 8) % 128, Nat.mod_lt _ (by decide)⟩ : Fin 128) = lane l.val ⟨l.val % 64 + 8, by omega⟩ l.isLt := Fin.ext (by show (l.val + 8) % 128 = l.val / 64 * 64 + (l.val % 64 + 8); omega)
    have e2 : (⟨l.val % 64 % 8, Nat.mod_lt _ (by decide)⟩ : Fin 8) = ⟨l.val % 64, h8⟩ := Fin.ext (by show l.val % 64 % 8 = l.val % 64; omega)
    rw [e1, e2]
  · by_cases h16 : l.val % 64 < 16
    · have hn : ¬ l.val % 16 < 8 := by omega
      rw [if_pos h16, if_neg hn, if_neg h8, if_pos h16, dif_neg h8, dif_pos h16]
      dsimp only
      rw [e0]
      have e1 : (⟨(l.val + 120) % 128, Nat.mod_lt _ (by decide)⟩ : Fin 128) = lane l.val ⟨l.val % 64 - 8, by omega⟩ l.isLt := Fin.ext (by show (l.val + 120) % 128 = l.val / 64 * 64 + (l.val % 64 - 8); omega)
      have e2 : (⟨l.val % 64 % 8, Nat.mod_lt _ (by decide)⟩ : Fin 8) = ⟨l.val % 64 - 8, by omega⟩ := Fin.ext (by show l.val % 64 % 8 = l.val % 64 - 8; omega)
      rw [e1, e2]
    · rw [if_neg h16, if_neg h8, if_neg h16, dif_neg h8, dif_neg h16, mul_one, mul_zero, add_zero]
      dsimp only
      rw [e0]

/-- The channels of a column's head. -/
def head (j : Fin 512) (d : Fin 64) : Fin 512 := ⟨j.val / 64 * 64 + d.val, by have := d.isLt; have := j.isLt; omega⟩
def chan (j : Fin 512) : Fin 64 := ⟨j.val % 64, Nat.mod_lt _ (by decide)⟩

/-- The embedding of a row of eight heads. -/
def heads (c s : Fin 8 → EReal) (x : Fin 512 → EReal) (j : Fin 512) : EReal := rope c s (fun d => x (head j d)) (chan j)

end Cert.RowOps
-- ==== Proof.SelectBlock.lean ====
/-
  Mixer B's projection call: what a grid point leaves in its blocks.
-/
module

public import proofs.«01_k».proof.Proof.Gen.SelectIdeal.Value
public import proofs.«01_k».proof.Proof.RopeRow
public import proofs.«01_k».proof.Proof.RowBlocks

@[expose] public section

set_option maxRecDepth 16384
set_option maxHeartbeats 2000000

noncomputable section

namespace Cert.SelectIdeal.Rows

open Idealize.ShloMosaic Idealize.ShloMosaic.TcCoe Idealize.ShloMosaic.Tactic Idealize.SL.Sem
open Cert.SelectIdeal Cert.SelectIdeal.Gen Cert.RowOps

section Terms
variable {F : FTy → Type} [FloatOps F]

/-- The lanes that are the first of their pair. -/
def first : IVec S512x128 1 :=
  cmpi .slt (select (andi k0_pay12 k0_pay11) (addi k0_pay10 (broadcast S512x128 (Scalar.select (Scalar.cmpi .eq 16#32 0#32) 1#32 16#32))) k0_pay10) (broadcast S512x128 8#32)

/-- The embedding of 128 lanes. -/
def turn (cos sin x : FVec F S512x128 .f32) : FVec F S512x128 .f32 :=
  addf (mulf x cos) (mulf (select first (dynamicRotate 1 120#32 none x rotates_S512x128_d1) (dynamicRotate 1 8#32 none x rotates_S512x128_d1)) sin)

/-- The embedding of 512 lanes. -/
def four (cos sin : FVec F S512x128 .f32) (x : FVec F S512x512 .f32) : FVec F S512x512 .f32 :=
  concatenate S512x512 1 [⟨S512x128, turn cos sin (extractStridedSlice S512x128 ![0, 0] x slices_S512x512_o0_0_S512x128)⟩,
    ⟨S512x128, turn cos sin (extractStridedSlice S512x128 ![0, 128] x slices_S512x512_o0_128_S512x128)⟩,
    ⟨S512x128, turn cos sin (extractStridedSlice S512x128 ![0, 256] x slices_S512x512_o0_256_S512x128)⟩,
    ⟨S512x128, turn cos sin (extractStridedSlice S512x128 ![0, 384] x slices_S512x512_o0_384_S512x128)⟩] concatenates_S512x128_S512x128_S512x128_S512x128_S512x512_d1

variable (x0 : Vec F S512x1024 .f32) (x1 : Vec F S1x1024 .f32) (x2 : Vec F S1024x2304 .bf16) (x3 x4 x5 x6 : Vec F S512x128 .f32)

/-- The projections and the tables as the body loads them. -/
def zl : FVec F S512x2304 .f32 := k0_pay5 (View.ld x0 r0_0) (View.ld x1 r0_1) (View.ld x2 r0_2)
def tl (x : Vec F S512x128 .f32) : FVec F S512x128 .f32 := shapeCast S512x128 (View.ld x r0_3) shapeCasts_S512x128_S512x128

theorem out7_eq : out0_7 x0 x1 x2 x3 x4 x5 x6 = View.canon [⟨r0_4, truncf .bf16 (mulf (four (tl x3) (tl x4) (extractStridedSlice S512x512 ![0, 0] (zl x0 x1 x2) slices_S512x2304_o0_0_S512x512)) (broadcast S512x512 (Scalar.ofBits .f32 0x3E38AA3B#32))) bitsLt_bf16_f32⟩] := rfl
theorem out13_eq : out0_13 x0 x1 x2 x3 x4 x5 x6 = View.canon [⟨r0_4, four (tl x3) (tl x4) (extractStridedSlice S512x512 ![0, 512] (zl x0 x1 x2) slices_S512x2304_o0_512_S512x512)⟩] := rfl
theorem out8_eq : out0_8 x0 x1 x2 x3 x4 x5 x6 = View.canon [⟨r0_4, truncf .bf16 (four (tl x3) (tl x4) (extractStridedSlice S512x512 ![0, 512] (zl x0 x1 x2) slices_S512x2304_o0_512_S512x512)) bitsLt_bf16_f32⟩] := rfl
theorem out14_eq : out0_14 x0 x1 x2 x3 x4 x5 x6 = View.canon [⟨r0_4, extractStridedSlice S512x512 ![0, 1024] (zl x0 x1 x2) slices_S512x2304_o0_1024_S512x512⟩] := rfl
theorem out9_eq : out0_9 x0 x1 x2 x3 x4 x5 x6 = View.canon [⟨r0_4, truncf .bf16 (extractStridedSlice S512x512 ![0, 1024] (zl x0 x1 x2) slices_S512x2304_o0_1024_S512x512) bitsLt_bf16_f32⟩] := rfl
theorem out10_eq : out0_10 x0 x1 x2 x3 x4 x5 x6 = View.canon [⟨r0_4, truncf .bf16 (mulf (four (tl x3) (tl x4) (extractStridedSlice S512x512 ![0, 1536] (zl x0 x1 x2) slices_S512x2304_o0_1536_S512x512)) (broadcast S512x512 (Scalar.ofBits .f32 0x3E000000#32))) bitsLt_bf16_f32⟩] := rfl
/-- The indexer's keys, on 128 lanes. -/
def ikl : FVec F S512x128 .f32 := turn (tl x5) (tl x6) (extractStridedSlice S512x128 ![0, 2048] (zl x0 x1 x2) slices_S512x2304_o0_2048_S512x128)
theorem out11_eq : out0_11 x0 x1 x2 x3 x4 x5 x6 = View.canon [⟨r0_3, truncf .bf16 (select (cmpi .slt (iota .tc S512x128 32 [1] iota_S512x128_d1_w32) (broadcast S512x128 64#32)) (ikl x0 x1 x2 x5 x6) (dynamicRotate 1 64#32 none (ikl x0 x1 x2 x5 x6) rotates_S512x128_d1)) bitsLt_bf16_f32⟩] := rfl
theorem out15_eq : out0_15 x0 x1 x2 x3 x4 x5 x6 = View.canon [⟨r0_5, extractStridedSlice S512x64 ![0, 0] (ikl x0 x1 x2 x5 x6) slices_S512x128_o0_0_S512x64⟩] := rfl
theorem out12_eq : out0_12 x0 x1 x2 x3 x4 x5 x6 = View.canon [⟨r0_3, mulf (extractStridedSlice S512x128 ![0, 2176] (zl x0 x1 x2) slices_S512x2304_o0_2176_S512x128) (broadcast S512x128 (Scalar.ofBits .f32 0x3EB504F3#32))⟩] := rfl

end Terms

/-- Which lanes are the first of their pair. -/
theorem first_at (r : Fin 512) (l : Fin 128) : first (ix2 r l) = if l.val % 16 < 8 then 1#1 else 0#1 := by
  have h : ∀ l : Fin 128, first (ix2 0 l) = if l.val % 16 < 8 then 1#1 else 0#1 := by
    decide +kernel
  exact h l

/-- The embedding of 128 lanes, at a lane whose tables are the row's. -/
theorem turn_at (C S x : FVec Ideal S512x128 .f32) (c s : Fin 8 → EReal) (r : Fin 512) (l : Fin 128)
    (hC : C (ix2 r l) = cosLane c (l.val % 64)) (hS : S (ix2 r l) = sinLane s (l.val % 64)) :
    turn (F := Ideal) C S x (ix2 r l) = rope c s (fun d => x (ix2 r (lane l.val d l.isLt))) ⟨l.val % 64, Nat.mod_lt _ (by decide)⟩ := by
  refine Eq.trans ?_ (lane_rope (fun l => x (ix2 r l)) c s l)
  have hf := first_at r l
  rw [← hC, ← hS]
  pointwise [turn]
  rw [hf]
  have e1 : l.val + 128 - 120 = l.val + 8 := by omega
  have e2 : l.val + 128 - 8 = l.val + 120 := by omega
  simp only [e1, e2]
  split <;> rfl

/-- One piece of the 512 lanes. -/
theorem piece_at (C S : FVec Ideal S512x128 .f32) (x : FVec Ideal S512x512 .f32) (c s : Fin 8 → EReal) (r : Fin 512)
    (hC : ∀ l, C (ix2 r l) = cosLane c (l.val % 64)) (hS : ∀ l, S (ix2 r l) = sinLane s (l.val % 64))
    (o : ℕ) (h : S512x512.Slices ![0, o] S512x128) (ho : o % 128 = 0) (j : Fin 512) (l : Fin 128) (hj : j.val = o + l.val) :
    turn (F := Ideal) C S (extractStridedSlice S512x128 ![0, o] x h) (ix2 r l) = heads c s (fun q => x (ix2 r q)) j := by
  refine (turn_at C S _ c s r l (hC l) (hS l)).trans ?_
  have e0 : (⟨l.val % 64, Nat.mod_lt _ (by decide)⟩ : Fin 64) = chan j := Fin.ext (by show l.val % 64 = j.val % 64; omega)
  rw [e0]
  refine congrArg (fun f => rope c s f (chan j)) (funext fun d => ?_)
  refine Eq.trans (b := x (ix2 r ⟨o + (lane l.val d l.isLt).val, by show o + (l.val / 64 * 64 + d.val) < 512; have := j.isLt; have := d.isLt; have := l.isLt; omega⟩)) (by pointwise []) ?_
  exact congrArg (fun k => x (ix2 r k)) (Fin.ext (by show o + (l.val / 64 * 64 + d.val) = j.val / 64 * 64 + d.val; omega))

/-- The embedding of 512 lanes, on a row whose tables are the row's. -/
theorem four_at (C S : FVec Ideal S512x128 .f32) (x : FVec Ideal S512x512 .f32) (c s : Fin 8 → EReal) (r : Fin 512)
    (hC : ∀ l, C (ix2 r l) = cosLane c (l.val % 64)) (hS : ∀ l, S (ix2 r l) = sinLane s (l.val % 64)) (j : Fin 512) :
    four (F := Ideal) C S x (ix2 r j) = heads c s (fun q => x (ix2 r q)) j := by
  have hj := j.isLt
  pointwise [four]
  split
  · exact piece_at C S x c s r hC hS 0 _ rfl j _ (Nat.zero_add _).symm
  split
  · exact piece_at C S x c s r hC hS 128 _ rfl j _ (by show j.val = 128 + (j.val - 128); omega)
  split
  · exact piece_at C S x c s r hC hS 256 _ rfl j _ (by show j.val = 256 + (j.val - 128 - 128); omega)
  · exact piece_at C S x c s r hC hS 384 _ rfl j _ (by show j.val = 384 + (j.val - 128 - 128 - 128); omega)

/-- The projections. -/
theorem z_at (v0 : Vec Ideal S512x1024 .f32) (v2 : Vec Ideal S1x1024 .f32) (w : Vec Ideal S1024x2304 .bf16) (r : Fin 512) (j : Fin 2304) :
    k0_pay5 (F := Ideal) v0 v2 w (ix2 r j) = proj (fun k => v0 (ix2 r k)) (fun k => v2 (ix2 0 k)) (fun k => w (ix2 k j)) := by
  pointwise [k0_pay5]
  rfl

theorem hz : (![0, 0] : Fin 2 → ℕ) = fun _ => 0 := by
  funext a; match a with | ⟨0, _⟩ => rfl | ⟨1, _⟩ => rfl

section Points

variable (x0 : Vec Ideal S512x1024 .f32) (x1 : Vec Ideal S1x1024 .f32) (x2 : Vec Ideal S1024x2304 .bf16) (x3 x4 x5 x6 : Vec Ideal S512x128 .f32)

/-- A row's projections. -/
def zrow (r : Fin 512) (q : Fin 2304) : EReal := proj (fun k => x0 (ix2 r k)) (fun k => x1 (ix2 0 k)) (fun k => x2 (ix2 k q))

/-- A column from `o` on. -/
def zseg {n : ℕ} (o : ℕ) (h : o + n ≤ 2304) (j : Fin n) : Fin 2304 := ⟨o + j.val, by have := j.isLt; omega⟩

/-- A lane of the first half. -/
def low (l : Fin 64) : Fin 128 := ⟨l.val, by have := l.isLt; omega⟩

theorem zl_at (r : Fin 512) (q : Fin 2304) : zl (F := Ideal) x0 x1 x2 (ix2 r q) = zrow x0 x1 x2 r q := by
  unfold zl
  rw [show View.ld x0 r0_0 = x0 from View.ld_unit_zero hz _ _, show View.ld x1 r0_1 = x1 from View.ld_unit_zero hz _ _, show View.ld x2 r0_2 = x2 from View.ld_unit_zero hz _ _]
  exact z_at x0 x1 x2 r q

theorem tl_at (x : Vec Ideal S512x128 .f32) (r : Fin 512) (l : Fin 128) : tl (F := Ideal) x (ix2 r l) = x (ix2 r l) := by
  unfold tl
  rw [show View.ld x r0_3 = x from View.ld_unit_zero hz _ _]
  pointwise []

/-- The columns from `o` on. -/
theorem seg_at (o : ℕ) (h : S512x2304.Slices ![0, o] S512x512) (ho : o + 512 ≤ 2304) (r : Fin 512) (q : Fin 512) :
    extractStridedSlice S512x512 ![0, o] (zl (F := Ideal) x0 x1 x2) h (ix2 r q) = zrow x0 x1 x2 r (zseg o ho q) := by
  refine Eq.trans ?_ (zl_at x0 x1 x2 r _)
  pointwise [zseg]
theorem last_at (o : ℕ) (h : S512x2304.Slices ![0, o] S512x128) (ho : o + 128 ≤ 2304) (r : Fin 512) (q : Fin 128) :
    extractStridedSlice S512x128 ![0, o] (zl (F := Ideal) x0 x1 x2) h (ix2 r q) = zrow x0 x1 x2 r (zseg o ho q) := by
  refine Eq.trans ?_ (zl_at x0 x1 x2 r _)
  pointwise [zseg]

/-- The multipliers of the attention's queries, the indexer's queries and the indexer's weights. -/
def bScale : EReal := Scalar.ofBits (F := Ideal) .f32 0x3E38AA3B#32
def iScale : EReal := Scalar.ofBits (F := Ideal) .f32 0x3E000000#32
def wScale : EReal := Scalar.ofBits (F := Ideal) .f32 0x3EB504F3#32

variable (c s : Fin 8 → EReal) (r : Fin 512)

section Heads

variable (hC : ∀ l, x3 (ix2 r l) = cosLane c (l.val % 64)) (hS : ∀ l, x4 (ix2 r l) = sinLane s (l.val % 64))
include hC hS

/-- The heads embedded, from column `o` on. -/
theorem heads_at (o : ℕ) (h : S512x2304.Slices ![0, o] S512x512) (ho : o + 512 ≤ 2304) (j : Fin 512) :
    four (F := Ideal) (tl x3) (tl x4) (extractStridedSlice S512x512 ![0, o] (zl x0 x1 x2) h) (ix2 r j) = heads c s (fun q => zrow x0 x1 x2 r (zseg o ho q)) j :=
  (four_at _ _ _ c s r (fun l => (tl_at x3 r l).trans (hC l)) (fun l => (tl_at x4 r l).trans (hS l)) j).trans
    (congrArg (fun f => heads c s f j) (funext fun q => seg_at x0 x1 x2 o h ho r q))

/-- What a point leaves: the queries, scaled, -/
theorem out7_at (j : Fin 512) : out0_7 (F := Ideal) x0 x1 x2 x3 x4 x5 x6 (ix2 r j) = heads c s (fun q => zrow x0 x1 x2 r (zseg 0 (by decide) q)) j * bScale := by
  rw [out7_eq]
  refine (congrFun (View.canon_unit_zero hz _ _) (ix2 r j)).trans ?_
  exact congrArg (· * bScale) (heads_at x0 x1 x2 x3 x4 c s r hC hS 0 _ (by decide) j)
/-- the keys, in both formats, -/
theorem out8_at (j : Fin 512) : out0_8 (F := Ideal) x0 x1 x2 x3 x4 x5 x6 (ix2 r j) = heads c s (fun q => zrow x0 x1 x2 r (zseg 512 (by decide) q)) j := by
  rw [out8_eq]
  refine (congrFun (View.canon_unit_zero hz _ _) (ix2 r j)).trans ?_
  exact heads_at x0 x1 x2 x3 x4 c s r hC hS 512 _ (by decide) j
theorem out13_at (j : Fin 512) : out0_13 (F := Ideal) x0 x1 x2 x3 x4 x5 x6 (ix2 r j) = heads c s (fun q => zrow x0 x1 x2 r (zseg 512 (by decide) q)) j := by
  rw [out13_eq]
  refine (congrFun (View.canon_unit_zero hz _ _) (ix2 r j)).trans ?_
  exact heads_at x0 x1 x2 x3 x4 c s r hC hS 512 _ (by decide) j
/-- the indexer's queries, scaled, -/
theorem out10_at (j : Fin 512) : out0_10 (F := Ideal) x0 x1 x2 x3 x4 x5 x6 (ix2 r j) = heads c s (fun q => zrow x0 x1 x2 r (zseg 1536 (by decide) q)) j * iScale := by
  rw [out10_eq]
  refine (congrFun (View.canon_unit_zero hz _ _) (ix2 r j)).trans ?_
  exact congrArg (· * iScale) (heads_at x0 x1 x2 x3 x4 c s r hC hS 1536 _ (by decide) j)

end Heads

/-- the values, in both formats, -/
theorem out9_at (j : Fin 512) : out0_9 (F := Ideal) x0 x1 x2 x3 x4 x5 x6 (ix2 r j) = zrow x0 x1 x2 r (zseg 1024 (by decide) j) := by
  rw [out9_eq]
  refine (congrFun (View.canon_unit_zero hz _ _) (ix2 r j)).trans ?_
  exact seg_at x0 x1 x2 1024 slices_S512x2304_o0_1024_S512x512 (by decide) r j
theorem out14_at (j : Fin 512) : out0_14 (F := Ideal) x0 x1 x2 x3 x4 x5 x6 (ix2 r j) = zrow x0 x1 x2 r (zseg 1024 (by decide) j) := by
  rw [out14_eq]
  refine (congrFun (View.canon_unit_zero hz _ _) (ix2 r j)).trans ?_
  exact seg_at x0 x1 x2 1024 slices_S512x2304_o0_1024_S512x512 (by decide) r j

section Keys

variable (hC : ∀ l : Fin 64, x5 (ix2 r (low l)) = cosLane c l.val) (hS : ∀ l : Fin 64, x6 (ix2 r (low l)) = sinLane s l.val)
include hC hS

/-- the indexer's keys, -/
theorem ikl_at (d : Fin 64) (l : Fin 128) (hl : l.val = d.val) : ikl (F := Ideal) x0 x1 x2 x5 x6 (ix2 r l) = rope c s (fun d => zrow x0 x1 x2 r (zseg 2048 (by decide) d)) d := by
  have el : l = low d := Fin.ext hl
  have hd : l.val % 64 = d.val := by omega
  have e0 : (⟨l.val % 64, Nat.mod_lt _ (by decide)⟩ : Fin 64) = d := Fin.ext hd
  refine (turn_at _ _ _ c s r l ((tl_at x5 r l).trans ?_) ((tl_at x6 r l).trans ?_)).trans ?_
  · rw [hd, el]; exact hC d
  · rw [hd, el]; exact hS d
  · rw [e0]
    refine congrArg (fun f => rope c s f d) (funext fun d' => (last_at x0 x1 x2 2048 _ (by decide) r _).trans (congrArg (zrow x0 x1 x2 r) (Fin.ext ?_)))
    show 2048 + (l.val / 64 * 64 + d'.val) = 2048 + d'.val
    omega

theorem out15_at (j : Fin 64) : out0_15 (F := Ideal) x0 x1 x2 x3 x4 x5 x6 (ix2 r j) = rope c s (fun d => zrow x0 x1 x2 r (zseg 2048 (by decide) d)) j := by
  rw [out15_eq]
  refine (congrFun (View.canon_unit_zero hz _ _) (ix2 r j)).trans ?_
  refine Eq.trans ?_ (ikl_at x0 x1 x2 x5 x6 c s r hC hS j ⟨j.val, by omega⟩ rfl)
  pointwise []

/-- the same twice over, -/
theorem out11_at (l : Fin 128) : out0_11 (F := Ideal) x0 x1 x2 x3 x4 x5 x6 (ix2 r l) = rope c s (fun d => zrow x0 x1 x2 r (zseg 2048 (by decide) d)) ⟨l.val % 64, Nat.mod_lt _ (by decide)⟩ := by
  rw [out11_eq]
  refine (congrFun (View.canon_unit_zero hz _ _) (ix2 r l)).trans ?_
  have hm : ∀ l : Fin 128, cmpi .slt (iota .tc S512x128 32 [1] iota_S512x128_d1_w32) (broadcast S512x128 64#32) (ix2 0 l) = if l.val < 64 then 1#1 else 0#1 := by decide +kernel
  have hm' : cmpi .slt (iota .tc S512x128 32 [1] iota_S512x128_d1_w32) (broadcast S512x128 64#32) (ix2 r l) = if l.val < 64 then 1#1 else 0#1 := hm l
  generalize cmpi .slt (iota .tc S512x128 32 [1] iota_S512x128_d1_w32) (broadcast S512x128 64#32) = M at hm'
  generalize hk : ikl (F := Ideal) x0 x1 x2 x5 x6 = K
  have hK := ikl_at x0 x1 x2 x5 x6 c s r hC hS ⟨l.val % 64, Nat.mod_lt _ (by decide)⟩
  rw [hk] at hK
  pointwise []
  rw [hm']
  split
  · exact hK _ (by show l.val = l.val % 64; omega)
  · exact hK _ (by show (l.val + 128 - 64) % 128 = l.val % 64; omega)

end Keys

/-- and the indexer's weights, scaled. -/
theorem out12_at (l : Fin 128) : out0_12 (F := Ideal) x0 x1 x2 x3 x4 x5 x6 (ix2 r l) = zrow x0 x1 x2 r (zseg 2176 (by decide) l) * wScale := by
  rw [out12_eq]
  refine (congrFun (View.canon_unit_zero hz _ _) (ix2 r l)).trans ?_
  exact congrArg (· * wScale) (last_at x0 x1 x2 2176 _ (by decide) r l)

end Points

end Cert.SelectIdeal.Rows
-- ==== Proof.SelectArray.lean ====
/-
  Mixer B's projection call: its nine result arrays, row by row, from the arguments.
-/
module

public import proofs.«01_k».proof.Proof.SelectBlock
public import Idealize.ShloMosaic.Lib.StableHlo.Run

@[expose] public section

set_option maxRecDepth 16384
set_option maxHeartbeats 4000000

noncomputable section

namespace Cert.SelectIdeal.Rows

open Idealize.ShloMosaic Idealize.ShloMosaic.TcCoe Idealize.ShloMosaic.Tactic Idealize.SL.Sem Idealize.ShloMosaic.StableHlo
open Cert.SelectIdeal Cert.SelectIdeal.Gen Cert.RowOps
open Idealize.ShloMosaic.Pipeline (Dat)

/-- The blocks hold every row. -/
theorem rows_0 : 32768 ≤ 512 * grid0.N := by rw [N_0]

/-- The angle of a position and a pair, and its cosine and sine. -/
def angle {F : FTy → Type} [FloatOps F] : FVec F S8192x8 .f32 :=
  mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))
def cosRow (p : Fin 8192) (i : Fin 8) : EReal := Host.cos (angle (F := Ideal)) (ix2 p i)
def sinRow (p : Fin 8192) (i : Fin 8) : EReal := Host.sin (angle (F := Ideal)) (ix2 p i)

section Tables
variable {F : FTy → Type} [FloatOps F]

/-- The tables of 64 lanes. -/
def cos64 : FVec F S8192x64 .f32 := concatenate S8192x64 1 [⟨S8192x8, Host.cos angle⟩, ⟨S8192x8, Host.cos angle⟩, ⟨S8192x48, broadcastInDim S8192x48 ![] bcast_S_S8192x48 (constant S_ .f32 0x3F800000#32)⟩] concatenates_S8192x8_S8192x8_S8192x48_S8192x64_d1
def sin64 : FVec F S8192x64 .f32 := concatenate S8192x64 1 [⟨S8192x8, Host.negf (Host.sin angle)⟩, ⟨S8192x8, Host.sin angle⟩, ⟨S8192x48, broadcastInDim S8192x48 ![] bcast_S_S8192x48 (constant S_ .f32 0x00000000#32)⟩] concatenates_S8192x8_S8192x8_S8192x48_S8192x64_d1

end Tables

theorem cos64_at (p : Fin 8192) (l : Fin 64) : cos64 (F := Ideal) (ix2 p l) = cosLane (cosRow p) l.val := by
  have hl := l.isLt
  pointwise [cos64]
  unfold cosLane
  by_cases h8 : l.val < 8
  · refine (dif_pos h8).trans (Eq.trans ?_ (if_pos (by omega)).symm)
    exact congrArg (cosRow p) (Fin.ext (by show l.val = l.val % 8; omega))
  · by_cases h16 : l.val < 16
    · refine (dif_neg h8).trans ((dif_pos (by omega)).trans (Eq.trans ?_ (if_pos h16).symm))
      exact congrArg (cosRow p) (Fin.ext (by show l.val - 8 = l.val % 8; omega))
    · exact (dif_neg h8).trans ((dif_neg (by omega)).trans (if_neg h16).symm)
theorem sin64_at (p : Fin 8192) (l : Fin 64) : sin64 (F := Ideal) (ix2 p l) = sinLane (sinRow p) l.val := by
  have hl := l.isLt
  pointwise [sin64]
  unfold sinLane
  by_cases h8 : l.val < 8
  · refine (dif_pos h8).trans (Eq.trans ?_ (if_pos h8).symm)
    exact congrArg (fun i => -sinRow p i) (Fin.ext (by show l.val = l.val % 8; omega))
  · by_cases h16 : l.val < 16
    · refine (dif_neg h8).trans ((dif_pos (by omega)).trans (Eq.trans ?_ ((if_neg h8).trans (if_pos h16)).symm))
      exact congrArg (sinRow p) (Fin.ext (by show l.val - 8 = l.val % 8; omega))
    · exact (dif_neg h8).trans ((dif_neg (by omega)).trans ((if_neg h8).trans (if_neg h16)).symm)

section Generic

variable {F : FTy → Type} [FloatOps F]
variable (m : (ℓ : Loc nD τ sig) → Buf (Elt F) ℓ)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val % 16 ∧ win0_3.index t 1 = 0 := by decide +kernel
theorem index7 : ∀ t : Fin grid0.N, win0_7.index t 0 = t.val ∧ win0_7.index t 1 = 0 := by decide +kernel
theorem index11 : ∀ t : Fin grid0.N, win0_11.index t 0 = t.val ∧ win0_11.index t 1 = 0 := by decide +kernel
theorem index15 : ∀ t : Fin grid0.N, win0_15.index t 0 = t.val ∧ win0_15.index t 1 = 0 := by decide +kernel

theorem rect7 : ∀ t : Fin grid0.N, win0_7.index t 0 * win0_7.size 0 = 512 * t.val ∧ win0_7.index t 1 * win0_7.size 1 = 0
    ∧ win0_7.xsize (grid0.coords t) 0 = 512 ∧ win0_7.xsize (grid0.coords t) 1 = 512 := by decide +kernel
theorem rect11 : ∀ t : Fin grid0.N, win0_11.index t 0 * win0_11.size 0 = 512 * t.val ∧ win0_11.index t 1 * win0_11.size 1 = 0
    ∧ win0_11.xsize (grid0.coords t) 0 = 512 ∧ win0_11.xsize (grid0.coords t) 1 = 128 := by decide +kernel
theorem rect15 : ∀ t : Fin grid0.N, win0_15.index t 0 * win0_15.size 0 = 512 * t.val ∧ win0_15.index t 1 * win0_15.size 1 = 0
    ∧ win0_15.xsize (grid0.coords t) 0 = 512 ∧ win0_15.xsize (grid0.coords t) 1 = 64 := by decide +kernel

/-- The array of given blocks, read through a point's window, is the point's block. -/
theorem spread7 {e : EltTy} (B : Fin grid0.N → Vec F S512x512 e) (t : Fin cfg0.N) (j : S512x512.Idx) :
    spread rows_0 B ((win0_7.rect t).idx j) = B t j :=
  spread_at rows_0 B t j ((win0_7.rect t).idx j)
    (by show win0_7.index t 0 * 512 + 1 * (j 0).val = _; rw [(index7 t).1]; omega)
    (by show win0_7.index t 1 * 512 + 1 * (j 1).val = _; rw [(index7 t).2]; omega)
theorem spread11 {e : EltTy} (B : Fin grid0.N → Vec F S512x128 e) (t : Fin cfg0.N) (j : S512x128.Idx) :
    spread rows_0 B ((win0_11.rect t).idx j) = B t j :=
  spread_at rows_0 B t j ((win0_11.rect t).idx j)
    (by show win0_11.index t 0 * 512 + 1 * (j 0).val = _; rw [(index11 t).1]; omega)
    (by show win0_11.index t 1 * 128 + 1 * (j 1).val = _; rw [(index11 t).2]; omega)
theorem read7 (B : Fin grid0.N → Vec F S512x512 .bf16) (t : Fin cfg0.N) :
    (cfg0.win 7).cut (grid0.coords t) (B t) = ((cfg0.win 7).blk t).view.read (Elt F) (spread rows_0 B) := by
  funext j
  rw [View.read_apply]
  exact (spread7 B t j).symm
theorem read13 (B : Fin grid0.N → Vec F S512x512 .f32) (t : Fin cfg0.N) :
    (cfg0.win 13).cut (grid0.coords t) (B t) = ((cfg0.win 13).blk t).view.read (Elt F) (spread rows_0 B) := by
  funext j
  rw [View.read_apply]
  exact (spread7 B t j).symm
theorem read11 (B : Fin grid0.N → Vec F S512x128 .bf16) (t : Fin cfg0.N) :
    (cfg0.win 11).cut (grid0.coords t) (B t) = ((cfg0.win 11).blk t).view.read (Elt F) (spread rows_0 B) := by
  funext j
  rw [View.read_apply]
  exact (spread11 B t j).symm
theorem read12 (B : Fin grid0.N → Vec F S512x128 .f32) (t : Fin cfg0.N) :
    (cfg0.win 12).cut (grid0.coords t) (B t) = ((cfg0.win 12).blk t).view.read (Elt F) (spread rows_0 B) := by
  funext j
  rw [View.read_apply]
  exact (spread11 B t j).symm
theorem read15 (B : Fin grid0.N → Vec F S512x64 .f32) (t : Fin cfg0.N) :
    (cfg0.win 15).cut (grid0.coords t) (B t) = ((cfg0.win 15).blk t).view.read (Elt F) (spread rows_0 B) := by
  funext j
  rw [View.read_apply]
  exact (spread_at rows_0 B t j ((win0_15.rect t).idx j)
    (by show win0_15.index t 0 * 512 + 1 * (j 0).val = _; rw [(index15 t).1]; omega)
    (by show win0_15.index t 1 * 64 + 1 * (j 1).val = _; rw [(index15 t).2]; omega)).symm

/-- Row `i` lies in its point's block. -/
theorem cover7 (i : S32768x512.Idx) : i ∈ ((cfg0.win 7).blk (pt rows_0 (i 0))).view.set := by
  show i ∈ ((View.whole main_v59_0).slice (win0_7.rect (pt rows_0 (i 0)))).set
  rw [View.set_slice_whole, Rect.mem_set_unit]
  exact in_block rows_0 _ _ i (rect7 _)
theorem cover11 (i : S32768x128.Idx) : i ∈ ((cfg0.win 11).blk (pt rows_0 (i 0))).view.set := by
  show i ∈ ((View.whole main_v59_4).slice (win0_11.rect (pt rows_0 (i 0)))).set
  rw [View.set_slice_whole, Rect.mem_set_unit]
  exact in_block rows_0 _ _ i (rect11 _)
theorem cover15 (i : S32768x64.Idx) : i ∈ ((cfg0.win 15).blk (pt rows_0 (i 0))).view.set := by
  show i ∈ ((View.whole main_v59_8).slice (win0_15.rect (pt rows_0 (i 0)))).set
  rw [View.set_slice_whole, Rect.mem_set_unit]
  exact in_block rows_0 _ _ i (rect15 _)

/-- What each point leaves, of its input blocks. -/
def bqBlock (c : Dev nD) (t : Fin cfg0.N) : Vec F S512x512 .bf16 := out0_7 (F := F) (iblk m c 0 t) (iblk m c 1 t) (iblk m c 2 t) (iblk m c 3 t) (iblk m c 4 t) (iblk m c 5 t) (iblk m c 6 t)
def bkBlock (c : Dev nD) (t : Fin cfg0.N) : Vec F S512x512 .bf16 := out0_8 (F := F) (iblk m c 0 t) (iblk m c 1 t) (iblk m c 2 t) (iblk m c 3 t) (iblk m c 4 t) (iblk m c 5 t) (iblk m c 6 t)
def bvBlock (c : Dev nD) (t : Fin cfg0.N) : Vec F S512x512 .bf16 := out0_9 (F := F) (iblk m c 0 t) (iblk m c 1 t) (iblk m c 2 t) (iblk m c 3 t) (iblk m c 4 t) (iblk m c 5 t) (iblk m c 6 t)
def iqBlock (c : Dev nD) (t : Fin cfg0.N) : Vec F S512x512 .bf16 := out0_10 (F := F) (iblk m c 0 t) (iblk m c 1 t) (iblk m c 2 t) (iblk m c 3 t) (iblk m c 4 t) (iblk m c 5 t) (iblk m c 6 t)
def ikBlock (c : Dev nD) (t : Fin cfg0.N) : Vec F S512x128 .bf16 := out0_11 (F := F) (iblk m c 0 t) (iblk m c 1 t) (iblk m c 2 t) (iblk m c 3 t) (iblk m c 4 t) (iblk m c 5 t) (iblk m c 6 t)
def iwBlock (c : Dev nD) (t : Fin cfg0.N) : Vec F S512x128 .f32 := out0_12 (F := F) (iblk m c 0 t) (iblk m c 1 t) (iblk m c 2 t) (iblk m c 3 t) (iblk m c 4 t) (iblk m c 5 t) (iblk m c 6 t)
def bk32Block (c : Dev nD) (t : Fin cfg0.N) : Vec F S512x512 .f32 := out0_13 (F := F) (iblk m c 0 t) (iblk m c 1 t) (iblk m c 2 t) (iblk m c 3 t) (iblk m c 4 t) (iblk m c 5 t) (iblk m c 6 t)
def bv32Block (c : Dev nD) (t : Fin cfg0.N) : Vec F S512x512 .f32 := out0_14 (F := F) (iblk m c 0 t) (iblk m c 1 t) (iblk m c 2 t) (iblk m c 3 t) (iblk m c 4 t) (iblk m c 5 t) (iblk m c 6 t)
def ik32Block (c : Dev nD) (t : Fin cfg0.N) : Vec F S512x64 .f32 := out0_15 (F := F) (iblk m c 0 t) (iblk m c 1 t) (iblk m c 2 t) (iblk m c 3 t) (iblk m c 4 t) (iblk m c 5 t) (iblk m c 6 t)

/-- The nine result arrays. -/
def bq (c : Dev nD) : Buf (Elt F) ((c : Thread nD τ).loc main_v59_0) := spread rows_0 (bqBlock m c)
def bk (c : Dev nD) : Buf (Elt F) ((c : Thread nD τ).loc main_v59_1) := spread rows_0 (bkBlock m c)
def bv (c : Dev nD) : Buf (Elt F) ((c : Thread nD τ).loc main_v59_2) := spread rows_0 (bvBlock m c)
def iq (c : Dev nD) : Buf (Elt F) ((c : Thread nD τ).loc main_v59_3) := spread rows_0 (iqBlock m c)
def ik (c : Dev nD) : Buf (Elt F) ((c : Thread nD τ).loc main_v59_4) := spread rows_0 (ikBlock m c)
def iw (c : Dev nD) : Buf (Elt F) ((c : Thread nD τ).loc main_v59_5) := spread rows_0 (iwBlock m c)
def bk32 (c : Dev nD) : Buf (Elt F) ((c : Thread nD τ).loc main_v59_6) := spread rows_0 (bk32Block m c)
def bv32 (c : Dev nD) : Buf (Elt F) ((c : Thread nD τ).loc main_v59_7) := spread rows_0 (bv32Block m c)
def ik32 (c : Dev nD) : Buf (Elt F) ((c : Thread nD τ).loc main_v59_8) := spread rows_0 (ik32Block m c)

/-- The result arrays after the run. -/
theorem final7 (c : Dev nD) : (dats m 0 c).arrAt 7 cfg0.N = bq m c :=
  (dats m 0 c).arrAt_eq_of_cover 7 (bq m c) (fun t _ => (Value.flushed7 m c t).trans (read7 (bqBlock m c) t)) fun i => ⟨pt rows_0 (i 0), flush0_7 _, cover7 i⟩
theorem final8 (c : Dev nD) : (dats m 0 c).arrAt 8 cfg0.N = bk m c :=
  (dats m 0 c).arrAt_eq_of_cover 8 (bk m c) (fun t _ => (Value.flushed8 m c t).trans (read7 (bkBlock m c) t)) fun i => ⟨pt rows_0 (i 0), flush0_8 _, cover7 i⟩
theorem final9 (c : Dev nD) : (dats m 0 c).arrAt 9 cfg0.N = bv m c :=
  (dats m 0 c).arrAt_eq_of_cover 9 (bv m c) (fun t _ => (Value.flushed9 m c t).trans (read7 (bvBlock m c) t)) fun i => ⟨pt rows_0 (i 0), flush0_9 _, cover7 i⟩
theorem final10 (c : Dev nD) : (dats m 0 c).arrAt 10 cfg0.N = iq m c :=
  (dats m 0 c).arrAt_eq_of_cover 10 (iq m c) (fun t _ => (Value.flushed10 m c t).trans (read7 (iqBlock m c) t)) fun i => ⟨pt rows_0 (i 0), flush0_10 _, cover7 i⟩
theorem final11 (c : Dev nD) : (dats m 0 c).arrAt 11 cfg0.N = ik m c :=
  (dats m 0 c).arrAt_eq_of_cover 11 (ik m c) (fun t _ => (Value.flushed11 m c t).trans (read11 (ikBlock m c) t)) fun i => ⟨pt rows_0 (i 0), flush0_11 _, cover11 i⟩
theorem final12 (c : Dev nD) : (dats m 0 c).arrAt 12 cfg0.N = iw m c :=
  (dats m 0 c).arrAt_eq_of_cover 12 (iw m c) (fun t _ => (Value.flushed12 m c t).trans (read12 (iwBlock m c) t)) fun i => ⟨pt rows_0 (i 0), flush0_12 _, cover11 i⟩
theorem final13 (c : Dev nD) : (dats m 0 c).arrAt 13 cfg0.N = bk32 m c :=
  (dats m 0 c).arrAt_eq_of_cover 13 (bk32 m c) (fun t _ => (Value.flushed13 m c t).trans (read13 (bk32Block m c) t)) fun i => ⟨pt rows_0 (i 0), flush0_13 _, cover7 i⟩
theorem final14 (c : Dev nD) : (dats m 0 c).arrAt 14 cfg0.N = bv32 m c :=
  (dats m 0 c).arrAt_eq_of_cover 14 (bv32 m c) (fun t _ => (Value.flushed14 m c t).trans (read13 (bv32Block m c) t)) fun i => ⟨pt rows_0 (i 0), flush0_14 _, cover7 i⟩
theorem final15 (c : Dev nD) : (dats m 0 c).arrAt 15 cfg0.N = ik32 m c :=
  (dats m 0 c).arrAt_eq_of_cover 15 (ik32 m c) (fun t _ => (Value.flushed15 m c t).trans (read15 (ik32Block m c) t)) fun i => ⟨pt rows_0 (i 0), flush0_15 _, cover15 i⟩

/-- The input blocks: the rows of point `t`, the gains and the weights whole, and the tables of the point's positions. -/
theorem iblk0_at (c : Dev nD) (t : Fin cfg0.N) (i : Fin 512) (j : Fin 1024) (k : Fin 32768) (hk : k.val = 512 * t.val + i.val) :
    (iblk m c 0 t : Vec F S512x1024 .f32) (ix2 i j) = (V m c main_v0 : Vec F S32768x1024 .f32) (ix2 k j) := by
  unfold iblk
  rw [View.read_apply]
  exact congrArg (V m c main_v0 : Vec F S32768x1024 .f32) (idx_eq _ k j (by show win0_0.index t 0 * 512 + 1 * i.val = _; rw [(index0 t).1, hk]; omega)
    (by show win0_0.index t 1 * 1024 + 1 * j.val = _; rw [(index0 t).2]; omega))
theorem iblk1_at (c : Dev nD) (t : Fin cfg0.N) (i : Fin 1) (j : Fin 1024) :
    (iblk m c 1 t : Vec F S1x1024 .f32) (ix2 i j) = (V m c main_v1 : Vec F S1x1024 .f32) (ix2 i j) := by
  unfold iblk
  rw [View.read_apply]
  exact congrArg (V m c main_v1 : Vec F S1x1024 .f32) (idx_eq _ i j (by show win0_1.index t 0 * 1 + 1 * i.val = _; rw [(index1 t).1]; omega)
    (by show win0_1.index t 1 * 1024 + 1 * j.val = _; rw [(index1 t).2]; omega))
theorem iblk2_at (c : Dev nD) (t : Fin cfg0.N) (i : Fin 1024) (j : Fin 2304) :
    (iblk m c 2 t : Vec F S1024x2304 .bf16) (ix2 i j) = (V m c main_v11 : Vec F S1024x2304 .bf16) (ix2 i j) := by
  unfold iblk
  rw [View.read_apply]
  exact congrArg (V m c main_v11 : Vec F S1024x2304 .bf16) (idx_eq _ i j (by show win0_2.index t 0 * 1024 + 1 * i.val = _; rw [(index2 t).1]; omega)
    (by show win0_2.index t 1 * 2304 + 1 * j.val = _; rw [(index2 t).2]; omega))
theorem table_idx (t : Fin cfg0.N) (i : Fin 512) (j : Fin 128) (k : Fin 8192) (hk : k.val = 512 * (t.val % 16) + i.val) : (win0_3.rect t).idx (ix2 i j) = ix2 k j :=
  idx_eq _ k j (by show win0_3.index t 0 * 512 + 1 * i.val = _; rw [(index3 t).1, hk]; omega) (by show win0_3.index t 1 * 128 + 1 * j.val = _; rw [(index3 t).2]; omega)
theorem iblk3_at (c : Dev nD) (t : Fin cfg0.N) (i : Fin 512) (j : Fin 128) (k : Fin 8192) (hk : k.val = 512 * (t.val % 16) + i.val) :
    (iblk m c 3 t : Vec F S512x128 .f32) (ix2 i j) = (V m c main_v33 : Vec F S8192x128 .f32) (ix2 k j) := by
  unfold iblk
  rw [View.read_apply]
  exact congrArg (V m c main_v33 : Vec F S8192x128 .f32) (table_idx t i j k hk)
theorem iblk4_at (c : Dev nD) (t : Fin cfg0.N) (i : Fin 512) (j : Fin 128) (k : Fin 8192) (hk : k.val = 512 * (t.val % 16) + i.val) :
    (iblk m c 4 t : Vec F S512x128 .f32) (ix2 i j) = (V m c main_v35 : Vec F S8192x128 .f32) (ix2 k j) := by
  unfold iblk
  rw [View.read_apply]
  exact congrArg (V m c main_v35 : Vec F S8192x128 .f32) (table_idx t i j k hk)
theorem iblk5_at (c : Dev nD) (t : Fin cfg0.N) (i : Fin 512) (j : Fin 128) (k : Fin 8192) (hk : k.val = 512 * (t.val % 16) + i.val) :
    (iblk m c 5 t : Vec F S512x128 .f32) (ix2 i j) = (V m c main_v56 : Vec F S8192x128 .f32) (ix2 k j) := by
  unfold iblk
  rw [View.read_apply]
  exact congrArg (V m c main_v56 : Vec F S8192x128 .f32) (table_idx t i j k hk)
theorem iblk6_at (c : Dev nD) (t : Fin cfg0.N) (i : Fin 512) (j : Fin 128) (k : Fin 8192) (hk : k.val = 512 * (t.val % 16) + i.val) :
    (iblk m c 6 t : Vec F S512x128 .f32) (ix2 i j) = (V m c main_v58 : Vec F S8192x128 .f32) (ix2 k j) := by
  unfold iblk
  rw [View.read_apply]
  exact congrArg (V m c main_v58 : Vec F S8192x128 .f32) (table_idx t i j k hk)

end Generic

section Arguments

variable (m : (ℓ : Loc nD τ sig) → Buf (Elt Ideal) ℓ) (c : Dev nD)

/-- The received rows, gains and weights at an index, from the arguments. -/
theorem rows_arg (r : Fin 32768) (k : Fin 1024) : (V m c main_v0 : Vec Ideal S32768x1024 .f32) (ix2 r k) = (m (c, Proc.tc.devRef main_arg0) : Vec Ideal S4x8192x1024 .f32) (ix3 (bat r) (pos r) k) := by
  show StableHlo.after _ _ _ _ = _
  simp only [hostOps0, List.flatten_cons, List.flatten_nil, List.append_nil, List.cons_append, List.nil_append]
  after_results_simp
  exact rows_at _ _ r k
theorem gains_arg (k : Fin 1024) : (V m c main_v1 : Vec Ideal S1x1024 .f32) (ix2 0 k) = (m (c, Proc.tc.devRef main_arg1) : Vec Ideal S1024 .f32) (ix1 k) := by
  show StableHlo.after _ _ _ _ = _
  simp only [hostOps0, List.flatten_cons, List.flatten_nil, List.append_nil, List.cons_append, List.nil_append]
  after_results_simp
  exact gains_at _ _ k
end Arguments

end Cert.SelectIdeal.Rows
-- ==== Proof.SelectArgs.lean ====
/-
  Mixer B's projection call: its nine result arrays, at a row and a column, from the arguments.
-/
module

public import proofs.«01_k».proof.Proof.SelectArray
public import Idealize.ShloMosaic.Lib.StableHlo.Run

@[expose] public section

set_option maxRecDepth 16384
set_option maxHeartbeats 4000000

noncomputable section

namespace Cert.SelectIdeal.Rows

open Idealize.ShloMosaic Idealize.ShloMosaic.TcCoe Idealize.ShloMosaic.Tactic Idealize.SL.Sem Idealize.ShloMosaic.StableHlo
open Cert.SelectIdeal Cert.SelectIdeal.Gen Cert.RowOps
open Idealize.ShloMosaic.Pipeline (Dat)

section Received

variable {F : FTy → Type} [FloatOps F]
variable (m : (ℓ : Loc nD τ sig) → Buf (Elt F) ℓ) (c : Dev nD)

/-- The received weights: the argument's columns, and zeros on the lanes left over. -/
def weights (w : FVec F S1024x7144 .f32) : FVec F S1024x2304 .bf16 :=
  truncf .bf16 (concatenate S1024x2304 1 [⟨S1024x512, extractStridedSlice S1024x512 ![0, 416] w slices_S1024x7144_S1024x512_0_416⟩, ⟨S1024x512, extractStridedSlice S1024x512 ![0, 928] w slices_S1024x7144_S1024x512_0_928⟩,
    ⟨S1024x512, extractStridedSlice S1024x512 ![0, 1440] w slices_S1024x7144_S1024x512_0_1440⟩, ⟨S1024x512, extractStridedSlice S1024x512 ![0, 1952] w slices_S1024x7144_S1024x512_0_1952⟩,
    ⟨S1024x64, extractStridedSlice S1024x64 ![0, 2464] w slices_S1024x7144_S1024x64_0_2464⟩, ⟨S1024x64, broadcastInDim S1024x64 ![] bcast_S_S1024x64 (constant S_ .f32 0x00000000#32)⟩,
    ⟨S1024x8, extractStridedSlice S1024x8 ![0, 2528] w slices_S1024x7144_S1024x8_0_2528⟩, ⟨S1024x120, broadcastInDim S1024x120 ![] bcast_S_S1024x120 (constant S_ .f32 0x00000000#32)⟩] concatenates_S1024x512_S1024x512_S1024x512_S1024x512_S1024x64_S1024x64_S1024x8_S1024x120_S1024x2304_d1) bitsLt_bf16_f32

theorem weights_eq : (V m c main_v11 : FVec F S1024x2304 .bf16) = weights (m (c, Proc.tc.devRef main_arg2)) := by
  show StableHlo.after _ _ _ = _
  simp only [hostOps0, List.flatten_cons, List.flatten_nil, List.append_nil, List.cons_append, List.nil_append]
  simp (disch := decide) only [after_cons, after_nil, ↓ readResult, ↓ readPieces, nary_result', Matrix.cons_val]
  rfl

/-- The received tables: twice over for the heads, once for the indexer's keys. -/
def twice (x : FVec F S8192x64 .f32) (v : BitVec 32) : FVec F S8192x128 .f32 :=
  concatenate S8192x128 1 [⟨S8192x64, x⟩, ⟨S8192x64, x⟩, ⟨S8192x0, broadcastInDim S8192x0 ![] bcast_S_S8192x0 (constant S_ .f32 v)⟩] concatenates_S8192x64_S8192x64_S8192x0_S8192x128_d1
def once (x : FVec F S8192x64 .f32) (v : BitVec 32) : FVec F S8192x128 .f32 :=
  concatenate S8192x128 1 [⟨S8192x64, x⟩, ⟨S8192x64, broadcastInDim S8192x64 ![] bcast_S_S8192x64 (constant S_ .f32 v)⟩] concatenates_S8192x64_S8192x64_S8192x128_d1

theorem tables_eq : (V m c main_v33 : FVec F S8192x128 .f32) = twice cos64 0x3F800000#32 ∧ (V m c main_v35 : FVec F S8192x128 .f32) = twice sin64 0x00000000#32
    ∧ (V m c main_v56 : FVec F S8192x128 .f32) = once cos64 0x3F800000#32 ∧ (V m c main_v58 : FVec F S8192x128 .f32) = once sin64 0x00000000#32 := by
  refine ⟨?_, ?_, ?_, ?_⟩
  all_goals
    show StableHlo.after _ _ _ = _
    simp only [hostOps0, List.flatten_cons, List.flatten_nil, List.append_nil, List.cons_append, List.nil_append]
    simp (disch := decide) only [after_cons, after_nil, ↓ readResult, ↓ readPieces, nary_result', Matrix.cons_val]
    rfl

end Received

/-- The received weights at an index. -/
theorem weights_at (w : FVec Ideal S1024x7144 .f32) (k : Fin 1024) (j : Fin 2304) : weights (F := Ideal) w (ix2 k j) =
    if h : j.val < 2112 then w (ix2 k ⟨416 + j.val, by omega⟩)
    else if h : 2176 ≤ j.val ∧ j.val < 2184 then w (ix2 k ⟨2528 + (j.val - 2176), by omega⟩) else 0 := by
  have hj := j.isLt
  have col : ∀ (p q : Fin 7144), p.val = q.val → w (ix2 k p) = w (ix2 k q) := fun p q h => congrArg (fun q => w (ix2 k q)) (Fin.ext h)
  pointwise [weights]
  repeat' split
  all_goals first
    | rfl
    | exact col _ _ (by dsimp only; omega)
    | omega

theorem twice_at (x : FVec Ideal S8192x64 .f32) (v : BitVec 32) (p : Fin 8192) (l : Fin 128) : twice (F := Ideal) x v (ix2 p l) = x (ix2 p ⟨l.val % 64, Nat.mod_lt _ (by decide)⟩) := by
  have hl := l.isLt
  have col : ∀ (a b : Fin 64), a.val = b.val → x (ix2 p a) = x (ix2 p b) := fun a b h => congrArg (fun q => x (ix2 p q)) (Fin.ext h)
  pointwise [twice]
  split
  · exact col _ _ (by dsimp only; omega)
  split
  · exact col _ _ (by dsimp only; omega)
  · omega

theorem once_at (x : FVec Ideal S8192x64 .f32) (v : BitVec 32) (p : Fin 8192) (l : Fin 64) : once (F := Ideal) x v (ix2 p (low l)) = x (ix2 p l) := by
  have hl := l.isLt
  pointwise [once, low]

section Arguments

variable (m : (ℓ : Loc nD τ sig) → Buf (Elt Ideal) ℓ) (c : Dev nD)

/-- A row of the argument, the gains, and a column of the weights. -/
def xrow (r : Fin 32768) (k : Fin 1024) : EReal := (m (c, Proc.tc.devRef main_arg0) : Vec Ideal S4x8192x1024 .f32) (ix3 (bat r) (pos r) k)
def gain (k : Fin 1024) : EReal := (m (c, Proc.tc.devRef main_arg1) : Vec Ideal S1024 .f32) (ix1 k)
def wcol (q : Fin 7144) (k : Fin 1024) : EReal := (m (c, Proc.tc.devRef main_arg2) : Vec Ideal S1024x7144 .f32) (ix2 k q)
/-- A row's projections. -/
def zarg (r : Fin 32768) (q : Fin 7144) : EReal := proj (xrow m c r) (gain m c) (wcol m c q)

/-- A row in its block. -/
def sub (r : Fin 32768) : Fin 512 := ⟨r.val % 512, Nat.mod_lt _ (by decide)⟩

/-- A projection of a block's row, by its weights' column. -/
theorem zrow_arg (r : Fin 32768) (j : Fin 2304) :
    zrow (iblk m c 0 (pt rows_0 r)) (iblk m c 1 (pt rows_0 r)) (iblk m c 2 (pt rows_0 r)) (sub r) j
      = proj (xrow m c r) (gain m c) (fun k => weights (F := Ideal) (m (c, Proc.tc.devRef main_arg2)) (ix2 k j)) :=
  congr (congrArg₂ proj
    (funext fun k => (iblk0_at m c (pt rows_0 r) _ k r (by show r.val = 512 * (r.val / 512) + r.val % 512; omega)).trans (rows_arg m c r k))
    (funext fun k => (iblk1_at m c (pt rows_0 r) 0 k).trans (gains_arg m c k)))
    (funext fun k => (iblk2_at m c (pt rows_0 r) k j).trans (congrFun (weights_eq m c) (ix2 k j)))

theorem zrow_seg (r : Fin 32768) (j : Fin 2304) (q : Fin 7144) (hj : j.val < 2112) (hq : q.val = 416 + j.val) :
    zrow (iblk m c 0 (pt rows_0 r)) (iblk m c 1 (pt rows_0 r)) (iblk m c 2 (pt rows_0 r)) (sub r) j = zarg m c r q := by
  refine (zrow_arg m c r j).trans (congrArg (proj (xrow m c r) (gain m c)) (funext fun k => ?_))
  rw [weights_at, dif_pos hj]
  exact congrArg (fun q => wcol m c q k) (Fin.ext hq.symm)

/-- The tables of a block's row. -/
theorem tables_arg (r : Fin 32768) :
    (∀ l : Fin 128, (iblk m c 3 (pt rows_0 r) : Vec Ideal S512x128 .f32) (ix2 (sub r) l) = cosLane (cosRow (pos r)) (l.val % 64))
    ∧ (∀ l : Fin 128, (iblk m c 4 (pt rows_0 r) : Vec Ideal S512x128 .f32) (ix2 (sub r) l) = sinLane (sinRow (pos r)) (l.val % 64))
    ∧ (∀ l : Fin 64, (iblk m c 5 (pt rows_0 r) : Vec Ideal S512x128 .f32) (ix2 (sub r) (low l)) = cosLane (cosRow (pos r)) l.val)
    ∧ (∀ l : Fin 64, (iblk m c 6 (pt rows_0 r) : Vec Ideal S512x128 .f32) (ix2 (sub r) (low l)) = sinLane (sinRow (pos r)) l.val) := by
  have hk : (pos r).val = 512 * ((pt rows_0 r).val % 16) + (sub r).val := by show r.val % 8192 = 512 * (r.val / 512 % 16) + r.val % 512; omega
  obtain ⟨e3, e4, e5, e6⟩ := tables_eq m c
  refine ⟨fun l => ?_, fun l => ?_, fun l => ?_, fun l => ?_⟩
  · exact (iblk3_at m c _ _ l (pos r) hk).trans ((congrFun e3 _).trans ((twice_at _ _ _ _).trans (cos64_at _ _)))
  · exact (iblk4_at m c _ _ l (pos r) hk).trans ((congrFun e4 _).trans ((twice_at _ _ _ _).trans (sin64_at _ _)))
  · exact (iblk5_at m c _ _ _ (pos r) hk).trans ((congrFun e5 _).trans ((once_at _ _ _ _).trans (cos64_at _ _)))
  · exact (iblk6_at m c _ _ _ (pos r) hk).trans ((congrFun e6 _).trans ((once_at _ _ _ _).trans (sin64_at _ _)))

/-- The heads of a row from column `o` on, and the indexer's key. -/
def harg (r : Fin 32768) (o : ℕ) (ho : o + 512 ≤ 7144) (j : Fin 512) : EReal := heads (cosRow (pos r)) (sinRow (pos r)) (fun q => zarg m c r (wseg o ho q)) j
def karg (r : Fin 32768) (d : Fin 64) : EReal := rope (cosRow (pos r)) (sinRow (pos r)) (fun d => zarg m c r (wseg 2464 (by decide) d)) d

/-- The result arrays at an index, from the arguments. -/
theorem bq_at (r : Fin 32768) (j : Fin 512) : bq m c (ix2 r j) = harg m c r 416 (by decide) j * bScale :=
  (out7_at _ _ _ _ _ _ _ _ _ (sub r) (tables_arg m c r).1 (tables_arg m c r).2.1 j).trans
    (congrArg (fun f => heads _ _ f j * bScale) (funext fun q => zrow_seg m c r _ _ (by dsimp only [zseg]; omega) (by show 416 + q.val = 416 + (0 + q.val); omega)))
theorem bk_at (r : Fin 32768) (j : Fin 512) : bk m c (ix2 r j) = harg m c r 928 (by decide) j :=
  (out8_at _ _ _ _ _ _ _ _ _ (sub r) (tables_arg m c r).1 (tables_arg m c r).2.1 j).trans
    (congrArg (fun f => heads _ _ f j) (funext fun q => zrow_seg m c r _ _ (by dsimp only [zseg]; omega) (by show 928 + q.val = 416 + (512 + q.val); omega)))
theorem bk32_at (r : Fin 32768) (j : Fin 512) : bk32 m c (ix2 r j) = harg m c r 928 (by decide) j :=
  (out13_at _ _ _ _ _ _ _ _ _ (sub r) (tables_arg m c r).1 (tables_arg m c r).2.1 j).trans
    (congrArg (fun f => heads _ _ f j) (funext fun q => zrow_seg m c r _ _ (by dsimp only [zseg]; omega) (by show 928 + q.val = 416 + (512 + q.val); omega)))
theorem bv_at (r : Fin 32768) (j : Fin 512) : bv m c (ix2 r j) = zarg m c r (wseg 1440 (by decide) j) :=
  (out9_at _ _ _ _ _ _ _ (sub r) j).trans (zrow_seg m c r _ _ (by dsimp only [zseg]; omega) (by show 1440 + j.val = 416 + (1024 + j.val); omega))
theorem bv32_at (r : Fin 32768) (j : Fin 512) : bv32 m c (ix2 r j) = zarg m c r (wseg 1440 (by decide) j) :=
  (out14_at _ _ _ _ _ _ _ (sub r) j).trans (zrow_seg m c r _ _ (by dsimp only [zseg]; omega) (by show 1440 + j.val = 416 + (1024 + j.val); omega))
theorem iq_at (r : Fin 32768) (j : Fin 512) : iq m c (ix2 r j) = harg m c r 1952 (by decide) j * iScale :=
  (out10_at _ _ _ _ _ _ _ _ _ (sub r) (tables_arg m c r).1 (tables_arg m c r).2.1 j).trans
    (congrArg (fun f => heads _ _ f j * iScale) (funext fun q => zrow_seg m c r _ _ (by dsimp only [zseg]; omega) (by show 1952 + q.val = 416 + (1536 + q.val); omega)))
theorem ik_at (r : Fin 32768) (l : Fin 128) : ik m c (ix2 r l) = karg m c r ⟨l.val % 64, Nat.mod_lt _ (by decide)⟩ :=
  (out11_at _ _ _ _ _ _ _ _ _ (sub r) (tables_arg m c r).2.2.1 (tables_arg m c r).2.2.2 l).trans
    (congrArg (fun f => rope _ _ f ⟨l.val % 64, Nat.mod_lt _ (by decide)⟩) (funext fun d => zrow_seg m c r _ _ (by dsimp only [zseg]; omega) (by show 2464 + d.val = 416 + (2048 + d.val); omega)))
theorem ik32_at (r : Fin 32768) (d : Fin 64) : ik32 m c (ix2 r d) = karg m c r d :=
  (out15_at _ _ _ _ _ _ _ _ _ (sub r) (tables_arg m c r).2.2.1 (tables_arg m c r).2.2.2 d).trans
    (congrArg (fun f => rope _ _ f d) (funext fun d => zrow_seg m c r _ _ (by dsimp only [zseg]; omega) (by show 2464 + d.val = 416 + (2048 + d.val); omega)))

/-- The indexer's weights: zero past the eight heads. -/
theorem iw_at (r : Fin 32768) (l : Fin 128) : iw m c (ix2 r l) = if h : l.val < 8 then zarg m c r (wseg 2528 (by decide) ⟨l.val, h⟩) * wScale else 0 := by
  have hl := l.isLt
  refine (out12_at _ _ _ _ _ _ _ (sub r) l).trans ?_
  refine (congrArg (· * wScale) (zrow_arg m c r _)).trans ?_
  by_cases h : l.val < 8
  · rw [dif_pos h]
    refine congrArg (fun f => proj (xrow m c r) (gain m c) f * wScale) (funext fun k => ?_)
    rw [weights_at, dif_neg (by dsimp only [zseg]; omega), dif_pos ⟨by dsimp only [zseg]; omega, by dsimp only [zseg]; omega⟩]
    exact congrArg (fun q => wcol m c q k) (Fin.ext (by show 2528 + (2176 + l.val - 2176) = 2528 + l.val; omega))
  · rw [dif_neg h]
    have e : (fun k => weights (F := Ideal) (m (c, Proc.tc.devRef main_arg2)) (ix2 k (zseg 2176 (by decide) l))) = fun _ => 0 := by
      funext k
      rw [weights_at, dif_neg (by dsimp only [zseg]; omega), dif_neg (by dsimp only [zseg]; omega)]
    rw [e]
    unfold proj
    simp only [mul_zero, Finset.sum_const_zero, zero_mul]

end Arguments

end Cert.SelectIdeal.Rows
-- ==== Proof.SelectRef.lean ====
/-
  The reference of mixer B's projections, row by row, from the arguments.
-/
module

public import proofs.«01_k».proof.Proof.Gen.SelectReferenceIdeal.Run
public import proofs.«01_k».proof.Proof.TailRef
public import proofs.«01_k».proof.Proof.SelectArray

@[expose] public section

set_option maxRecDepth 16384
set_option maxHeartbeats 4000000

noncomputable section

namespace Cert.SelectReferenceIdeal.Ref

open Idealize.ShloMosaic Idealize.ShloMosaic.TcCoe Idealize.ShloMosaic.Tactic Idealize.SL.Sem
open Cert.SelectReferenceIdeal Cert.SelectReferenceIdeal.Gen Cert.RowOps
open Cert.TailReferenceIdeal.Ref (z z_at)
open Cert.SelectIdeal.Rows (angle cosRow sinRow bScale iScale wScale)

section Terms
variable {F : FTy → Type} [FloatOps F]

/-- The columns from `o` on, by heads. -/
def split (x : FVec F S4x8192x1024 .f32) (g : FVec F S1024 .f32) (w : FVec F S1024x7144 .f32) (o : ℕ) (h : S4x8192x7144.Slices ![0, 0, o] S4x8192x512) : FVec F S4x8192x8x64 .f32 :=
  shapeCast S4x8192x8x64 (extractStridedSlice S4x8192x512 ![0, 0, o] (z x g w) h) shapeCasts_S4x8192x512_S4x8192x8x64

/-- The embedding of heads. -/
def turn4 (C S : FVec F S8192x1x8 .f32) (x : FVec F S4x8192x8x64 .f32) : FVec F S4x8192x8x64 .f32 :=
  let c := broadcastInDim S4x8192x8x8 ![0, 1, 2, 3] bcast_S1x8192x1x8_S4x8192x8x8_0_1_2_3 (broadcastInDim S1x8192x1x8 ![1, 2, 3] bcast_S8192x1x8_S1x8192x1x8_1_2_3 C)
  let s := broadcastInDim S4x8192x8x8 ![0, 1, 2, 3] bcast_S1x8192x1x8_S4x8192x8x8_0_1_2_3 (broadcastInDim S1x8192x1x8 ![1, 2, 3] bcast_S8192x1x8_S1x8192x1x8_1_2_3 S)
  let a := extractStridedSlice S4x8192x8x8 ![0, 0, 0, 0] x slices_S4x8192x8x64_S4x8192x8x8_0_0_0_0
  let b := extractStridedSlice S4x8192x8x8 ![0, 0, 0, 8] x slices_S4x8192x8x64_S4x8192x8x8_0_0_0_8
  concatenate S4x8192x8x64 3 [⟨S4x8192x8x16, concatenate S4x8192x8x16 3 [⟨S4x8192x8x8, subf (mulf a c) (mulf b s)⟩, ⟨S4x8192x8x8, addf (mulf b c) (mulf a s)⟩] concatenates_S4x8192x8x8_S4x8192x8x8_S4x8192x8x16_d3⟩,
    ⟨S4x8192x8x48, extractStridedSlice S4x8192x8x48 ![0, 0, 0, 16] x slices_S4x8192x8x64_S4x8192x8x48_0_0_0_16⟩] concatenates_S4x8192x8x16_S4x8192x8x48_S4x8192x8x64_d3

/-- The embedding of one key. -/
def turn3 (C S : FVec F S8192x8 .f32) (x : FVec F S4x8192x64 .f32) : FVec F S4x8192x64 .f32 :=
  let c := broadcastInDim S4x8192x8 ![0, 1, 2] bcast_S1x8192x8_S4x8192x8_0_1_2 (broadcastInDim S1x8192x8 ![1, 2] bcast_S8192x8_S1x8192x8_1_2 C)
  let s := broadcastInDim S4x8192x8 ![0, 1, 2] bcast_S1x8192x8_S4x8192x8_0_1_2 (broadcastInDim S1x8192x8 ![1, 2] bcast_S8192x8_S1x8192x8_1_2 S)
  let a := extractStridedSlice S4x8192x8 ![0, 0, 0] x slices_S4x8192x64_S4x8192x8_0_0_0
  let b := extractStridedSlice S4x8192x8 ![0, 0, 8] x slices_S4x8192x64_S4x8192x8_0_0_8
  concatenate S4x8192x64 2 [⟨S4x8192x16, concatenate S4x8192x16 2 [⟨S4x8192x8, subf (mulf a c) (mulf b s)⟩, ⟨S4x8192x8, addf (mulf b c) (mulf a s)⟩] concatenates_S4x8192x8_S4x8192x8_S4x8192x16_d2⟩,
    ⟨S4x8192x48, extractStridedSlice S4x8192x48 ![0, 0, 16] x slices_S4x8192x64_S4x8192x48_0_0_16⟩] concatenates_S4x8192x16_S4x8192x48_S4x8192x64_d2

variable (x : FVec F S4x8192x1024 .f32) (g : FVec F S1024 .f32) (w : FVec F S1024x7144 .f32)

/-- The heads from column `o` on, embedded. -/
def turned (o : ℕ) (h : S4x8192x7144.Slices ![0, 0, o] S4x8192x512) : FVec F S4x8192x8x64 .f32 :=
  turn4 (Host.cos (shapeCast S8192x1x8 angle shapeCasts_S8192x8_S8192x1x8)) (Host.sin (shapeCast S8192x1x8 angle shapeCasts_S8192x8_S8192x1x8)) (split x g w o h)

/-- The results. -/
def scaled (o : ℕ) (h : S4x8192x7144.Slices ![0, 0, o] S4x8192x512) (v : BitVec 32) : FVec F S32768x512 .bf16 :=
  truncf .bf16 (shapeCast S32768x512 (mulf (turned x g w o h) (broadcastInDim S4x8192x8x64 ![] bcast_S_S4x8192x8x64 (constant S_ .f32 v))) shapeCasts_S4x8192x8x64_S32768x512) bitsLt_bf16_f32
def keys : FVec F S32768x512 .f32 := shapeCast S32768x512 (turned x g w 928 slices_S4x8192x7144_S4x8192x512_0_0_928) shapeCasts_S4x8192x8x64_S32768x512
def values : FVec F S32768x512 .f32 := shapeCast S32768x512 (split x g w 1440 slices_S4x8192x7144_S4x8192x512_0_0_1440) shapeCasts_S4x8192x8x64_S32768x512
def key : FVec F S4x8192x64 .f32 := turn3 (Host.cos angle) (Host.sin angle) (extractStridedSlice S4x8192x64 ![0, 0, 2464] (z x g w) slices_S4x8192x7144_S4x8192x64_0_0_2464)
def keyTwice : FVec F S32768x128 .bf16 := truncf .bf16 (shapeCast S32768x128 (concatenate S4x8192x128 2 [⟨S4x8192x64, key x g w⟩, ⟨S4x8192x64, key x g w⟩] concatenates_S4x8192x64_S4x8192x64_S4x8192x128_d2) shapeCasts_S4x8192x128_S32768x128) bitsLt_bf16_f32
def keyRows : FVec F S32768x64 .f32 := shapeCast S32768x64 (key x g w) shapeCasts_S4x8192x64_S32768x64
def weigh : FVec F S32768x128 .f32 :=
  shapeCast S32768x128 (pad S4x8192x128 ![0, 0, 0] ![0, 0, 120] ![0, 0, 0] (mulf (extractStridedSlice S4x8192x8 ![0, 0, 2528] (z x g w) slices_S4x8192x7144_S4x8192x8_0_0_2528) (broadcastInDim S4x8192x8 ![] bcast_S_S4x8192x8 (constant S_ .f32 0x3EB504F3#32))) (sitofp .f32 (constantI S_ 32 0#32)) pads_S4x8192x8_S4x8192x128_000_000_01200 h_S_) shapeCasts_S4x8192x128_S32768x128

end Terms

/-- The embedding, cut as the reference cuts it. -/
theorem rope_pieces (c s : Fin 8 → EReal) (x : Fin 64 → EReal) (d : Fin 64) :
    (if h : d.val < 16 then
      if h8 : d.val < 8 then x d * c ⟨d.val, h8⟩ - x ⟨8 + d.val, by omega⟩ * s ⟨d.val, h8⟩
      else x ⟨8 + (d.val - 8), by omega⟩ * c ⟨d.val - 8, by omega⟩ + x ⟨d.val - 8, by omega⟩ * s ⟨d.val - 8, by omega⟩
    else x ⟨16 + (d.val - 16), by omega⟩) = rope c s x d := by
  have col : ∀ (p q : Fin 64), p.val = q.val → x p = x q := fun p q e => congrArg x (Fin.ext e)
  unfold rope
  by_cases h8 : d.val < 8
  · refine (dif_pos (by omega)).trans ((dif_pos h8).trans (Eq.trans ?_ (dif_pos h8).symm))
    exact congrArg (fun q => _ - q * s _) (col _ _ (by dsimp only; omega))
  · by_cases h16 : d.val < 16
    · refine (dif_pos h16).trans ((dif_neg h8).trans (Eq.trans ?_ ((dif_neg h8).trans (dif_pos h16)).symm))
      exact congrArg (fun p => p * c _ + _) (col _ _ (by dsimp only; omega))
    · refine (dif_neg h16).trans (Eq.trans ?_ ((dif_neg h8).trans (dif_neg h16)).symm)
      exact col _ _ (by dsimp only; omega)

/-- The embedding of heads, and of a key, at a channel. -/
theorem turn4_at (C S : FVec Ideal S8192x1x8 .f32) (x : FVec Ideal S4x8192x8x64 .f32) (b : Fin 4) (s : Fin 8192) (h : Fin 8) (d : Fin 64) :
    turn4 (F := Ideal) C S x (ix4 b s h d) = rope (fun i => C (ix3 s 0 i)) (fun i => S (ix3 s 0 i)) (fun d => x (ix4 b s h d)) d := by
  refine Eq.trans ?_ (rope_pieces _ _ _ d)
  pointwise [turn4]
theorem turn3_at (C S : FVec Ideal S8192x8 .f32) (x : FVec Ideal S4x8192x64 .f32) (b : Fin 4) (s : Fin 8192) (d : Fin 64) :
    turn3 (F := Ideal) C S x (ix3 b s d) = rope (fun i => C (ix2 s i)) (fun i => S (ix2 s i)) (fun d => x (ix3 b s d)) d := by
  refine Eq.trans ?_ (rope_pieces _ _ _ d)
  pointwise [turn3]

section At

variable (x : FVec Ideal S4x8192x1024 .f32) (g : FVec Ideal S1024 .f32) (w : FVec Ideal S1024x7144 .f32)

/-- A row's projections. -/
def zref (r : Fin 32768) (q : Fin 7144) : EReal := proj (fun k => x (ix3 (bat r) (pos r) k)) (fun k => g (ix1 k)) (fun k => w (ix2 k q))

/-- A head of a column. -/
def hd (j : Fin 512) : Fin 8 := ⟨j.val / 64, by have := j.isLt; omega⟩

/-- The heads' columns at an index. -/
theorem split_at (o : ℕ) (h : S4x8192x7144.Slices ![0, 0, o] S4x8192x512) (ho : o + 512 ≤ 7144) (r : Fin 32768) (j : Fin 512) (d : Fin 64) :
    split (F := Ideal) x g w o h (ix4 (bat r) (pos r) (hd j) d) = zref x g w r (wseg o ho (head j d)) := by
  refine Eq.trans ?_ (z_at x g w _ _ _)
  pointwise [split, wseg, head, hd]

theorem turned_at (o : ℕ) (h : S4x8192x7144.Slices ![0, 0, o] S4x8192x512) (ho : o + 512 ≤ 7144) (r : Fin 32768) (j : Fin 512) :
    turned (F := Ideal) x g w o h (ix4 (bat r) (pos r) (hd j) (chan j)) = heads (cosRow (pos r)) (sinRow (pos r)) (fun q => zref x g w r (wseg o ho q)) j := by
  refine (turn4_at _ _ _ _ _ _ _).trans (congr (congr (congrArg₂ rope ?_ ?_) (funext fun d => split_at x g w o h ho r j d)) rfl)
  · funext i; pointwise [cosRow]
  · funext i; pointwise [sinRow]

/-- The results at an index. -/
theorem scaled_at (o : ℕ) (h : S4x8192x7144.Slices ![0, 0, o] S4x8192x512) (ho : o + 512 ≤ 7144) (v : BitVec 32) (r : Fin 32768) (j : Fin 512) :
    scaled (F := Ideal) x g w o h v (ix2 r j) = heads (cosRow (pos r)) (sinRow (pos r)) (fun q => zref x g w r (wseg o ho q)) j * Scalar.ofBits (F := Ideal) .f32 v := by
  refine Eq.trans ?_ (congrArg (· * Scalar.ofBits (F := Ideal) .f32 v) (turned_at x g w o h ho r j))
  pointwise [scaled, bat, pos, hd, chan]
theorem keys_at (r : Fin 32768) (j : Fin 512) :
    keys (F := Ideal) x g w (ix2 r j) = heads (cosRow (pos r)) (sinRow (pos r)) (fun q => zref x g w r (wseg 928 (by decide) q)) j := by
  refine Eq.trans ?_ (turned_at x g w 928 slices_S4x8192x7144_S4x8192x512_0_0_928 (by decide) r j)
  pointwise [keys, bat, pos, hd, chan]
theorem values_at (r : Fin 32768) (j : Fin 512) : values (F := Ideal) x g w (ix2 r j) = zref x g w r (wseg 1440 (by decide) j) := by
  refine Eq.trans ?_ (z_at x g w _ _ _)
  pointwise [values, split, wseg, bat, pos]
theorem key_at (r : Fin 32768) (d : Fin 64) :
    key (F := Ideal) x g w (ix3 (bat r) (pos r) d) = rope (cosRow (pos r)) (sinRow (pos r)) (fun d => zref x g w r (wseg 2464 (by decide) d)) d := by
  refine (turn3_at _ _ _ _ _ _).trans (congrArg (fun f => rope (cosRow (pos r)) (sinRow (pos r)) f d) (funext fun d => ?_))
  refine Eq.trans ?_ (z_at x g w _ _ _)
  pointwise [wseg]
theorem keyTwice_at (r : Fin 32768) (l : Fin 128) :
    keyTwice (F := Ideal) x g w (ix2 r l) = rope (cosRow (pos r)) (sinRow (pos r)) (fun d => zref x g w r (wseg 2464 (by decide) d)) ⟨l.val % 64, Nat.mod_lt _ (by decide)⟩ := by
  refine Eq.trans ?_ (key_at x g w r _)
  have col : ∀ (p q : Fin 64), p.val = q.val → key (F := Ideal) x g w (ix3 (bat r) (pos r) p) = key (F := Ideal) x g w (ix3 (bat r) (pos r) q) := fun p q e => congrArg (fun q => key (F := Ideal) x g w (ix3 (bat r) (pos r) q)) (Fin.ext e)
  have hl := l.isLt
  pointwise [keyTwice]
  split
  · exact col _ _ (by dsimp only; omega)
  · exact col _ _ (by dsimp only; omega)
theorem keyRows_at (r : Fin 32768) (d : Fin 64) :
    keyRows (F := Ideal) x g w (ix2 r d) = rope (cosRow (pos r)) (sinRow (pos r)) (fun d => zref x g w r (wseg 2464 (by decide) d)) d := by
  refine Eq.trans ?_ (key_at x g w r _)
  pointwise [keyRows, bat, pos]
theorem weigh_at (r : Fin 32768) (l : Fin 128) :
    weigh (F := Ideal) x g w (ix2 r l) = if h : l.val < 8 then zref x g w r (wseg 2528 (by decide) ⟨l.val, h⟩) * wScale else 0 := by
  by_cases h : l.val < 8
  · rw [dif_pos h]
    refine Eq.trans ?_ (congrArg (· * wScale) (z_at x g w (bat r) (pos r) _))
    pointwise [weigh, bat, pos, wseg]
    exact dif_pos ⟨by omega, by omega, h⟩
  · rw [dif_neg h]
    pointwise [weigh]
    refine (dif_neg (fun e => h e.2.2)).trans ?_
    show (((0#32 : BitVec 32).toInt : ℝ) : EReal) = 0
    simp

end At

/-- The reference ends with its results in the result arrays and its arguments unchanged. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v174) = scaled (m (c, Proc.tc.devRef main_arg0)) (m (c, Proc.tc.devRef main_arg1)) (m (c, Proc.tc.devRef main_arg2)) 416 slices_S4x8192x7144_S4x8192x512_0_0_416 0x3E38AA3B#32
      ∧ r.2.mem ((c.tc : Thread nD τ).loc main_v176) = truncf .bf16 (keys (m (c, Proc.tc.devRef main_arg0)) (m (c, Proc.tc.devRef main_arg1)) (m (c, Proc.tc.devRef main_arg2))) bitsLt_bf16_f32
      ∧ r.2.mem ((c.tc : Thread nD τ).loc main_v178) = truncf .bf16 (values (m (c, Proc.tc.devRef main_arg0)) (m (c, Proc.tc.devRef main_arg1)) (m (c, Proc.tc.devRef main_arg2))) bitsLt_bf16_f32
      ∧ r.2.mem ((c.tc : Thread nD τ).loc main_v180) = scaled (m (c, Proc.tc.devRef main_arg0)) (m (c, Proc.tc.devRef main_arg1)) (m (c, Proc.tc.devRef main_arg2)) 1952 slices_S4x8192x7144_S4x8192x512_0_0_1952 0x3E000000#32
      ∧ r.2.mem ((c.tc : Thread nD τ).loc main_v183) = keyTwice (m (c, Proc.tc.devRef main_arg0)) (m (c, Proc.tc.devRef main_arg1)) (m (c, Proc.tc.devRef main_arg2))
      ∧ r.2.mem ((c.tc : Thread nD τ).loc main_v185) = weigh (m (c, Proc.tc.devRef main_arg0)) (m (c, Proc.tc.devRef main_arg1)) (m (c, Proc.tc.devRef main_arg2))
      ∧ r.2.mem ((c.tc : Thread nD τ).loc main_v186) = keys (m (c, Proc.tc.devRef main_arg0)) (m (c, Proc.tc.devRef main_arg1)) (m (c, Proc.tc.devRef main_arg2))
      ∧ r.2.mem ((c.tc : Thread nD τ).loc main_v187) = values (m (c, Proc.tc.devRef main_arg0)) (m (c, Proc.tc.devRef main_arg1)) (m (c, Proc.tc.devRef main_arg2))
      ∧ r.2.mem ((c.tc : Thread nD τ).loc main_v188) = keyRows (m (c, Proc.tc.devRef main_arg0)) (m (c, Proc.tc.devRef main_arg1)) (m (c, Proc.tc.devRef main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2.1.trans rfl, (h c).2.2.1.trans rfl, (h c).2.2.2.1.trans rfl, (h c).2.2.2.2.1.trans rfl, (h c).2.2.2.2.2.1.trans rfl,
    (h c).2.2.2.2.2.2.1.trans rfl, (h c).2.2.2.2.2.2.2.1.trans rfl, (h c).2.2.2.2.2.2.2.2.1.trans rfl, (h c).2.2.2.2.2.2.2.2.2⟩) (Value.run m ρ)

end Cert.SelectReferenceIdeal.Ref
-- ==== Proof.FlashState.lean ====
/-
  The attention kernel's block loop as a recursion on plain arrays.

  One grid point works on 1024 query rows (8 heads of 128 queries). Its loop carries the scores of the block of keys it
  is about to fold in; two scratch arrays hold the running maximum and the running weighted sum. `fl` is that recursion,
  and this module shows that what the body leaves in its output block is the last step and the head combination applied
  to `fl`.
-/
module

public import proofs.«01_k».proof.Proof.Gen.KernelIdeal.Value
public import Idealize.ShloMosaic.Lib.VecWindow

@[expose] public section

set_option maxRecDepth 16384

noncomputable section

namespace Cert.KernelIdeal.Flash

open Idealize.ShloMosaic Idealize.ShloMosaic.TcCoe Idealize.ShloMosaic.Tactic Idealize.SL.Sem
open Cert.KernelIdeal Cert.KernelIdeal.Gen

variable {F : FTy → Type} [FloatOps F]

theorem hz : (![0, 0] : Fin 2 → Nat) = fun _ => 0 := funext fun a => by fin_cases a <;> rfl

/-- Block `n` of 512 rows of the keys. -/
def kblk (x1 : Vec F S8192x256 .bf16) (n : ℕ) : Vec F S512x256 .bf16 := fun j =>
  x1 (fun a => match a with
    | ⟨0, _⟩ => (⟨(512 * n + (j 0).val) % 8192, Nat.mod_lt _ (by decide)⟩ : Fin 8192)
    | ⟨1, _⟩ => (⟨(j 1).val, (j 1).isLt⟩ : Fin 256))

/-- The first 128 columns of block `n` of the keys: its values. -/
def vblk (x1 : Vec F S8192x256 .bf16) (n : ℕ) : Vec F S512x128 .bf16 := fun j =>
  x1 (fun a => match a with
    | ⟨0, _⟩ => (⟨(512 * n + (j 0).val) % 8192, Nat.mod_lt _ (by decide)⟩ : Fin 8192)
    | ⟨1, _⟩ => (⟨(j 1).val % 256, Nat.mod_lt _ (by decide)⟩ : Fin 256))

/-- A load of 512 rows at row `512 n` reads block `n`. -/
theorem ld_kblk (x1 : Vec F S8192x256 .bf16) (off : Fin 2 → Nat) (n : ℕ) (h : off = ![512 * n, 0])
    (inb : ∀ a, off a + S512x256.size a ≤ S8192x256.size a) :
    View.ld x1 (Rect.unit (s := S8192x256) off S512x256.size inb) = kblk x1 n := by
  subst h
  have h0 := inb 0
  have e0 : S512x256.size 0 = 512 := rfl
  have e1 : S8192x256.size 0 = 8192 := rfl
  have e2 : (![512 * n, 0] : Fin 2 → Nat) 0 = 512 * n := rfl
  funext j
  refine congrArg x1 (funext fun a => Fin.ext ?_)
  have hj : (j 0).val < 512 := (j 0).isLt
  match a with
  | ⟨0, _⟩ => show 512 * n + 1 * (j 0).val = (512 * n + (j 0).val) % 8192
              rw [Nat.mod_eq_of_lt (by omega)]; omega
  | ⟨1, _⟩ => show 0 + 1 * (j 1).val = (j 1).val; omega

/-- A load of 512 rows and 128 columns at row `512 n` reads the values of block `n`. -/
theorem ld_vblk (x1 : Vec F S8192x256 .bf16) (off : Fin 2 → Nat) (n : ℕ) (h : off = ![512 * n, 0])
    (inb : ∀ a, off a + S512x128.size a ≤ S8192x256.size a) :
    View.ld x1 (Rect.unit (s := S8192x256) off S512x128.size inb) = vblk x1 n := by
  subst h
  have h0 := inb 0
  have e0 : S512x128.size 0 = 512 := rfl
  have e1 : S8192x256.size 0 = 8192 := rfl
  have e2 : (![512 * n, 0] : Fin 2 → Nat) 0 = 512 * n := rfl
  funext j
  refine congrArg x1 (funext fun a => Fin.ext ?_)
  have hj : (j 0).val < 512 := (j 0).isLt
  have hj1 : (j 1).val < 128 := (j 1).isLt
  match a with
  | ⟨0, _⟩ => show 512 * n + 1 * (j 0).val = (512 * n + (j 0).val) % 8192
              rw [Nat.mod_eq_of_lt (by omega)]; omega
  | ⟨1, _⟩ => show 0 + 1 * (j 1).val = (j 1).val % 256; rw [Nat.mod_eq_of_lt (by omega)]; omega

/-- The loop's state after `k` blocks: the scores of block `k`, the running maximum, the running weighted sum. -/
def fl (q : FVec F S1024x256 .bf16) (x1 : Vec F S8192x256 .bf16) :
    ℕ → FVec F S1024x512 .f32 × FVec F S1024x128 .f32 × FVec F S1024x256 .f32
  | 0 => (k0_pay16 q (kblk x1 0), k0_pay13, k0_pay14)
  | k + 1 => (k0_pay2 q (kblk x1 (k + 1)), k0_pay18 (k0_pay3 (fl q x1 k).1 (fl q x1 k).2.1),
      k0_pay17 (k0_pay4 k0_pay15 (fl q x1 k).1 (fl q x1 k).2.1 (vblk x1 k) (fl q x1 k).2.2))

/-- The weighted sum's step depends on its three read arrays only through their values. -/
theorem step_congr (acc : FVec F S1024x512 .f32) {z z' : FVec F S1024x128 .f32} {w w' : Vec F S512x128 .bf16} {y y' : FVec F S1024x256 .f32}
    (h1 : z = z') (h2 : w = w') (h3 : y = y') : k0_pay17 (k0_pay4 k0_pay15 acc z w y) = k0_pay17 (k0_pay4 k0_pay15 acc z' w' y') := by
  rw [h1, h2, h3]

section Trip

variable (𝒱 : Variants) (c : Dev nD) (bd : Option 𝒱.V) (i : grid0.Coords) (arg2 : Memref sig .tc .vmem S128x2048 .bf16) (harg2 : arg2.IsWhole) (arg3 : Memref sig .tc .vmem S8192x256 .bf16) (harg3 : arg3.IsWhole) (arg4 : Memref sig .tc .vmem S8x128x512 .bf16) (harg4 : arg4.IsWhole) (arg5 : Memref sig .tc .vmem S128x512 .bf16) (harg5 : arg5.IsWhole) (arg6 : Memref sig .tc .vmem S1024x128 .f32) (harg6 : arg6.IsWhole) (arg7 : Memref sig .tc .vmem S1024x256 .f32) (harg7 : arg7.IsWhole)
  (q : FVec F S1024x256 .bf16) (v53 : IVec S1024x1 32) (v94 : BitVec 32) (v109 : FVec F S1024x512 .f32) (c0 c1 v112 : BitVec 32) (x1 : Vec F S8192x256 .bf16)

/-- What one trip yields: the scores of the next block. -/
theorem trip_res (k : Fin (k0_t1_loop i).trips) (h1 : k0_off1 i k = ![512 * (k.val + 1), 0])
    (acc : FVec F S1024x512 .f32) (f6 : BufTy.Contents (Elt F) arg6.view.ty) (f7 : BufTy.Contents (Elt F) arg7.view.ty) :
    tripR_k0_t1 (F := F) 𝒱 c bd i arg2 harg2 arg3 harg3 arg4 harg4 arg5 harg5 arg6 harg6 arg7 harg7 q v53 v94 k0_pay15 v109 c0 c1 v112 (harg3.unread x1) k acc f6 f7
      = k0_pay2 q (kblk x1 (k.val + 1)) := by
  unfold tripR_k0_t1 trip_k0_t1
  dsimp only
  sl_unfold_words
  simp only [View.readAt_eq_ld, harg3.read_unread]
  exact congrArg (k0_pay2 q) (ld_kblk x1 (k0_off1 i k) (k.val + 1) h1 _)

/-- What one trip leaves in the scratch array of the running maximum. -/
theorem trip_max (k : Fin (k0_t1_loop i).trips) (acc : FVec F S1024x512 .f32)
    (G : BufTy.Contents (Elt F) arg6.view.ty) (L : List (View.Piece (Elt F) S1024x128 .f32))
    (f7 : BufTy.Contents (Elt F) arg7.view.ty) :
    arg6.view.read (Elt F) (arg6.view.writes (Elt F) G
      ((tripL_k0_t1 (F := F) 𝒱 c bd i arg2 harg2 arg3 harg3 arg4 harg4 arg5 harg5 arg6 harg6 arg7 harg7 q v53 v94 k0_pay15 v109 c0 c1 v112 (harg3.unread x1) k acc (arg6.view.writes (Elt F) G L) f7).1 ++ L))
      = k0_pay18 (k0_pay3 acc (arg6.view.read (Elt F) (arg6.view.writes (Elt F) G L))) := by
  unfold tripL_k0_t1 trip_k0_t1
  dsimp only
  sl_unfold_words
  refine (View.read_writes_full arg6.view G inb_S1024x128_S1024x128_0_0 _ L).trans ?_
  exact congrArg (fun z => k0_pay18 (k0_pay3 acc z)) (View.readAt_full _ _ _)

/-- What one trip leaves in the scratch array of the weighted sum. -/
theorem trip_acc (k : Fin (k0_t1_loop i).trips) (h2 : k0_off2 i k = ![512 * k.val, 0]) (acc : FVec F S1024x512 .f32)
    (f6 : BufTy.Contents (Elt F) arg6.view.ty)
    (G : BufTy.Contents (Elt F) arg7.view.ty) (L : List (View.Piece (Elt F) S1024x256 .f32)) :
    arg7.view.read (Elt F) (arg7.view.writes (Elt F) G
      ((tripL_k0_t1 (F := F) 𝒱 c bd i arg2 harg2 arg3 harg3 arg4 harg4 arg5 harg5 arg6 harg6 arg7 harg7 q v53 v94 k0_pay15 v109 c0 c1 v112 (harg3.unread x1) k acc f6 (arg7.view.writes (Elt F) G L)).2 ++ L))
      = k0_pay17 (k0_pay4 k0_pay15 acc (arg6.view.read (Elt F) f6) (vblk x1 k.val) (arg7.view.read (Elt F) (arg7.view.writes (Elt F) G L))) := by
  unfold tripL_k0_t1 trip_k0_t1
  dsimp only
  sl_unfold_words
  refine (View.read_writes_full arg7.view G inb_S1024x256_S1024x256_0_0 _ L).trans ?_
  refine step_congr acc (View.readAt_full _ _ _) ?_ (View.readAt_full _ _ _)
  simp only [View.readAt_eq_ld, harg3.read_unread]
  exact ld_vblk x1 (k0_off2 i k) k.val h2 _

/-- After `k` trips the carried scores and the two scratch arrays are `fl` at `k`. -/
theorem loop_state (h1 : ∀ k, k0_off1 i k = ![512 * (k.val + 1), 0]) (h2 : ∀ k, k0_off2 i k = ![512 * k.val, 0])
    (G6 : BufTy.Contents (Elt F) arg6.view.ty) (G7 : BufTy.Contents (Elt F) arg7.view.ty)
    (e6 : arg6.view.read (Elt F) G6 = k0_pay13) (e7 : arg7.view.read (Elt F) G7 = k0_pay14)
    (init : FVec F S1024x512 .f32) (ei : init = k0_pay16 q (kblk x1 0)) : ∀ k : ℕ, k ≤ (k0_t1_loop i).trips →
      (st_k0_t1 (F := F) 𝒱 c bd i arg2 harg2 arg3 harg3 arg4 harg4 arg5 harg5 arg6 harg6 arg7 harg7 q v53 v94 k0_pay15 v109 c0 c1 v112 (harg3.unread x1) G6 G7 init k).1 = (fl q x1 k).1
      ∧ arg6.view.read (Elt F) (arg6.view.writes (Elt F) G6 (st_k0_t1 (F := F) 𝒱 c bd i arg2 harg2 arg3 harg3 arg4 harg4 arg5 harg5 arg6 harg6 arg7 harg7 q v53 v94 k0_pay15 v109 c0 c1 v112 (harg3.unread x1) G6 G7 init k).2.1) = (fl q x1 k).2.1
      ∧ arg7.view.read (Elt F) (arg7.view.writes (Elt F) G7 (st_k0_t1 (F := F) 𝒱 c bd i arg2 harg2 arg3 harg3 arg4 harg4 arg5 harg5 arg6 harg6 arg7 harg7 q v53 v94 k0_pay15 v109 c0 c1 v112 (harg3.unread x1) G6 G7 init k).2.2) = (fl q x1 k).2.2
  | 0, _ => ⟨ei, e6, e7⟩
  | k + 1, hk => by
    obtain ⟨i1, i2, i3⟩ := loop_state h1 h2 G6 G7 e6 e7 init ei k (Nat.le_of_succ_le hk)
    have hs := st_k0_t1_succ (F := F) 𝒱 c bd i arg2 harg2 arg3 harg3 arg4 harg4 arg5 harg5 arg6 harg6 arg7 harg7 q v53 v94 k0_pay15 v109 c0 c1 v112 (harg3.unread x1) G6 G7 init ⟨k, hk⟩
    refine ⟨?_, ?_, ?_⟩
    · rw [hs]
      exact trip_res 𝒱 c bd i arg2 harg2 arg3 harg3 arg4 harg4 arg5 harg5 arg6 harg6 arg7 harg7 q v53 v94 v109 c0 c1 v112 x1 ⟨k, hk⟩ (h1 _) _ _ _
    · rw [hs]
      refine (trip_max 𝒱 c bd i arg2 harg2 arg3 harg3 arg4 harg4 arg5 harg5 arg6 harg6 arg7 harg7 q v53 v94 v109 c0 c1 v112 x1 ⟨k, hk⟩ _ G6 _ _).trans ?_
      rw [i1, i2]; rfl
    · rw [hs]
      refine (trip_acc 𝒱 c bd i arg2 harg2 arg3 harg3 arg4 harg4 arg5 harg5 arg6 harg6 arg7 harg7 q v53 v94 v109 c0 c1 v112 x1 ⟨k, hk⟩ (h2 _) _ _ G7 _).trans ?_
      rw [i1, i2, i3]; rfl

end Trip

end Cert.KernelIdeal.Flash
-- ==== Proof.FlashOut.lean ====
module

public import proofs.«01_k».proof.Proof.FlashState

@[expose] public section

set_option maxRecDepth 16384

noncomputable section

namespace Cert.KernelIdeal.Flash

open Idealize.ShloMosaic Idealize.ShloMosaic.TcCoe Idealize.ShloMosaic.Tactic Idealize.SL.Sem
open Cert.KernelIdeal Cert.KernelIdeal.Gen

variable {F : FTy → Type} [FloatOps F]

/-- The second grid coordinate of point `t` is its position in the batch's row of blocks. -/
theorem coords_one : ∀ t : Fin grid0.N, (grid0.coords t 1).val = t.val % 64 := by decide +kernel

/-- The first grid coordinate of point `t` is its batch. -/
theorem coords_zero : ∀ t : Fin grid0.N, (grid0.coords t 0).val = t.val / 64 := by decide +kernel

/-- The main loop makes one trip for each block of 512 keys that lies wholly before the query block. -/
theorem trips_one : ∀ t : Fin grid0.N, (k0_t1_loop (grid0.coords t)).trips = t.val % 64 / 4 := by decide +kernel

/-- The loop that would take the remaining blocks makes no trip. -/
theorem trips_two : ∀ t : Fin grid0.N, (k0_t2_loop (grid0.coords t)).trips = 0 := by decide +kernel

/-- A trip loads the next block of keys. -/
theorem off_one : ∀ t : Fin grid0.N, ∀ k : Fin (k0_t1_loop (grid0.coords t)).trips,
    k0_off1 (grid0.coords t) k = ![512 * (k.val + 1), 0] := by decide +kernel

/-- A trip loads the values of its own block. -/
theorem off_two : ∀ t : Fin grid0.N, ∀ k : Fin (k0_t1_loop (grid0.coords t)).trips,
    k0_off2 (grid0.coords t) k = ![512 * k.val, 0] := by decide +kernel

/-- The last step loads the values of the block the query block lies in. -/
theorem off_last : ∀ t : Fin grid0.N, k0_off5 (grid0.coords t) = ![512 * (t.val % 64 / 4), 0] := by decide +kernel

/-- The queries of the eight heads, one under the other. -/
def qcat (x0 : Vec F S128x2048 .bf16) : FVec F S1024x256 .bf16 := k0_pay8
    (View.ld x0 (Rect.unit (s := S128x2048) ![0, 0] S128x256.size inb_S128x2048_S128x256_0_0))
    (View.ld x0 (Rect.unit (s := S128x2048) ![0, 256] S128x256.size inb_S128x2048_S128x256_0_256))
    (View.ld x0 (Rect.unit (s := S128x2048) ![0, 512] S128x256.size inb_S128x2048_S128x256_0_512))
    (View.ld x0 (Rect.unit (s := S128x2048) ![0, 768] S128x256.size inb_S128x2048_S128x256_0_768))
    (View.ld x0 (Rect.unit (s := S128x2048) ![0, 1024] S128x256.size inb_S128x2048_S128x256_0_1024))
    (View.ld x0 (Rect.unit (s := S128x2048) ![0, 1280] S128x256.size inb_S128x2048_S128x256_0_1280))
    (View.ld x0 (Rect.unit (s := S128x2048) ![0, 1536] S128x256.size inb_S128x2048_S128x256_0_1536))
    (View.ld x0 (Rect.unit (s := S128x2048) ![0, 1792] S128x256.size inb_S128x2048_S128x256_0_1792))

/-- The weighted sum after the last, masked, block. -/
def accLast (lim : IVec S1024x1 32) (n : ℕ) (q : FVec F S1024x256 .bf16) (x1 : Vec F S8192x256 .bf16) : FVec F S1024x256 .f32 :=
  k0_pay26 (k0_pay23 lim (BitVec.ofNat 32 (n + 1)) (fl q x1 n).1 (fl q x1 n).2.1) (k0_pay24 k0_pay15 (vblk x1 n))
    (k0_pay25 lim (BitVec.ofNat 32 (n + 1)) (fl q x1 n).1 (fl q x1 n).2.1) (fl q x1 n).2.2

/-- The heads' outputs combined: each head's quotient times its value weights, added up. -/
def combine (a : FVec F S1024x256 .f32) (x2 : Vec F S8x128x512 .bf16) : FVec F S128x512 .bf16 :=
  k0_pay1 (k0_pay28 a) (k0_pay29 a (View.ld x2 (Rect.unit (s := S8x128x512) ![0, 0, 0] S1x128x512.size inb_S8x128x512_S1x128x512_0_0_0)) (View.ld x2 (Rect.unit (s := S8x128x512) ![1, 0, 0] S1x128x512.size inb_S8x128x512_S1x128x512_1_0_0)) (View.ld x2 (Rect.unit (s := S8x128x512) ![2, 0, 0] S1x128x512.size inb_S8x128x512_S1x128x512_2_0_0)))
    (k0_pay30 a) (k0_pay31 (View.ld x2 (Rect.unit (s := S8x128x512) ![3, 0, 0] S1x128x512.size inb_S8x128x512_S1x128x512_3_0_0))) (constant S128x512 .f32 0x00000000#32)
    (View.ld x2 (Rect.unit (s := S8x128x512) ![4, 0, 0] S1x128x512.size inb_S8x128x512_S1x128x512_4_0_0)) (View.ld x2 (Rect.unit (s := S8x128x512) ![5, 0, 0] S1x128x512.size inb_S8x128x512_S1x128x512_5_0_0)) (View.ld x2 (Rect.unit (s := S8x128x512) ![6, 0, 0] S1x128x512.size inb_S8x128x512_S1x128x512_6_0_0)) (View.ld x2 (Rect.unit (s := S8x128x512) ![7, 0, 0] S1x128x512.size inb_S8x128x512_S1x128x512_7_0_0))

/-- The limit row of a block: for each row the number of keys its query sees. -/
def limRow (i : grid0.Coords) : IVec S1024x1 32 := k0_pay12 (k0_pay9 i) 64#32 (k0_pay10 i) (k0_pay11 i) 1#32

section Out

variable (c : Dev nD) (t : Fin grid0.N) (arg2 : Memref sig .tc .vmem S128x2048 .bf16) (harg2 : arg2.IsWhole) (arg3 : Memref sig .tc .vmem S8192x256 .bf16) (harg3 : arg3.IsWhole) (arg4 : Memref sig .tc .vmem S8x128x512 .bf16) (harg4 : arg4.IsWhole) (arg5 : Memref sig .tc .vmem S128x512 .bf16) (harg5 : arg5.IsWhole) (arg6 : Memref sig .tc .vmem S1024x128 .f32) (harg6 : arg6.IsWhole) (arg7 : Memref sig .tc .vmem S1024x256 .f32) (harg7 : arg7.IsWhole)
  (x0 : Vec F S128x2048 .bf16) (x1 : Vec F S8192x256 .bf16) (x2 : Vec F S8x128x512 .bf16)

theorem nkb_eq : ∀ t : Fin grid0.N, kernelRun0_A.sl.v94 (grid0.coords t) = BitVec.ofNat 32 (t.val % 64 / 4 + 1) := by decide +kernel

/-- The kernel's queries are the eight heads' slices of its first block. -/
theorem r_eq : kernelRun0_A.sl.r (F := F) c arg2 harg2 x0 = qcat x0 := by
  unfold kernelRun0_A.sl.r qcat
  simp only [View.readAt_eq_ld, harg2.read_unread]

/-- The first scores are those of the first block of keys. -/
theorem r2_eq : kernelRun0_A.sl.r_2 (F := F) c arg2 harg2 arg3 harg3 x0 x1 = k0_pay16 (qcat x0) (kblk x1 0) := by
  unfold kernelRun0_A.sl.r_2
  rw [r_eq]
  simp only [View.readAt_eq_ld, harg3.read_unread]
  exact congrArg (k0_pay16 (qcat x0)) (ld_kblk x1 ![0, 0] 0 rfl _)

/-- The state of the main loop at its end. -/
theorem s1_eq :
    (st_k0_t1 (F := F) Variants.none c none (grid0.coords t) arg2 harg2 arg3 harg3 arg4 harg4 arg5 harg5 arg6 harg6 arg7 harg7 (kernelRun0_A.sl.r c arg2 harg2 x0) (kernelRun0_A.sl.r_1 (grid0.coords t)) (kernelRun0_A.sl.v94 (grid0.coords t)) k0_pay15
            (kernelRun0_A.sl.r_2 c arg2 harg2 arg3 harg3 x0 x1) (0#32) (1#32) (kernelRun0_A.sl.v112 (grid0.coords t)) (harg3.unread x1)
            (arg6.view.writes (Elt F) arg6.view.junk kernelRun0_A.sl.HS0_1)
            (arg7.view.writes (Elt F) arg7.view.junk kernelRun0_A.sl.HS1_1)
            (kernelRun0_A.sl.r_2 c arg2 harg2 arg3 harg3 x0 x1) (k0_t1_loop (grid0.coords t)).trips).1 = (fl (kernelRun0_A.sl.r c arg2 harg2 x0) x1 (k0_t1_loop (grid0.coords t)).trips).1
    ∧ arg6.view.read (Elt F) (arg6.view.writes (Elt F) (arg6.view.writes (Elt F) arg6.view.junk kernelRun0_A.sl.HS0_1) (st_k0_t1 (F := F) Variants.none c none (grid0.coords t) arg2 harg2 arg3 harg3 arg4 harg4 arg5 harg5 arg6 harg6 arg7 harg7 (kernelRun0_A.sl.r c arg2 harg2 x0) (kernelRun0_A.sl.r_1 (grid0.coords t)) (kernelRun0_A.sl.v94 (grid0.coords t)) k0_pay15
            (kernelRun0_A.sl.r_2 c arg2 harg2 arg3 harg3 x0 x1) (0#32) (1#32) (kernelRun0_A.sl.v112 (grid0.coords t)) (harg3.unread x1)
            (arg6.view.writes (Elt F) arg6.view.junk kernelRun0_A.sl.HS0_1)
            (arg7.view.writes (Elt F) arg7.view.junk kernelRun0_A.sl.HS1_1)
            (kernelRun0_A.sl.r_2 c arg2 harg2 arg3 harg3 x0 x1) (k0_t1_loop (grid0.coords t)).trips).2.1) = (fl (kernelRun0_A.sl.r c arg2 harg2 x0) x1 (k0_t1_loop (grid0.coords t)).trips).2.1
    ∧ arg7.view.read (Elt F) (arg7.view.writes (Elt F) (arg7.view.writes (Elt F) arg7.view.junk kernelRun0_A.sl.HS1_1) (st_k0_t1 (F := F) Variants.none c none (grid0.coords t) arg2 harg2 arg3 harg3 arg4 harg4 arg5 harg5 arg6 harg6 arg7 harg7 (kernelRun0_A.sl.r c arg2 harg2 x0) (kernelRun0_A.sl.r_1 (grid0.coords t)) (kernelRun0_A.sl.v94 (grid0.coords t)) k0_pay15
            (kernelRun0_A.sl.r_2 c arg2 harg2 arg3 harg3 x0 x1) (0#32) (1#32) (kernelRun0_A.sl.v112 (grid0.coords t)) (harg3.unread x1)
            (arg6.view.writes (Elt F) arg6.view.junk kernelRun0_A.sl.HS0_1)
            (arg7.view.writes (Elt F) arg7.view.junk kernelRun0_A.sl.HS1_1)
            (kernelRun0_A.sl.r_2 c arg2 harg2 arg3 harg3 x0 x1) (k0_t1_loop (grid0.coords t)).trips).2.2) = (fl (kernelRun0_A.sl.r c arg2 harg2 x0) x1 (k0_t1_loop (grid0.coords t)).trips).2.2 :=
  loop_state (F := F) Variants.none c none (grid0.coords t) arg2 harg2 arg3 harg3 arg4 harg4 arg5 harg5 arg6 harg6 arg7 harg7 (kernelRun0_A.sl.r c arg2 harg2 x0) (kernelRun0_A.sl.r_1 (grid0.coords t))
    (kernelRun0_A.sl.v94 (grid0.coords t)) (kernelRun0_A.sl.r_2 c arg2 harg2 arg3 harg3 x0 x1) (0#32) (1#32) (kernelRun0_A.sl.v112 (grid0.coords t)) x1
    (off_one t) (off_two t) (arg6.view.writes (Elt F) arg6.view.junk kernelRun0_A.sl.HS0_1) (arg7.view.writes (Elt F) arg7.view.junk kernelRun0_A.sl.HS1_1)
    (View.read_writes_full arg6.view _ inb_S1024x128_S1024x128_0_0 _ []) (View.read_writes_full arg7.view _ inb_S1024x256_S1024x256_0_0 _ [])
    (kernelRun0_A.sl.r_2 c arg2 harg2 arg3 harg3 x0 x1) (by rw [r2_eq, r_eq]) (k0_t1_loop (grid0.coords t)).trips le_rfl

theorem st2_eq (𝒱 : Variants) (bd : Option 𝒱.V) (v16 : FVec F S1024x256 .bf16) (v53 : IVec S1024x1 32) (v94 : BitVec 32) (v103 : FVec F S512x128 .bf16) (v109 : FVec F S1024x512 .f32) (c0 c1 v112 v114 : BitVec 32)
    (X : BufTy.Contents (Elt F) arg3.view.ty) (G6 : BufTy.Contents (Elt F) arg6.view.ty) (G7 : BufTy.Contents (Elt F) arg7.view.ty) (init : FVec F S1024x512 .f32) :
    st_k0_t2 (F := F) 𝒱 c bd (grid0.coords t) arg2 harg2 arg3 harg3 arg4 harg4 arg5 harg5 arg6 harg6 arg7 harg7 v16 v53 v94 v103 v109 c0 c1 v112 v114 X G6 G7 init
      (Scf.trips (k0_t2_loop (grid0.coords t)).lb (k0_t2_loop (grid0.coords t)).ub (k0_t2_loop (grid0.coords t)).st) = (init, [], []) := by
  have h : Scf.trips (k0_t2_loop (grid0.coords t)).lb (k0_t2_loop (grid0.coords t)).ub (k0_t2_loop (grid0.coords t)).st = 0 := trips_two t
  rw [h]; rfl

/-- The running maximum the last step reads. -/
theorem v135_eq : kernelRun0_A.sl.v135 (F := F) c (grid0.coords t) arg2 harg2 arg3 harg3 arg4 harg4 arg5 harg5 arg6 harg6 arg7 harg7 x0 x1 = (fl (qcat x0) x1 (t.val % 64 / 4)).2.1 := by
  unfold kernelRun0_A.sl.v135
  rw [st2_eq]
  have h := (s1_eq c t arg2 harg2 arg3 harg3 arg4 harg4 arg5 harg5 arg6 harg6 arg7 harg7 x0 x1).2.1
  rw [trips_one, r_eq] at h
  refine Eq.trans ?_ h
  show View.readAt _ _ _ _ = _
  refine (View.readAt_full _ _ _).trans ?_
  rw [List.nil_append, View.writes_append]
  rw [r_eq]
  have e : Scf.trips (k0_t1_loop (grid0.coords t)).lb (k0_t1_loop (grid0.coords t)).ub (k0_t1_loop (grid0.coords t)).st = t.val % 64 / 4 := trips_one t
  rw [e]

/-- The weighted sum the last step reads. -/
theorem v162_eq : kernelRun0_A.sl.v162 (F := F) c (grid0.coords t) arg2 harg2 arg3 harg3 arg4 harg4 arg5 harg5 arg6 harg6 arg7 harg7 x0 x1 = (fl (qcat x0) x1 (t.val % 64 / 4)).2.2 := by
  unfold kernelRun0_A.sl.v162
  rw [st2_eq]
  have h := (s1_eq c t arg2 harg2 arg3 harg3 arg4 harg4 arg5 harg5 arg6 harg6 arg7 harg7 x0 x1).2.2
  rw [trips_one, r_eq] at h
  refine Eq.trans ?_ h
  show View.readAt _ _ _ _ = _
  refine (View.readAt_full _ _ _).trans ?_
  rw [List.nil_append, View.writes_append]
  rw [r_eq]
  have e : Scf.trips (k0_t1_loop (grid0.coords t)).lb (k0_t1_loop (grid0.coords t)).ub (k0_t1_loop (grid0.coords t)).st = t.val % 64 / 4 := trips_one t
  rw [e]

/-- The scores the last step reads. -/
theorem sc_eq : (st_k0_t1 (F := F) Variants.none c none (grid0.coords t) arg2 harg2 arg3 harg3 arg4 harg4 arg5 harg5 arg6 harg6 arg7 harg7 (kernelRun0_A.sl.r c arg2 harg2 x0) (kernelRun0_A.sl.r_1 (grid0.coords t)) (kernelRun0_A.sl.v94 (grid0.coords t)) k0_pay15
            (kernelRun0_A.sl.r_2 c arg2 harg2 arg3 harg3 x0 x1) (0#32) (1#32) (kernelRun0_A.sl.v112 (grid0.coords t)) (harg3.unread x1)
            (arg6.view.writes (Elt F) arg6.view.junk kernelRun0_A.sl.HS0_1)
            (arg7.view.writes (Elt F) arg7.view.junk kernelRun0_A.sl.HS1_1)
            (kernelRun0_A.sl.r_2 c arg2 harg2 arg3 harg3 x0 x1)
            (Scf.trips (k0_t1_loop (grid0.coords t)).lb (k0_t1_loop (grid0.coords t)).ub (k0_t1_loop (grid0.coords t)).st)).1 = (fl (qcat x0) x1 (t.val % 64 / 4)).1 := by
  have h := (s1_eq c t arg2 harg2 arg3 harg3 arg4 harg4 arg5 harg5 arg6 harg6 arg7 harg7 x0 x1).1
  rw [trips_one] at h
  have e : Scf.trips (k0_t1_loop (grid0.coords t)).lb (k0_t1_loop (grid0.coords t)).ub (k0_t1_loop (grid0.coords t)).st = t.val % 64 / 4 := trips_one t
  rw [e, h, r_eq]

/-- The last step's weights. -/
theorem r4_eq : kernelRun0_A.sl.r_4 (F := F) c (grid0.coords t) arg2 harg2 arg3 harg3 arg4 harg4 arg5 harg5 arg6 harg6 arg7 harg7 x0 x1
    = k0_pay23 (limRow (grid0.coords t)) (BitVec.ofNat 32 (t.val % 64 / 4 + 1)) (fl (qcat x0) x1 (t.val % 64 / 4)).1 (fl (qcat x0) x1 (t.val % 64 / 4)).2.1 := by
  unfold kernelRun0_A.sl.r_4
  rw [st2_eq, v135_eq, nkb_eq]
  refine congrArg (fun z => k0_pay23 (limRow (grid0.coords t)) (BitVec.ofNat 32 (t.val % 64 / 4 + 1)) z (fl (qcat x0) x1 (t.val % 64 / 4)).2.1) ?_
  rw [← nkb_eq]
  exact sc_eq c t arg2 harg2 arg3 harg3 arg4 harg4 arg5 harg5 arg6 harg6 arg7 harg7 x0 x1

/-- The last step's values beside a column block of ones. -/
theorem r5_eq : kernelRun0_A.sl.r_5 (F := F) (grid0.coords t) arg3 harg3 x1 = k0_pay24 k0_pay15 (vblk x1 (t.val % 64 / 4)) := by
  unfold kernelRun0_A.sl.r_5
  simp only [View.readAt_eq_ld, harg3.read_unread]
  exact congrArg (k0_pay24 k0_pay15) (ld_vblk x1 _ (t.val % 64 / 4) (off_last t) _)

/-- The last step's rescaling. -/
theorem r6_eq : kernelRun0_A.sl.r_6 (F := F) c (grid0.coords t) arg2 harg2 arg3 harg3 arg4 harg4 arg5 harg5 arg6 harg6 arg7 harg7 x0 x1
    = k0_pay25 (limRow (grid0.coords t)) (BitVec.ofNat 32 (t.val % 64 / 4 + 1)) (fl (qcat x0) x1 (t.val % 64 / 4)).1 (fl (qcat x0) x1 (t.val % 64 / 4)).2.1 := by
  unfold kernelRun0_A.sl.r_6
  rw [st2_eq, v135_eq, nkb_eq]
  refine congrArg (fun z => k0_pay25 (limRow (grid0.coords t)) (BitVec.ofNat 32 (t.val % 64 / 4 + 1)) z (fl (qcat x0) x1 (t.val % 64 / 4)).2.1) ?_
  rw [← nkb_eq]
  exact sc_eq c t arg2 harg2 arg3 harg3 arg4 harg4 arg5 harg5 arg6 harg6 arg7 harg7 x0 x1

/-- The weighted sum read back after the last step. -/
theorem v172_eq : kernelRun0_A.sl.v172 (F := F) c (grid0.coords t) arg2 harg2 arg3 harg3 arg4 harg4 arg5 harg5 arg6 harg6 arg7 harg7 x0 x1 = accLast (limRow (grid0.coords t)) (t.val % 64 / 4) (qcat x0) x1 := by
  unfold kernelRun0_A.sl.v172 kernelRun0_A.sl.HS1_1_1
  refine (View.readCov_full arg7.view _ _ _ _).trans ?_
  rw [r4_eq, r5_eq, r6_eq, v162_eq]
  rfl

/-- What the body leaves in its output block at grid point `t`. -/
theorem out_eq : out0_A_3 (F := F) c (grid0.coords t) arg2 harg2 arg3 harg3 arg4 harg4 arg5 harg5 arg6 harg6 arg7 harg7 x0 x1 x2 = combine (accLast (limRow (grid0.coords t)) (t.val % 64 / 4) (qcat x0) x1) x2 := by
  unfold out0_A_3
  rw [View.read_writes_eq_canon _ _ _ (cover0_A_3 c (grid0.coords t) arg2 harg2 arg3 harg3 arg4 harg4 arg5 harg5 arg6 harg6 arg7 harg7 x0 x1 x2)]
  unfold kernelRun0_A
  dsimp only
  refine (View.canon_unit_zero hz _ _).trans ?_
  unfold kernelRun0_A.sl.r_7 kernelRun0_A.sl.r_8 kernelRun0_A.sl.r_9 kernelRun0_A.sl.r_10
  rw [v172_eq]
  simp only [View.readAt_eq_ld, harg4.read_unread]
  rfl

end Out

end Cert.KernelIdeal.Flash
-- ==== Proof.FlashArray.lean ====
/-
  The kernel's result array: block by block, the heads' combination of the loop's last weighted sums.
-/
module

public import proofs.«01_k».proof.Proof.FlashOut
public import Idealize.ShloMosaic.Lib.Pipeline.Value
public import Idealize.ShloMosaic.Lib.Pointwise

@[expose] public section

set_option maxRecDepth 16384

noncomputable section

namespace Cert.KernelIdeal.Flash

open Idealize.ShloMosaic Idealize.ShloMosaic.TcCoe Idealize.ShloMosaic.Tactic Idealize.SL.Sem
open Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- What point `t` leaves in its block. -/
def blockOut (c : Dev nD) (t : Fin grid0.N) : FVec F S128x512 .bf16 :=
  combine (accLast (limRow (grid0.coords t)) (t.val % 64 / 4) (qcat (iblk m c 0 t)) (iblk m c 1 t)) (iblk m c 2 t)

/-- The point whose block holds row `i`. -/
def pt (i : Fin 32768) : Fin grid0.N := ⟨i.val / 128, by have : grid0.N = 256 := N_0; have := i.isLt; omega⟩

/-- The result array. -/
def result (c : Dev nD) : Buf (Elt F) ((c : Thread nD τ).loc main_v54) := fun i =>
  blockOut m c (pt (i 0)) (ix2 ⟨(i 0).val % 128, Nat.mod_lt _ (by decide)⟩ (i 1))

theorem index3 : ∀ t : Fin grid0.N, win0_3.index t 0 = t.val ∧ win0_3.index t 1 = 0 := by decide +kernel
theorem index0 : ∀ t : Fin grid0.N, win0_0.index t 0 = t.val ∧ win0_0.index t 1 = 0 := by decide +kernel
theorem index1 : ∀ t : Fin grid0.N, win0_1.index t 0 = t.val / 64 ∧ win0_1.index t 1 = 0 := by decide +kernel
theorem index2 : ∀ t : Fin grid0.N, win0_2.index t 0 = 0 ∧ win0_2.index t 1 = 0 ∧ win0_2.index t 2 = 0 := by decide +kernel

theorem rect3 : ∀ t : Fin grid0.N, win0_3.index t 0 * win0_3.size 0 = 128 * t.val ∧ win0_3.index t 1 * win0_3.size 1 = 0
    ∧ win0_3.xsize (grid0.coords t) 0 = 128 ∧ win0_3.xsize (grid0.coords t) 1 = 512 := by decide +kernel

theorem flushed_eq (c : Dev nD) (t : Fin cfg0.N) :
    (dats m 0 c).flushed 3 t = ((cfg0.win 3).blk t).view.read (Elt F) (result m c) := by
  rw [Value.flushed3_A, out_eq]
  funext j
  rw [View.read_apply]
  have hN : t.val < 256 := by have h : cfg0.N = 256 := N_0; have := t.isLt; omega
  have h0 : (j 0).val < 128 := (j 0).isLt
  show blockOut m c t j = result m c ((win0_3.rect t).idx j)
  have e0 : (((win0_3.rect t).idx j) 0).val = 128 * t.val + (j 0).val := by
    show win0_3.index t 0 * 128 + 1 * (j 0).val = _
    rw [(index3 t).1]; omega
  have e1 : (((win0_3.rect t).idx j) 1).val = (j 1).val := by
    show win0_3.index t 1 * 512 + 1 * (j 1).val = _
    rw [(index3 t).2]; omega
  unfold result
  rw [show pt (((win0_3.rect t).idx j) 0) = t from Fin.ext (by show _ / 128 = _; rw [e0]; omega)]
  refine congrArg (blockOut m c t) ?_
  refine (eq_ix2 (n0 := 128) (n1 := 512) j).trans ?_
  exact congrArg₂ (ix2 (n0 := 128) (n1 := 512)) (Fin.ext (by show _ = _ % 128; rw [e0]; omega)) (Fin.ext (by show _ = _; exact e1.symm))

/-- The result array after the run. -/
theorem final (c : Dev nD) : (dats m 0 c).arrAt 3 cfg0.N = result m c :=
  (dats m 0 c).arrAt_eq_of_cover 3 (result m c) (fun t _ => flushed_eq m c t) fun i =>
    ⟨pt (i 0), flush0_3 _, by
      show i ∈ ((View.whole main_v54).slice (win0_3.rect (pt (i 0)))).set
      rw [View.set_slice_whole, Rect.mem_set_unit]
      intro a
      have h0 : (i 0 : Nat) < 32768 := (i 0).isLt
      have h1 : (i 1 : Nat) < 512 := (i 1).isLt
      obtain ⟨r0, r1, x0, x1⟩ := rect3 (pt (i 0))
      have ht : (pt (i 0)).val = (i 0).val / 128 := rfl
      match a with
      | ⟨0, _⟩ => show win0_3.index (pt (i 0)) 0 * win0_3.size 0 ≤ (i 0 : Nat) ∧ (i 0 : Nat) < win0_3.index (pt (i 0)) 0 * win0_3.size 0 + win0_3.xsize (grid0.coords (pt (i 0))) 0
                  rw [r0, x0, ht]; omega
      | ⟨1, _⟩ => show win0_3.index (pt (i 0)) 1 * win0_3.size 1 ≤ (i 1 : Nat) ∧ (i 1 : Nat) < win0_3.index (pt (i 0)) 1 * win0_3.size 1 + win0_3.xsize (grid0.coords (pt (i 0))) 1
                  rw [r1, x1]; omega⟩

/-- The queries' block of point `t`: its 128 rows. -/
theorem iblk0_at (c : Dev nD) (t : Fin cfg0.N) (i : Fin 128) (j : Fin 2048) (k : Fin 32768) (hk : k.val = 128 * t.val + i.val) :
    (iblk m c 0 t : Vec F S128x2048 .bf16) (ix2 i j) = (V m c main_v13 : Vec F S32768x2048 .bf16) (ix2 k j) := by
  unfold iblk
  rw [View.read_apply]
  show (V m c main_v13 : Vec F S32768x2048 .bf16) _ = _
  congr 1
  funext a
  apply Fin.ext
  match a with
  | ⟨0, _⟩ => show win0_0.index t 0 * 128 + 1 * i.val = k.val; rw [(index0 t).1, hk]; omega
  | ⟨1, _⟩ => show win0_0.index t 1 * 2048 + 1 * j.val = j.val; rw [(index0 t).2]; omega

/-- The keys' block of point `t`: the keys of its batch. -/
theorem iblk1_at (c : Dev nD) (t : Fin cfg0.N) (i : Fin 8192) (j : Fin 256) (k : Fin 32768) (hk : k.val = 8192 * (t.val / 64) + i.val) :
    (iblk m c 1 t : Vec F S8192x256 .bf16) (ix2 i j) = (V m c main_v18 : Vec F S32768x256 .bf16) (ix2 k j) := by
  unfold iblk
  rw [View.read_apply]
  show (V m c main_v18 : Vec F S32768x256 .bf16) _ = _
  congr 1
  funext a
  apply Fin.ext
  match a with
  | ⟨0, _⟩ => show win0_1.index t 0 * 8192 + 1 * i.val = k.val; rw [(index1 t).1, hk]; omega
  | ⟨1, _⟩ => show win0_1.index t 1 * 256 + 1 * j.val = j.val; rw [(index1 t).2]; omega

/-- The value weights' block: the whole array. -/
theorem iblk2_at (c : Dev nD) (t : Fin cfg0.N) (h : Fin 8) (i : Fin 128) (j : Fin 512) :
    (iblk m c 2 t : Vec F S8x128x512 .bf16) (ix3 h i j) = (V m c main_v53 : Vec F S8x128x512 .bf16) (ix3 h i j) := by
  unfold iblk
  rw [View.read_apply]
  show (V m c main_v53 : Vec F S8x128x512 .bf16) _ = _
  congr 1
  funext a
  apply Fin.ext
  match a with
  | ⟨0, _⟩ => show win0_2.index t 0 * 8 + 1 * h.val = h.val; rw [(index2 t).1]; omega
  | ⟨1, _⟩ => show win0_2.index t 1 * 128 + 1 * i.val = i.val; rw [(index2 t).2.1]; omega
  | ⟨2, _⟩ => show win0_2.index t 2 * 512 + 1 * j.val = j.val; rw [(index2 t).2.2]; omega

end Cert.KernelIdeal.Flash
-- ==== Proof.RowMath.lean ====
/-
  The algebra of one row of attention, over the reals.

  A row is folded in blocks. After `N` keys it holds a number `μ`, the sum of `2 ^ (σ k - μ)` over the visible keys and
  the sum of `2 ^ (σ k - μ)` times the values; the quotient of the two sums does not depend on `μ`.
-/
module

public import Idealize.ShloMosaic.Lib.IdealHost
public import Idealize.ShloMosaic.PureOps.Ideal
public import Mathlib.Analysis.SpecialFunctions.Pow.Real

@[expose] public section

noncomputable section

namespace Cert.RowMath

open Idealize.ShloMosaic

/-- A finite sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of key `k` in a row that sees the keys before `lim`. -/
def wt (lim : ℕ) (σ : ℕ → ℝ) (μ : ℝ) (k : ℕ) : ℝ := if k < lim then Real.rpow 2 (σ k - μ) else 0

/-- What the weighted sum `a` and the running number `m` hold after `N` keys. -/
def Inv (lim : ℕ) (σ v : ℕ → ℝ) (N : ℕ) (m a : EReal) : Prop :=
  (N = 0 ∧ m = ⊥ ∧ a = 0) ∨ ∃ μ : ℝ, m = (μ : EReal) ∧ a = ((∑ k ∈ Finset.range N, wt lim σ μ k * v k : ℝ) : EReal)

theorem wt_shift (lim : ℕ) (σ : ℕ → ℝ) (μ μ' : ℝ) (k : ℕ) : Real.rpow 2 (μ - μ') * wt lim σ μ k = wt lim σ μ' k := by
  unfold wt
  split
  · show (2 : ℝ) ^ (μ - μ') * (2 : ℝ) ^ (σ k - μ) = (2 : ℝ) ^ (σ k - μ')
    rw [← Real.rpow_add (by norm_num)]; congr 1; ring
  · exact mul_zero _

/-- One block folded in: the sum after it, whatever real number the new `m` is. -/
theorem step_sum {lim : ℕ} {σ v : ℕ → ℝ} {N : ℕ} {m a : EReal} (h : Inv lim σ v N m a) (μ' : ℝ) (s w : Fin 512 → EReal)
    (hs : ∀ x, s x = if N + x.val < lim then (σ (N + x.val) : EReal) else ⊥) (hw : ∀ x, w x = (v (N + x.val) : EReal)) :
    Ideal.exp2 (m - (μ' : EReal)) * a + ∑ x, Ideal.exp2 (s x - (μ' : EReal)) * w x
      = ((∑ k ∈ Finset.range (N + 512), wt lim σ μ' k * v k : ℝ) : EReal) := by
  have e1 : Ideal.exp2 (m - (μ' : EReal)) * a = ((∑ k ∈ Finset.range N, wt lim σ μ' k * v k : ℝ) : EReal) := by
    rcases h with ⟨h0, hm, ha⟩ | ⟨μ, hm, ha⟩
    · subst h0; rw [ha]; simp
    · rw [hm, ha, ← EReal.coe_sub, Ideal.exp2_coe, ← EReal.coe_mul, Finset.mul_sum]
      congr 1
      refine Finset.sum_congr rfl fun k _ => ?_
      rw [← mul_assoc, wt_shift]
  have e2 : ∀ x, Ideal.exp2 (s x - (μ' : EReal)) * w x = ((wt lim σ μ' (N + x.val) * v (N + x.val) : ℝ) : EReal) := by
    intro x
    rw [hs, hw, EReal.coe_mul]
    congr 1
    unfold wt
    split
    · rw [← EReal.coe_sub, Ideal.exp2_coe]
    · rw [EReal.bot_sub, Ideal.exp2_bot]; rfl
  rw [e1, Finset.sum_congr rfl fun x _ => e2 x, ← coe_sum, ← EReal.coe_add]
  congr 1
  rw [Finset.sum_range_add, Finset.sum_range fun i => wt lim σ μ' (N + i) * v (N + i)]

theorem step {lim : ℕ} {σ v : ℕ → ℝ} {N : ℕ} {m a : EReal} (h : Inv lim σ v N m a) (m' : EReal) (μ' : ℝ) (hm' : m' = (μ' : EReal)) (s w : Fin 512 → EReal)
    (hs : ∀ x, s x = if N + x.val < lim then (σ (N + x.val) : EReal) else ⊥) (hw : ∀ x, w x = (v (N + x.val) : EReal)) :
    Inv lim σ v (N + 512) m' (Ideal.exp2 (m - m') * a + ∑ x, Ideal.exp2 (s x - m') * w x) := by
  subst hm'
  exact Or.inr ⟨μ', rfl, step_sum h μ' s w hs hw⟩

/-- A maximum folded over finitely many numbers below `⊤` is below `⊤`. -/
theorem fold_max_lt {ι : Type} (s : Finset ι) (f : ι → EReal) (b : EReal) (hb : b < ⊤) (hf : ∀ i, f i < ⊤) : Finset.fold max b f s < ⊤ :=
  (Finset.fold_max_lt (c := (⊤ : EReal))).2 ⟨hb, fun i _ => hf i⟩

/-- The new maximum is a real number when the old one or some score is. -/
theorem max_real (m b : EReal) (s : Fin 512 → EReal) (hm : m < ⊤) (hb : b < ⊤) (hs : ∀ x, s x < ⊤) (h0 : ⊥ < m ∨ ⊥ < s 0) :
    ∃ μ : ℝ, max m (Finset.fold max b (fun x : Fin 128 =>
      max (max (max (s ⟨x.val, by omega⟩) (s ⟨128 + x.val, by omega⟩)) (s ⟨256 + x.val, by omega⟩)) (s ⟨384 + x.val, by omega⟩))
      Finset.univ) = (μ : EReal) := by
  have htop : max m (Finset.fold max b (fun x : Fin 128 =>
      max (max (max (s ⟨x.val, by omega⟩) (s ⟨128 + x.val, by omega⟩)) (s ⟨256 + x.val, by omega⟩)) (s ⟨384 + x.val, by omega⟩))
      Finset.univ) < ⊤ :=
    max_lt hm (fold_max_lt _ _ _ hb fun i => max_lt (max_lt (max_lt (hs _) (hs _)) (hs _)) (hs _))
  have hbot : ⊥ < max m (Finset.fold max b (fun x : Fin 128 =>
      max (max (max (s ⟨x.val, by omega⟩) (s ⟨128 + x.val, by omega⟩)) (s ⟨256 + x.val, by omega⟩)) (s ⟨384 + x.val, by omega⟩))
      Finset.univ) := by
    rcases h0 with h | h
    · exact lt_max_of_lt_left h
    · refine lt_max_of_lt_right ((Finset.lt_fold_max (c := (⊥ : EReal))).2 (Or.inr ⟨0, Finset.mem_univ _, ?_⟩))
      exact lt_max_of_lt_left (lt_max_of_lt_left (lt_max_of_lt_left h))
  exact ⟨_, (EReal.coe_toReal htop.ne hbot.ne').symm⟩

/-- The two-power weights of a scaled score are the exponential weights. -/
theorem rpow_exp (a S : ℝ) : Real.rpow 2 (a / Real.log 2 * S) = Real.exp (a * S) := by
  show (2 : ℝ) ^ (a / Real.log 2 * S) = _
  have h2 : Real.log 2 ≠ 0 := (Real.log_pos (by norm_num)).ne'
  rw [Real.rpow_def_of_pos (by norm_num)]
  congr 1
  field_simp

/-- The visible weights do not depend on the running number, up to a common factor. -/
theorem wt_factor (lim : ℕ) (σ : ℕ → ℝ) (μ : ℝ) (k : ℕ) : wt lim σ μ k = Real.rpow 2 (-μ) * (if k < lim then Real.rpow 2 (σ k) else 0) := by
  unfold wt
  split
  · show (2 : ℝ) ^ (σ k - μ) = (2 : ℝ) ^ (-μ) * (2 : ℝ) ^ (σ k)
    rw [← Real.rpow_add (by norm_num)]; congr 1; ring
  · exact (mul_zero _).symm

/-- A sum whose terms vanish from `lim` on may be carried further. -/
theorem sum_extend {lim N M : ℕ} (hN : lim ≤ N) (hM : N ≤ M) (f : ℕ → ℝ) :
    ∑ k ∈ Finset.range N, (if k < lim then f k else 0) = ∑ k ∈ Finset.range M, (if k < lim then f k else 0) := by
  refine Finset.sum_subset (Finset.range_mono hM) fun k _ hk => ?_
  rw [Finset.mem_range, not_lt] at hk
  exact if_neg (by omega)

/-- The row's quotient: a softmax-weighted mean of the values. -/
theorem quotient {lim N M : ℕ} (σ v : ℕ → ℝ) (μ : ℝ) (hl : 0 < lim) (hN : lim ≤ N) (hM : N ≤ M) :
    Ideal.div ((∑ k ∈ Finset.range N, wt lim σ μ k * v k : ℝ) : EReal) ((∑ k ∈ Finset.range N, wt lim σ μ k * 1 : ℝ) : EReal)
      = (((∑ k ∈ Finset.range M, (if k < lim then Real.rpow 2 (σ k) * v k else 0))
          / ∑ k ∈ Finset.range M, (if k < lim then Real.rpow 2 (σ k) else 0) : ℝ) : EReal) := by
  have hpos : ∀ k : ℕ, 0 < Real.rpow 2 (σ k) := fun k => Real.rpow_pos_of_pos (by norm_num) _
  have e1 : ∑ k ∈ Finset.range N, wt lim σ μ k * v k = Real.rpow 2 (-μ) * ∑ k ∈ Finset.range M, (if k < lim then Real.rpow 2 (σ k) * v k else 0) := by
    rw [← sum_extend hN hM, Finset.mul_sum]
    refine Finset.sum_congr rfl fun k _ => ?_
    rw [wt_factor, mul_assoc, ite_mul, zero_mul]
  have e2 : ∑ k ∈ Finset.range N, wt lim σ μ k * 1 = Real.rpow 2 (-μ) * ∑ k ∈ Finset.range M, (if k < lim then Real.rpow 2 (σ k) else 0) := by
    rw [← sum_extend hN hM, Finset.mul_sum]
    refine Finset.sum_congr rfl fun k _ => ?_
    rw [wt_factor, mul_one]
  have hμ : (0 : ℝ) < Real.rpow 2 (-μ) := Real.rpow_pos_of_pos (by norm_num) _
  have hd : (0 : ℝ) < ∑ k ∈ Finset.range M, (if k < lim then Real.rpow 2 (σ k) else 0) := by
    refine Finset.sum_pos' (fun k _ => ?_) ⟨0, Finset.mem_range.2 (by omega), ?_⟩
    · split
      · exact (hpos k).le
      · exact le_rfl
    · rw [if_pos hl]; exact hpos 0
  rw [e1, e2, Ideal.div_coe (mul_pos hμ hd).ne', ← EReal.coe_mul, mul_one_div, mul_div_mul_left _ _ hμ.ne']

/-- The pattern of minus infinity. -/
theorem ofBits_bot_f32 : Ideal.ofBits .f32 0xFF800000#32 = ⊥ := by
  simp [Ideal.ofBits, Ideal.ieee]

end Cert.RowMath
-- ==== Proof.FlashRow.lean ====
/-
  What one row of the kernel's loop holds, over the reals.

  The payloads are read at an index; each row of the loop's state is an instance of the row invariant of `RowMath`.
-/
module

public import proofs.«01_k».proof.Proof.FlashOut
public import proofs.«01_k».proof.Proof.RowMath
public import Idealize.ShloMosaic.Lib.Pointwise
public import Idealize.ShloMosaic.Lib.WordCmp

@[expose] public section

set_option maxRecDepth 16384

noncomputable section

namespace Cert.KernelIdeal.Flash

open Idealize.ShloMosaic Idealize.ShloMosaic.TcCoe Idealize.ShloMosaic.Tactic Idealize.SL.Sem
open Cert.KernelIdeal Cert.KernelIdeal.Gen Cert.RowMath

/-- A score: one query row against one key row. -/
theorem pay2_at (q : FVec Ideal S1024x256 .bf16) (k : Vec Ideal S512x256 .bf16) (r : Fin 1024) (x : Fin 512) :
    k0_pay2 (F := Ideal) q k (ix2 r x) = ∑ l : Fin 256, q (ix2 r l) * k (ix2 x l) := by
  pointwise [k0_pay2]

theorem pay16_at (q : FVec Ideal S1024x256 .bf16) (k : Vec Ideal S512x256 .bf16) (r : Fin 1024) (x : Fin 512) :
    k0_pay16 (F := Ideal) q k (ix2 r x) = ∑ l : Fin 256, q (ix2 r l) * k (ix2 x l) := by
  pointwise [k0_pay16]

/-- The new maximum of a row: the old one and the largest of the block's scores. -/
def newMax (m : EReal) (s : Fin 512 → EReal) : EReal :=
  max m (Finset.fold max (Ideal.ofBits .f32 0xFF800000#32) (fun x : Fin 128 =>
      max (max (max (s ⟨x.val, by omega⟩) (s ⟨128 + x.val, by omega⟩)) (s ⟨256 + x.val, by omega⟩)) (s ⟨384 + x.val, by omega⟩))
      Finset.univ)

theorem pay3_at (s : FVec Ideal S1024x512 .f32) (m : FVec Ideal S1024x128 .f32) (r : Fin 1024) (l : Fin 128) :
    k0_pay3 (F := Ideal) s m (ix2 r l) = newMax (m (ix2 r l)) (fun x => s (ix2 r x)) := by
  unfold newMax
  pointwise [k0_pay3]

theorem pay18_at (m : FVec Ideal S1024x128 .f32) (r : Fin 1024) (l : Fin 128) :
    k0_pay18 (F := Ideal) m (ix2 r l) = m (ix2 r l) := by
  pointwise [k0_pay18]

theorem pay22_at (lim : IVec S1024x1 32) (n : BitVec 32) (s : FVec Ideal S1024x512 .f32) (m : FVec Ideal S1024x128 .f32) (r : Fin 1024) (l : Fin 128) :
    k0_pay22 (F := Ideal) lim n s m (ix2 r l) = newMax (m (ix2 r l)) (fun x => k0_pay21 lim n s (ix2 r x)) := by
  unfold newMax
  pointwise [k0_pay22]

/-- A block folded into the weighted sum of a row whose maximum is the same number in every lane. -/
theorem pay4_at (s : FVec Ideal S1024x512 .f32) (m : FVec Ideal S1024x128 .f32) (v : Vec Ideal S512x128 .bf16) (a : FVec Ideal S1024x256 .f32)
    (r : Fin 1024) (c : Fin 256) (M M' : EReal) (hM : ∀ l, m (ix2 r l) = M) (hM' : ∀ l, k0_pay3 (F := Ideal) s m (ix2 r l) = M') :
    k0_pay17 (k0_pay4 (F := Ideal) k0_pay15 s m v a) (ix2 r c)
      = Ideal.exp2 (M - M') * a (ix2 r c) + ∑ x : Fin 512, Ideal.exp2 (s (ix2 r x) - M') * (if h : c.val < 128 then v (ix2 x ⟨c.val, h⟩) else 1) := by
  pointwise [k0_pay4, k0_pay15, k0_pay17]
  have e1 : ∀ l, FloatOps.exp2 (F := Ideal) (φ := .f32) (m (ix2 r l) - k0_pay3 (F := Ideal) s m (ix2 r l)) = Ideal.exp2 (M - M') := fun l => by
    rw [hM, hM']; rfl
  have e2 : ∀ (x : Fin 512) (y : Fin 512) (l : Fin 128), x.val = y.val →
      FloatOps.exp2 (F := Ideal) (φ := .f32) (s (ix2 r x) - k0_pay3 (F := Ideal) s m (ix2 r l)) = Ideal.exp2 (s (ix2 r y) - M') := fun x y l h => by
    rw [hM', Fin.ext h]; rfl
  refine congrArg₂ (· + ·) (congrArg (· * _) ?_) (Finset.sum_congr rfl fun x _ => congrArg (· * _) ?_)
  · split <;> exact e1 _
  · have hx := x.isLt
    split
    · exact e2 _ _ _ rfl
    · split
      · exact e2 _ _ _ (by simp only []; omega)
      · split
        · exact e2 _ _ _ (by simp only []; omega)
        · exact e2 _ _ _ (by simp only []; omega)

/-- The masked weights of the last block. -/
theorem pay23_at (lim : IVec S1024x1 32) (n : BitVec 32) (s : FVec Ideal S1024x512 .f32) (m : FVec Ideal S1024x128 .f32) (r : Fin 1024) (x : Fin 512) (M' : EReal)
    (hM' : ∀ l, k0_pay22 (F := Ideal) lim n s m (ix2 r l) = M') :
    k0_pay23 (F := Ideal) lim n s m (ix2 r x) = Ideal.exp2 (k0_pay21 lim n s (ix2 r x) - M') := by
  pointwise [k0_pay23]
  have e2 : ∀ (x : Fin 512) (y : Fin 512) (l : Fin 128), x.val = y.val →
      FloatOps.exp2 (F := Ideal) (φ := .f32) (k0_pay21 lim n s (ix2 r x) - k0_pay22 (F := Ideal) lim n s m (ix2 r l)) = Ideal.exp2 (k0_pay21 lim n s (ix2 r y) - M') := fun x y l h => by
    rw [hM', Fin.ext h]; rfl
  have hx := x.isLt
  split
  · exact e2 _ _ _ rfl
  · split
    · exact e2 _ _ _ (by simp only []; omega)
    · split
      · exact e2 _ _ _ (by simp only []; omega)
      · exact e2 _ _ _ (by simp only []; omega)

/-- The factor the last block puts on the weighted sum. -/
theorem pay25_at (lim : IVec S1024x1 32) (n : BitVec 32) (s : FVec Ideal S1024x512 .f32) (m : FVec Ideal S1024x128 .f32) (r : Fin 1024) (c : Fin 256) (M M' : EReal)
    (hM : ∀ l, m (ix2 r l) = M) (hM' : ∀ l, k0_pay22 (F := Ideal) lim n s m (ix2 r l) = M') :
    k0_pay25 (F := Ideal) lim n s m (ix2 r c) = Ideal.exp2 (M - M') := by
  pointwise [k0_pay25]
  have e1 : ∀ l, FloatOps.exp2 (F := Ideal) (φ := .f32) (m (ix2 r l) - k0_pay22 (F := Ideal) lim n s m (ix2 r l)) = Ideal.exp2 (M - M') := fun l => by
    rw [hM, hM']; rfl
  split <;> exact e1 _

theorem pay26_at (p : FVec Ideal S1024x512 .bf16) (v : Vec Ideal S512x128 .bf16) (m a : FVec Ideal S1024x256 .f32) (r : Fin 1024) (c : Fin 256) :
    k0_pay26 (F := Ideal) p (k0_pay24 k0_pay15 v) m a (ix2 r c)
      = m (ix2 r c) * a (ix2 r c) + ∑ x : Fin 512, p (ix2 r x) * (if h : c.val < 128 then v (ix2 x ⟨c.val, h⟩) else 1) := by
  pointwise [k0_pay26, k0_pay24, k0_pay15]

theorem mask_word : ∀ (n : Fin 16), Scalar.muli (Scalar.subi (BitVec.ofNat 32 (n.val + 1)) 1#32) 512#32 = BitVec.ofNat 32 (512 * n.val) := by decide +kernel

/-- The last block's scores: a key at or beyond the row's limit counts as minus infinity. -/
theorem pay21_at (lim : IVec S1024x1 32) (n : ℕ) (hn : n < 16) (L : ℕ) (hL : L ≤ 8192) (s : FVec Ideal S1024x512 .f32) (r : Fin 1024) (x : Fin 512)
    (hlim : lim (ix2 r 0) = BitVec.ofNat 32 L) :
    k0_pay21 (F := Ideal) lim (BitVec.ofNat 32 (n + 1)) s (ix2 r x) = if 512 * n + x.val < L then s (ix2 r x) else ⊥ := by
  pointwise [k0_pay21]
  rw [hlim, show Scalar.muli (Scalar.subi (BitVec.ofNat 32 (n + 1)) 1#32) 512#32 = BitVec.ofNat 32 (512 * n) from mask_word ⟨n, hn⟩,
    show IntOp.addi (BitVec.ofNat 32 (512 * n)) (BitVec.ofNat 32 x.val) = BitVec.ofNat 32 (512 * n + x.val) from BitVec.ofNat_add_ofNat _ _, ofBits_bot_f32]
  have hx := x.isLt
  have h := WordCmp.cmpi_slt_ofNat_eq_one_iff (w := 32) (a := 512 * n + x.val) (b := L) (by omega) (by omega)
  unfold Scalar.select
  by_cases hc : 512 * n + x.val < L
  · rw [if_pos hc]; exact if_pos (h.2 hc)
  · rw [if_neg hc]; exact if_neg (fun h' => hc (h.1 h'))

theorem rem_word : ∀ r : Fin 1024, IntOp.remsi ArithUnit.vector (BitVec.ofNat 32 r.val) 128#32 = BitVec.ofNat 32 (r.val % 128) := by decide +kernel

theorem pos_word (i r : ℕ) : IntOp.addi (Scalar.addi (0#32) (Scalar.muli (BitVec.ofNat 32 i) 128#32)) (BitVec.ofNat 32 r) = BitVec.ofNat 32 (128 * i + r) := by
  show (0#32 + BitVec.ofNat 32 i * 128#32) + BitVec.ofNat 32 r = _
  rw [BitVec.zero_add, Nat.mul_comm 128 i, BitVec.ofNat_add, BitVec.ofNat_mul]

theorem lim_word : ∀ p : Fin 8192, IntOp.minsi (IntOp.muli (IntOp.addi (Scalar.select
            (IntOp.andi
              (IntOp.cmpi CmpIPredicate.ne
                (IntOp.subi
                  (BitVec.setWidth 32 (IntOp.cmpi CmpIPredicate.sgt (BitVec.ofNat 32 p.val) 0#32))
                  (BitVec.setWidth 32 (IntOp.cmpi CmpIPredicate.slt (BitVec.ofNat 32 p.val) 0#32)))
                (Scalar.subi (1#32) (Scalar.extui (Scalar.cmpi CmpIPredicate.slt 64#32 0#32))))
              (IntOp.cmpi CmpIPredicate.ne (IntOp.remsi ArithUnit.vector (BitVec.ofNat 32 p.val) 64#32) 0#32))
            (IntOp.subi (IntOp.divsi ArithUnit.vector (BitVec.ofNat 32 p.val) 64#32) 1#32)
            (IntOp.divsi ArithUnit.vector (BitVec.ofNat 32 p.val) 64#32)) 1#32) 64#32) 8192#32
    = BitVec.ofNat 32 ((p.val / 64 + 1) * 64) := by decide +kernel

/-- The limit of a row: the end of its query's chunk of 64. -/
theorem limRow_at (t : Fin grid0.N) (r : Fin 1024) :
    limRow (grid0.coords t) (ix2 r 0) = BitVec.ofNat 32 (((128 * (t.val % 64) + r.val % 128) / 64 + 1) * 64) := by
  pointwise [limRow, k0_pay12, k0_pay11, k0_pay10, k0_pay9]
  rw [rem_word, pos_word, coords_one]
  exact lim_word ⟨128 * (t.val % 64) + r.val % 128, by have := r.isLt; omega⟩

end Cert.KernelIdeal.Flash
-- ==== Proof.FlashRows.lean ====
/-
  The rows of the kernel's loop, from the first block to the quotient.
-/
module

public import proofs.«01_k».proof.Proof.FlashRow

@[expose] public section

set_option maxRecDepth 16384

noncomputable section

namespace Cert.KernelIdeal.Flash

open Idealize.ShloMosaic Idealize.ShloMosaic.TcCoe Idealize.ShloMosaic.Tactic Idealize.SL.Sem
open Cert.KernelIdeal Cert.KernelIdeal.Gen Cert.RowMath

/-- The values a column of the weighted sum takes: a value column, or ones. -/
def vx (v : ℕ → ℕ → ℝ) (c : ℕ) (k : ℕ) : ℝ := if c < 128 then v k c else 1

theorem kblk_at (x1 : Vec Ideal S8192x256 .bf16) (n : ℕ) (x : Fin 512) (l : Fin 256) (h : 512 * n + x.val < 8192) :
    kblk x1 n (ix2 x l) = x1 (ix2 ⟨512 * n + x.val, h⟩ l) := by
  refine congrArg x1 (funext fun a => Fin.ext ?_)
  match a with
  | ⟨0, _⟩ => exact Nat.mod_eq_of_lt h
  | ⟨1, _⟩ => rfl

theorem vblk_at (x1 : Vec Ideal S8192x256 .bf16) (n : ℕ) (x : Fin 512) (l : Fin 128) (h : 512 * n + x.val < 8192) :
    vblk x1 n (ix2 x l) = x1 (ix2 ⟨512 * n + x.val, h⟩ ⟨l.val, by omega⟩) := by
  refine congrArg x1 (funext fun a => Fin.ext ?_)
  match a with
  | ⟨0, _⟩ => exact Nat.mod_eq_of_lt h
  | ⟨1, _⟩ => exact Nat.mod_eq_of_lt (show l.val < 256 by omega)

theorem newMax_real (m : EReal) (s : Fin 512 → EReal) (hm : m < ⊤) (hs : ∀ x, s x < ⊤) (h0 : ⊥ < m ∨ ⊥ < s 0) :
    ∃ μ : ℝ, newMax m s = (μ : EReal) := by
  unfold newMax
  exact max_real m _ s hm (by rw [ofBits_bot_f32]; exact bot_lt_top) hs h0

theorem fl_succ_max (q : FVec Ideal S1024x256 .bf16) (x1 : Vec Ideal S8192x256 .bf16) (n : ℕ) :
    (fl q x1 (n + 1)).2.1 = k0_pay18 (F := Ideal) (k0_pay3 (fl q x1 n).1 (fl q x1 n).2.1) := rfl

theorem fl_succ_acc (q : FVec Ideal S1024x256 .bf16) (x1 : Vec Ideal S8192x256 .bf16) (n : ℕ) :
    (fl q x1 (n + 1)).2.2 = k0_pay17 (k0_pay4 (F := Ideal) k0_pay15 (fl q x1 n).1 (fl q x1 n).2.1 (vblk x1 n) (fl q x1 n).2.2) := rfl

/-- A latent lane is a lane of the block. -/
theorem lt_256 (c : Fin 128) : c.val < 256 := Nat.lt_trans c.isLt (by decide)

section Rows

variable (q : FVec Ideal S1024x256 .bf16) (x1 : Vec Ideal S8192x256 .bf16) (r : Fin 1024) (σ : ℕ → ℝ) (v : ℕ → ℕ → ℝ)
  (hσ : ∀ k : Fin 8192, ∑ l : Fin 256, q (ix2 r l) * x1 (ix2 k l) = (σ k.val : EReal))
  (hv : ∀ (k : Fin 8192) (c : Fin 128), x1 (ix2 k ⟨c.val, lt_256 c⟩) = (v k.val c.val : EReal))

include hσ in
theorem fl_score : ∀ n : ℕ, n < 16 → ∀ x : Fin 512, (fl q x1 n).1 (ix2 r x) = (σ (512 * n + x.val) : EReal)
  | 0, hn, x => by
    show k0_pay16 (F := Ideal) q (kblk x1 0) (ix2 r x) = _
    rw [pay16_at]
    have h : 512 * 0 + x.val < 8192 := by omega
    rw [← hσ ⟨_, h⟩]
    exact Finset.sum_congr rfl fun l _ => by rw [kblk_at x1 0 x l h]
  | n + 1, hn, x => by
    show k0_pay2 (F := Ideal) q (kblk x1 (n + 1)) (ix2 r x) = _
    rw [pay2_at]
    have h : 512 * (n + 1) + x.val < 8192 := by omega
    rw [← hσ ⟨_, h⟩]
    exact Finset.sum_congr rfl fun l _ => by rw [kblk_at x1 (n + 1) x l h]

/-- A row of the loop's state after `n` blocks. -/
def RowInv (lim n : ℕ) : Prop := ∃ M : EReal, M < ⊤ ∧ (∀ l : Fin 128, (fl q x1 n).2.1 (ix2 r l) = M)
    ∧ ∀ c : Fin 256, Inv lim σ (vx v c.val) (512 * n) M ((fl q x1 n).2.2 (ix2 r c))

include hv in
theorem vx_at (n : ℕ) (x : Fin 512) (c : Fin 256) (h : 512 * n + x.val < 8192) :
    (if hc : c.val < 128 then vblk x1 n (ix2 x ⟨c.val, hc⟩) else (1 : EReal)) = (vx v c.val (512 * n + x.val) : EReal) := by
  unfold vx
  split
  · rename_i hc
    rw [vblk_at x1 n x ⟨c.val, hc⟩ h]
    exact hv ⟨_, h⟩ ⟨c.val, hc⟩
  · rfl

theorem row_start (lim : ℕ) : RowInv q x1 r σ v lim 0 := by
  refine ⟨⊥, bot_lt_top, fun l => ?_, fun c => Or.inl ⟨rfl, rfl, ?_⟩⟩
  · show k0_pay13 (F := Ideal) (ix2 r l) = ⊥
    pointwise [k0_pay13]
    exact ofBits_bot_f32
  · show k0_pay14 (F := Ideal) (ix2 r c) = 0
    pointwise [k0_pay14]

include hσ hv in
theorem row_step (lim n : ℕ) (hn : 512 * (n + 1) ≤ lim) (hl : lim ≤ 8192) (h : RowInv q x1 r σ v lim n) : RowInv q x1 r σ v lim (n + 1) := by
  obtain ⟨M, hMt, hM, hA⟩ := h
  have hsc := fl_score q x1 r σ hσ n (by omega)
  have hre : ∃ μ : ℝ, newMax M (fun x => (fl q x1 n).1 (ix2 r x)) = (μ : EReal) :=
    newMax_real M (fun x => (fl q x1 n).1 (ix2 r x)) hMt (fun x => by rw [hsc]; exact EReal.coe_lt_top _) (Or.inr (by rw [hsc]; exact EReal.bot_lt_coe _))
  obtain ⟨μ, hμ⟩ := hre
  have hM' : ∀ l, k0_pay3 (F := Ideal) (fl q x1 n).1 (fl q x1 n).2.1 (ix2 r l) = newMax M (fun x => (fl q x1 n).1 (ix2 r x)) := fun l => by
    rw [pay3_at, hM]
  refine ⟨newMax M (fun x => (fl q x1 n).1 (ix2 r x)), by rw [hμ]; exact EReal.coe_lt_top _, fun l => ?_, fun c => ?_⟩
  · rw [fl_succ_max, pay18_at, hM']
  · rw [fl_succ_acc, pay4_at _ _ _ _ r c M _ hM hM']
    refine step (N := 512 * n) (hA c) _ μ hμ (fun x => (fl q x1 n).1 (ix2 r x)) (fun x => if hc : c.val < 128 then vblk x1 n (ix2 x ⟨c.val, hc⟩) else (1 : EReal)) (fun x => ?_) (fun x => ?_)
    · rw [hsc, if_pos (by omega)]
    · exact vx_at x1 v hv n x c (by omega)

include hσ hv in
theorem row_loop (lim : ℕ) (hl : lim ≤ 8192) : ∀ n : ℕ, 512 * n ≤ lim → RowInv q x1 r σ v lim n
  | 0, _ => row_start q x1 r σ v lim
  | n + 1, hn => row_step q x1 r σ v hσ hv lim n hn hl (row_loop lim hl n (by omega))

include hσ hv in
/-- The weighted sums of a row after the last block. -/
theorem row_last (L : IVec S1024x1 32) (lim n : ℕ) (hL : L (ix2 r 0) = BitVec.ofNat 32 lim) (hl : lim ≤ 8192) (hn : 512 * n < lim) (hn' : n < 16) :
    ∃ μ : ℝ, ∀ c : Fin 256, accLast (F := Ideal) L n q x1 (ix2 r c)
      = ((∑ k ∈ Finset.range (512 * n + 512), wt lim σ μ k * vx v c.val k : ℝ) : EReal) := by
  obtain ⟨M, hMt, hM, hA⟩ := row_loop q x1 r σ v hσ hv lim hl n (by omega)
  have hsc := fl_score q x1 r σ hσ n hn'
  have hms : ∀ x : Fin 512, k0_pay21 (F := Ideal) L (BitVec.ofNat 32 (n + 1)) (fl q x1 n).1 (ix2 r x)
      = if 512 * n + x.val < lim then (σ (512 * n + x.val) : EReal) else ⊥ := fun x => by
    rw [pay21_at L n hn' lim hl _ r x hL, hsc]
  have hre : ∃ μ : ℝ, newMax M (fun x => k0_pay21 (F := Ideal) L (BitVec.ofNat 32 (n + 1)) (fl q x1 n).1 (ix2 r x)) = (μ : EReal) := by
    refine newMax_real M (fun x => k0_pay21 (F := Ideal) L (BitVec.ofNat 32 (n + 1)) (fl q x1 n).1 (ix2 r x)) hMt (fun x => ?_) (Or.inr ?_)
    · rw [hms]; split
      · exact EReal.coe_lt_top _
      · exact bot_lt_top
    · rw [hms, if_pos (by simpa using hn)]; exact EReal.bot_lt_coe _
  obtain ⟨μ, hμ⟩ := hre
  have hM' : ∀ l, k0_pay22 (F := Ideal) L (BitVec.ofNat 32 (n + 1)) (fl q x1 n).1 (fl q x1 n).2.1 (ix2 r l) = (μ : EReal) := fun l => by
    rw [pay22_at, hM, hμ]
  refine ⟨μ, fun c => ?_⟩
  unfold accLast
  rw [pay26_at, pay25_at _ _ _ _ r c M _ hM hM', ← step_sum (N := 512 * n) (hA c) μ (fun x => k0_pay21 (F := Ideal) L (BitVec.ofNat 32 (n + 1)) (fl q x1 n).1 (ix2 r x)) (fun x => if hc : c.val < 128 then vblk x1 n (ix2 x ⟨c.val, hc⟩) else (1 : EReal)) hms (fun x => vx_at x1 v hv n x c (by omega))]
  refine congrArg _ (Finset.sum_congr rfl fun x _ => ?_)
  rw [pay23_at _ _ _ _ r x _ hM']

include hσ hv in
/-- The quotient of a row: the softmax-weighted mean of the values. -/
theorem row_quotient (L : IVec S1024x1 32) (lim n : ℕ) (hL : L (ix2 r 0) = BitVec.ofNat 32 lim) (hl : lim ≤ 8192) (hn : 512 * n < lim) (hn2 : lim ≤ 512 * n + 512) (c : Fin 128) :
    Ideal.div (accLast (F := Ideal) L n q x1 (ix2 r ⟨c.val, by omega⟩)) (accLast (F := Ideal) L n q x1 (ix2 r ⟨128 + c.val, by omega⟩))
      = (((∑ k ∈ Finset.range 8192, (if k < lim then Real.rpow 2 (σ k) * v k c.val else 0))
          / ∑ k ∈ Finset.range 8192, (if k < lim then Real.rpow 2 (σ k) else 0) : ℝ) : EReal) := by
  obtain ⟨μ, h⟩ := row_last q x1 r σ v hσ hv L lim n hL hl hn (by omega)
  rw [h, h]
  have e1 : ∀ k, vx v (⟨c.val, by omega⟩ : Fin 256).val k = v k c.val := fun k => if_pos c.isLt
  have e2 : ∀ k, vx v (⟨128 + c.val, by omega⟩ : Fin 256).val k = 1 := fun k => if_neg (by simp)
  simp only [e1, e2]
  exact quotient σ (fun k => v k c.val) μ (by omega) hn2 (by omega)

end Rows

set_option maxHeartbeats 4000000 in
/-- The stacked queries: row `h * 128 + i` is head `h`'s part of row `i`. -/
theorem qcat_at (x0 : Vec Ideal S128x2048 .bf16) (r : Fin 1024) (l : Fin 256) :
    qcat (F := Ideal) x0 (ix2 r l) = x0 (ix2 ⟨r.val % 128, Nat.mod_lt _ (by decide)⟩ ⟨256 * (r.val / 128) + l.val, by omega⟩) := by
  have hr := r.isLt
  have hl := l.isLt
  pointwise [qcat, k0_pay8]
  have e : ∀ (a : Fin 128) (b : Fin 2048), a.val = r.val % 128 → b.val = 256 * (r.val / 128) + l.val →
      x0 (ix2 a b) = x0 (ix2 ⟨r.val % 128, Nat.mod_lt _ (by decide)⟩ ⟨256 * (r.val / 128) + l.val, by omega⟩) := fun a b h1 h2 => by
    rw [show a = ⟨r.val % 128, Nat.mod_lt _ (by decide)⟩ from Fin.ext h1, show b = ⟨256 * (r.val / 128) + l.val, by omega⟩ from Fin.ext h2]
  repeat' split
  all_goals exact e _ _ (by simp only []; omega) (by simp only []; omega)

/-- The combination of the heads at an index. -/
theorem combine_at (a : FVec Ideal S1024x256 .f32) (u : Vec Ideal S8x128x512 .bf16) (i : Fin 128) (j : Fin 512) :
    combine (F := Ideal) a u (ix2 i j) = ∑ h : Fin 8, ∑ x : Fin 128,
      Ideal.div (a (ix2 ⟨128 * h.val + i.val, by omega⟩ ⟨x.val, by omega⟩)) (a (ix2 ⟨128 * h.val + i.val, by omega⟩ ⟨128 + x.val, by omega⟩)) * u (ix3 h x j) := by
  pointwise [combine, k0_pay1, k0_pay28, k0_pay29, k0_pay30, k0_pay31]
  rw [Fin.sum_univ_eight]
  simp only [Fin.val_zero, Nat.mul_zero, Nat.zero_add]
  rfl

end Cert.KernelIdeal.Flash
-- ==== Proof.HostArgs.lean ====
/-
  The arrays the kernel's call receives, as functions of the arguments.
-/
module

public import proofs.«01_k».proof.Proof.Gen.KernelIdeal.Value
public import Idealize.ShloMosaic.Lib.StableHlo.Run
public import Idealize.ShloMosaic.Lib.Pointwise

@[expose] public section
set_option maxRecDepth 16384
noncomputable section
namespace Cert.KernelIdeal.Flash
open Idealize.ShloMosaic Idealize.ShloMosaic.TcCoe Idealize.ShloMosaic.Tactic Idealize.SL.Sem Idealize.ShloMosaic.StableHlo
open Cert.KernelIdeal Cert.KernelIdeal.Gen
variable {F : FTy → Type} [FloatOps F]
variable (m : (ℓ : Loc nD τ sig) → Buf (Elt F) ℓ)

/-- The absorbed queries: each head's query against the key weights. -/
def qLat (x0 : FVec F S4x8192x8x64 .f32) (x4 : FVec F S128x512 .f32) : FVec F S32768x8x128 .f32 :=
  transpose S32768x8x128 [1, 0, 2] (Host.dotGeneral dot_S32768x8x64_S8x64x128_S8x32768x128_2_1_0_2_1_0 none
    (fun i => shapeCast S32768x8x64 x0 shapeCasts_S4x8192x8x64_S32768x8x64 i)
    (transpose S8x64x128 [1, 2, 0] (fun i => shapeCast S128x8x64 x4 shapeCasts_S128x512_S128x8x64 i) transposes_S128x8x64_S8x64x128_1_2_0))
    transposes_S8x32768x128_S32768x8x128_1_0_2

/-- The rotary queries, padded to 128 lanes. -/
def qRot (x1 : FVec F S4x8192x8x32 .f32) : FVec F S32768x8x128 .f32 :=
  pad S32768x8x128 ![0, 0, 0] ![0, 0, 96] ![0, 0, 0] (fun i => shapeCast S32768x8x32 x1 shapeCasts_S4x8192x8x32_S32768x8x32 i)
    (sitofp FTy.f32 (constantI S_ 32 0#32)) pads_S32768x8x32_S32768x8x128_000_000_0960 h_S_

/-- The queries the call receives. -/
def qaT (x0 : FVec F S4x8192x8x64 .f32) (x1 : FVec F S4x8192x8x32 .f32) (x4 : FVec F S128x512 .f32) : FVec F S32768x2048 .bf16 := fun i =>
  shapeCast S32768x2048 (truncf FTy.bf16 (mulf (concatenate S32768x8x256 2 [⟨S32768x8x128, qLat x0 x4⟩, ⟨S32768x8x128, qRot x1⟩] concatenates_S32768x8x128_S32768x8x128_S32768x8x256_d2)
    (broadcastInDim S32768x8x256 ![] bcast_S_S32768x8x256 (Host.divf (constant S_ FTy.f32 1037108716#32) (Host.log (constant S_ FTy.f32 1073741824#32))))) bitsLt_bf16_f32)
    shapeCasts_S32768x8x256_S32768x2048 i

/-- The keys the call receives. -/
def kaT (x2 : FVec F S4x8192x128 .f32) (x3 : FVec F S4x8192x32 .f32) : FVec F S32768x256 .bf16 :=
  truncf FTy.bf16 (concatenate S32768x256 1 [⟨S32768x128, fun i => shapeCast S32768x128 x2 shapeCasts_S4x8192x128_S32768x128 i⟩,
    ⟨S32768x128, pad S32768x128 ![0, 0] ![0, 96] ![0, 0] (fun i => shapeCast S32768x32 x3 shapeCasts_S4x8192x32_S32768x32 i)
      (sitofp FTy.f32 (constantI S_ 32 0#32)) pads_S32768x32_S32768x128_000_0960 h_S_⟩] concatenates_S32768x128_S32768x128_S32768x256_d1) bitsLt_bf16_f32

set_option maxHeartbeats 4000000 in
theorem qa_eq (c : Dev nD) : V m c main_v13 = qaT (m (c, Proc.tc.devRef main_arg0)) (m (c, Proc.tc.devRef main_arg1)) (m (c, Proc.tc.devRef main_arg4)) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  simp only [TRef.binary, TRef.nullary, TRef.ternary, TRef.unary, TRef.toBuf, TRef.ofBuf, cast_eq]
  after_results_simp
  unfold qaT
  funext i
  refine congrArg (fun f => shapeCast S32768x2048 (truncf FTy.bf16 (mulf f _) bitsLt_bf16_f32) shapeCasts_S32768x8x256_S32768x2048 i) ?_
  refine congrArg₂ (fun a b => concatenate S32768x8x256 2 [⟨S32768x8x128, a⟩, ⟨S32768x8x128, b⟩] concatenates_S32768x8x128_S32768x8x128_S32768x8x256_d2) ?_ ?_
  · after_results_simp
    rfl
  · after_results_simp
    rfl

set_option maxHeartbeats 4000000 in
theorem ka_eq (c : Dev nD) : V m c main_v18 = kaT (m (c, Proc.tc.devRef main_arg2)) (m (c, Proc.tc.devRef main_arg3)) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  simp only [TRef.binary, TRef.nullary, TRef.ternary, TRef.unary, TRef.toBuf, TRef.ofBuf, cast_eq]
  after_results_simp
  unfold kaT
  refine congrArg (fun f => truncf FTy.bf16 f bitsLt_bf16_f32) ?_
  refine congrArg₂ (fun a b => concatenate S32768x256 1 [⟨S32768x128, a⟩, ⟨S32768x128, b⟩] concatenates_S32768x128_S32768x128_S32768x256_d1) ?_ ?_
  · after_results_simp
    rfl
  · after_results_simp
    rfl

end Cert.KernelIdeal.Flash
-- ==== Proof.AttnMath.lean ====
/-
  The attention's arithmetic on real numbers: the scores two ways, and the output two ways.
-/
module

public import proofs.«01_k».proof.Proof.RowMath
public import Idealize.ShloMosaic.Lib.Pointwise

@[expose] public section

noncomputable section

namespace Cert.RowMath

open Idealize.ShloMosaic

/-- The scale of the scores. -/
def scaleA : ℝ := 13698540 / 134217728

/-- The scale's literal. -/
theorem ofBits_scale : Ideal.ofBits .f32 1037108716#32 = (scaleA : EReal) := by
  unfold scaleA
  simp [Ideal.ofBits, Ideal.ieee, -EReal.coe_mul]
  norm_num

/-- The literal two. -/
theorem ofBits_two : Ideal.ofBits .f32 1073741824#32 = ((2 : ℝ) : EReal) := by
  simp [Ideal.ofBits, Ideal.ieee, -EReal.coe_mul]
  norm_num

/-- The integer zero as a number. -/
theorem sitofp_zero : (FloatOps.sitofp FTy.f32 0#32 : Ideal .f32) = ((0 : ℝ) : EReal) := by
  show ((((0#32 : BitVec 32).toInt : ℝ)) : EReal) = ((0 : ℝ) : EReal)
  simp

/-- The factor on the queries: the scale over the logarithm of two. -/
theorem scale_log : Ideal.div (Ideal.ofBits .f32 1037108716#32) (Ideal.log (Ideal.ofBits .f32 1073741824#32)) = ((scaleA / Real.log 2 : ℝ) : EReal) := by
  rw [ofBits_scale, ofBits_two, Ideal.log_coe, if_neg (by norm_num), Ideal.div_coe (Real.log_pos (by norm_num)).ne', ← EReal.coe_mul]
  congr 1
  ring

/-- A query against the key weights, then the latent key, is the query against the key. -/
theorem score_two_ways (κ : ℝ) (qn : Fin 64 → ℝ) (w : Fin 128 → Fin 64 → ℝ) (qr kr : Fin 32 → ℝ) (kv : Fin 128 → ℝ) :
    ∑ l : Fin 256, ((if h : l.val < 128 then ∑ x : Fin 64, qn x * w ⟨l.val, h⟩ x else if h1 : l.val - 128 < 32 then qr ⟨l.val - 128, h1⟩ else 0) * κ)
        * (if h : l.val < 128 then kv ⟨l.val, h⟩ else if h1 : l.val - 128 < 32 then kr ⟨l.val - 128, h1⟩ else 0)
      = κ * (∑ x : Fin 64, qn x * ∑ c : Fin 128, kv c * w c x + ∑ e : Fin 32, kr e * qr e) := by
  rw [Fin.sum_univ_add (a := 128) (b := 128), mul_add]
  congr 1
  · simp only [Finset.mul_sum]
    rw [Finset.sum_comm]
    refine Finset.sum_congr rfl fun c _ => ?_
    have hc : (Fin.castAdd 128 c).val < 128 := c.isLt
    rw [dif_pos hc, dif_pos hc, Finset.sum_mul, Finset.sum_mul]
    refine Finset.sum_congr rfl fun x _ => ?_
    show qn x * w c x * κ * kv c = _
    ring
  · rw [Fin.sum_univ_add (a := 32) (b := 96), Finset.mul_sum]
    have h2 : ∑ i : Fin 96, (fun l : Fin 128 => ((if h : (Fin.natAdd 128 l : Fin 256).val < 128 then ∑ x : Fin 64, qn x * w ⟨(Fin.natAdd 128 l : Fin 256).val, h⟩ x else if h1 : (Fin.natAdd 128 l : Fin 256).val - 128 < 32 then qr ⟨(Fin.natAdd 128 l : Fin 256).val - 128, h1⟩ else 0) * κ)
        * (if h : (Fin.natAdd 128 l : Fin 256).val < 128 then kv ⟨(Fin.natAdd 128 l : Fin 256).val, h⟩ else if h1 : (Fin.natAdd 128 l : Fin 256).val - 128 < 32 then kr ⟨(Fin.natAdd 128 l : Fin 256).val - 128, h1⟩ else 0)) (Fin.natAdd 32 i) = 0 := by
      refine Finset.sum_eq_zero fun i _ => ?_
      have a : ¬ (Fin.natAdd 128 (Fin.natAdd 32 i) : Fin 256).val < 128 := by simp
      have b : ¬ (Fin.natAdd 128 (Fin.natAdd 32 i) : Fin 256).val - 128 < 32 := by simp
      beta_reduce
      rw [dif_neg a, dif_neg b, dif_neg a, dif_neg b, mul_zero]
    refine (congrArg₂ (· + ·) ?_ h2).trans (add_zero _)
    refine Finset.sum_congr rfl fun e _ => ?_
    have a : ¬ (Fin.natAdd 128 (Fin.castAdd 96 e) : Fin 256).val < 128 := by simp
    have b : (Fin.natAdd 128 (Fin.castAdd 96 e) : Fin 256).val - 128 < 32 := by simp
    have c : (⟨(Fin.natAdd 128 (Fin.castAdd 96 e) : Fin 256).val - 128, b⟩ : Fin 32) = e := Fin.ext (by simp)
    rw [dif_neg a, dif_pos b, dif_neg a, dif_pos b, c]
    ring

/-- The weighted mean of the latent rows, then the value weights, is the weighted mean of the values; a common factor of the weights drops out. -/
theorem output_two_ways {K : Type} [Fintype K] (p e : K → ℝ) (ρ : ℝ) (hρ : ρ ≠ 0) (he : ∀ k, e k = ρ * p k) (kv : K → Fin 128 → ℝ) (w : Fin 128 → ℝ) :
    ∑ x : Fin 128, (∑ k, p k * kv k x) / (∑ k, p k) * w x = ∑ k, (∑ x : Fin 128, kv k x * w x) * (e k / ∑ k', e k') := by
  have hs : ∑ k, e k = ρ * ∑ k, p k := by rw [Finset.mul_sum]; exact Finset.sum_congr rfl fun k _ => he k
  rw [hs]
  simp only [he, mul_div_mul_left _ _ hρ, Finset.sum_mul, Finset.sum_div]
  rw [Finset.sum_comm]
  refine Finset.sum_congr rfl fun k _ => Finset.sum_congr rfl fun x _ => ?_
  ring

end Cert.RowMath
-- ==== Proof.HostRead.lean ====
/-
  The call's arrays at an index, on real arguments.
-/
module

public import proofs.«01_k».proof.Proof.HostArgs
public import proofs.«01_k».proof.Proof.AttnMath

@[expose] public section

set_option maxRecDepth 16384

noncomputable section

namespace Cert.KernelIdeal.Flash

open Idealize.ShloMosaic Idealize.ShloMosaic.TcCoe Idealize.ShloMosaic.Tactic Idealize.SL.Sem
open Cert.KernelIdeal Cert.KernelIdeal.Gen Cert.RowMath

set_option maxHeartbeats 1000000

/-- An absorbed query at an index. -/
theorem qLat_at (x0 : FVec Ideal S4x8192x8x64 .f32) (x4 : FVec Ideal S128x512 .f32) (r : Fin 32768) (h : Fin 8) (l : Fin 128) :
    qLat (F := Ideal) x0 x4 (ix3 r h l) = ∑ x : Fin 64, x0 (ix4 (⟨r.val / 8192, by omega⟩ : Fin 4) (⟨r.val % 8192, by omega⟩ : Fin 8192) h x) * x4 (ix2 l (⟨h.val * 64 + x.val, by omega⟩ : Fin 512)) := by
  pointwise [qLat]

/-- A padded rotary query at an index. -/
theorem qRot_at (x1 : FVec Ideal S4x8192x8x32 .f32) (r : Fin 32768) (h : Fin 8) (l : Fin 128) :
    qRot (F := Ideal) x1 (ix3 r h l) = if h1 : l.val < 32 then x1 (ix4 (⟨r.val / 8192, by omega⟩ : Fin 4) (⟨r.val % 8192, by omega⟩ : Fin 8192) h ⟨l.val, h1⟩) else FloatOps.sitofp .f32 0#32 := by
  pointwise [qRot]

/-- A query the call receives, at an index. -/
theorem qaT_at (x0 : FVec Ideal S4x8192x8x64 .f32) (x1 : FVec Ideal S4x8192x8x32 .f32) (x4 : FVec Ideal S128x512 .f32) (r : Fin 32768) (l : Fin 2048) :
    qaT (F := Ideal) x0 x1 x4 (ix2 r l)
      = (if h : l.val % 256 < 128 then qLat (F := Ideal) x0 x4 (ix3 r (⟨l.val / 256, by omega⟩ : Fin 8) (⟨l.val % 256, h⟩ : Fin 128))
          else qRot (F := Ideal) x1 (ix3 r (⟨l.val / 256, by omega⟩ : Fin 8) (⟨l.val % 256 - 128, by omega⟩ : Fin 128)))
        * Ideal.div (Ideal.ofBits .f32 1037108716#32) (Ideal.log (Ideal.ofBits .f32 1073741824#32)) := by
  pointwise [qaT]

/-- A key the call receives, at an index. -/
theorem kaT_at (x2 : FVec Ideal S4x8192x128 .f32) (x3 : FVec Ideal S4x8192x32 .f32) (r : Fin 32768) (l : Fin 256) :
    kaT (F := Ideal) x2 x3 (ix2 r l)
      = if h : l.val < 128 then x2 (ix3 (⟨r.val / 8192, by omega⟩ : Fin 4) (⟨r.val % 8192, by omega⟩ : Fin 8192) ⟨l.val, h⟩)
        else if h1 : l.val - 128 < 32 then x3 (ix3 (⟨r.val / 8192, by omega⟩ : Fin 4) (⟨r.val % 8192, by omega⟩ : Fin 8192) ⟨l.val - 128, h1⟩) else FloatOps.sitofp .f32 0#32 := by
  pointwise [kaT]

/-- A query the call receives is real. -/
theorem qaT_real (f0 : S4x8192x8x64.Idx → ℝ) (f1 : S4x8192x8x32.Idx → ℝ) (f4 : S128x512.Idx → ℝ) (r : Fin 32768) (h : Fin 8) (l : Fin 256) (b : Fin 4) (q : Fin 8192)
    (hb : b.val = r.val / 8192) (hq : q.val = r.val % 8192) (j : Fin 2048) (hj : j.val = 256 * h.val + l.val) :
    qaT (F := Ideal) (fun i => (f0 i : EReal)) (fun i => (f1 i : EReal)) (fun i => (f4 i : EReal)) (ix2 r j)
      = (((if hl : l.val < 128 then ∑ x : Fin 64, f0 (ix4 b q h x) * f4 (ix2 ⟨l.val, hl⟩ (⟨h.val * 64 + x.val, by omega⟩ : Fin 512))
          else if h1 : l.val - 128 < 32 then f1 (ix4 b q h ⟨l.val - 128, h1⟩) else 0) * (scaleA / Real.log 2) : ℝ) : EReal) := by
  rw [qaT_at, scale_log, EReal.coe_mul]
  have e1 : j.val % 256 = l.val := by omega
  have e2 : (⟨j.val / 256, by omega⟩ : Fin 8) = h := Fin.ext (by show j.val / 256 = _; omega)
  have e3 : (⟨r.val / 8192, by omega⟩ : Fin 4) = b := Fin.ext hb.symm
  have e4 : (⟨r.val % 8192, by omega⟩ : Fin 8192) = q := Fin.ext hq.symm
  refine congrArg₂ (· * ·) ?_ rfl
  simp only [qLat_at, qRot_at, e1, e2, e3, e4, sitofp_zero]
  split_ifs
  · rw [coe_sum]; exact Finset.sum_congr rfl fun x _ => (EReal.coe_mul _ _).symm
  · rfl
  · rfl

/-- A key the call receives is real. -/
theorem kaT_real (f2 : S4x8192x128.Idx → ℝ) (f3 : S4x8192x32.Idx → ℝ) (r : Fin 32768) (l : Fin 256) (b : Fin 4) (k : Fin 8192)
    (hb : b.val = r.val / 8192) (hk : k.val = r.val % 8192) :
    kaT (F := Ideal) (fun i => (f2 i : EReal)) (fun i => (f3 i : EReal)) (ix2 r l)
      = ((if hl : l.val < 128 then f2 (ix3 b k ⟨l.val, hl⟩) else if h1 : l.val - 128 < 32 then f3 (ix3 b k ⟨l.val - 128, h1⟩) else 0 : ℝ) : EReal) := by
  have e3 : (⟨r.val / 8192, by omega⟩ : Fin 4) = b := Fin.ext hb.symm
  have e4 : (⟨r.val % 8192, by omega⟩ : Fin 8192) = k := Fin.ext hk.symm
  rw [kaT_at]
  simp only [e3, e4, sitofp_zero]
  split_ifs <;> rfl

end Cert.KernelIdeal.Flash
-- ==== Proof.HostUv.lean ====
/-
  The value weights the kernel's call receives, as a function of the argument.
-/
module

public import proofs.«01_k».proof.Proof.Gen.KernelIdeal.Value
public import Idealize.ShloMosaic.Lib.StableHlo.Run

@[expose] public section
set_option maxRecDepth 16384
noncomputable section
namespace Cert.KernelIdeal.Flash
open Idealize.ShloMosaic Idealize.ShloMosaic.TcCoe Idealize.ShloMosaic.Tactic Idealize.SL.Sem Idealize.ShloMosaic.StableHlo
open Cert.KernelIdeal Cert.KernelIdeal.Gen
variable {F : FTy → Type} [FloatOps F]
variable (m : (ℓ : Loc nD τ sig) → Buf (Elt F) ℓ)

/-- Head 0's value weights, in their own 64 columns of 512. -/
def uvHead0 (x5 : FVec F S128x512 .f32) : FVec F S1x128x512 .f32 :=
  broadcastInDim S1x128x512 ![1, 2] bcast_S128x512_S1x128x512_1_2 (pad S128x512 ![0, 0] ![0, 448] ![0, 0]
    (fun i => shapeCast S128x64 (extractStridedSlice S128x1x64 ![0, 0, 0] (fun i => shapeCast S128x8x64 x5 shapeCasts_S128x512_S128x8x64 i)
      slices_S128x8x64_S128x1x64_0_0_0) shapeCasts_S128x1x64_S128x64 i) (sitofp FTy.f32 (constantI S_ 32 0#32)) pads_S128x64_S128x512_000_04480 h_S_)

/-- Head 1's value weights, in their own 64 columns of 512. -/
def uvHead1 (x5 : FVec F S128x512 .f32) : FVec F S1x128x512 .f32 :=
  broadcastInDim S1x128x512 ![1, 2] bcast_S128x512_S1x128x512_1_2 (pad S128x512 ![0, 64] ![0, 384] ![0, 0]
    (fun i => shapeCast S128x64 (extractStridedSlice S128x1x64 ![0, 1, 0] (fun i => shapeCast S128x8x64 x5 shapeCasts_S128x512_S128x8x64 i)
      slices_S128x8x64_S128x1x64_0_1_0) shapeCasts_S128x1x64_S128x64 i) (sitofp FTy.f32 (constantI S_ 32 0#32)) pads_S128x64_S128x512_000_643840 h_S_)

/-- Head 2's value weights, in their own 64 columns of 512. -/
def uvHead2 (x5 : FVec F S128x512 .f32) : FVec F S1x128x512 .f32 :=
  broadcastInDim S1x128x512 ![1, 2] bcast_S128x512_S1x128x512_1_2 (pad S128x512 ![0, 128] ![0, 320] ![0, 0]
    (fun i => shapeCast S128x64 (extractStridedSlice S128x1x64 ![0, 2, 0] (fun i => shapeCast S128x8x64 x5 shapeCasts_S128x512_S128x8x64 i)
      slices_S128x8x64_S128x1x64_0_2_0) shapeCasts_S128x1x64_S128x64 i) (sitofp FTy.f32 (constantI S_ 32 0#32)) pads_S128x64_S128x512_000_1283200 h_S_)

/-- Head 3's value weights, in their own 64 columns of 512. -/
def uvHead3 (x5 : FVec F S128x512 .f32) : FVec F S1x128x512 .f32 :=
  broadcastInDim S1x128x512 ![1, 2] bcast_S128x512_S1x128x512_1_2 (pad S128x512 ![0, 192] ![0, 256] ![0, 0]
    (fun i => shapeCast S128x64 (extractStridedSlice S128x1x64 ![0, 3, 0] (fun i => shapeCast S128x8x64 x5 shapeCasts_S128x512_S128x8x64 i)
      slices_S128x8x64_S128x1x64_0_3_0) shapeCasts_S128x1x64_S128x64 i) (sitofp FTy.f32 (constantI S_ 32 0#32)) pads_S128x64_S128x512_000_1922560 h_S_)

/-- Head 4's value weights, in their own 64 columns of 512. -/
def uvHead4 (x5 : FVec F S128x512 .f32) : FVec F S1x128x512 .f32 :=
  broadcastInDim S1x128x512 ![1, 2] bcast_S128x512_S1x128x512_1_2 (pad S128x512 ![0, 256] ![0, 192] ![0, 0]
    (fun i => shapeCast S128x64 (extractStridedSlice S128x1x64 ![0, 4, 0] (fun i => shapeCast S128x8x64 x5 shapeCasts_S128x512_S128x8x64 i)
      slices_S128x8x64_S128x1x64_0_4_0) shapeCasts_S128x1x64_S128x64 i) (sitofp FTy.f32 (constantI S_ 32 0#32)) pads_S128x64_S128x512_000_2561920 h_S_)

/-- Head 5's value weights, in their own 64 columns of 512. -/
def uvHead5 (x5 : FVec F S128x512 .f32) : FVec F S1x128x512 .f32 :=
  broadcastInDim S1x128x512 ![1, 2] bcast_S128x512_S1x128x512_1_2 (pad S128x512 ![0, 320] ![0, 128] ![0, 0]
    (fun i => shapeCast S128x64 (extractStridedSlice S128x1x64 ![0, 5, 0] (fun i => shapeCast S128x8x64 x5 shapeCasts_S128x512_S128x8x64 i)
      slices_S128x8x64_S128x1x64_0_5_0) shapeCasts_S128x1x64_S128x64 i) (sitofp FTy.f32 (constantI S_ 32 0#32)) pads_S128x64_S128x512_000_3201280 h_S_)

/-- Head 6's value weights, in their own 64 columns of 512. -/
def uvHead6 (x5 : FVec F S128x512 .f32) : FVec F S1x128x512 .f32 :=
  broadcastInDim S1x128x512 ![1, 2] bcast_S128x512_S1x128x512_1_2 (pad S128x512 ![0, 384] ![0, 64] ![0, 0]
    (fun i => shapeCast S128x64 (extractStridedSlice S128x1x64 ![0, 6, 0] (fun i => shapeCast S128x8x64 x5 shapeCasts_S128x512_S128x8x64 i)
      slices_S128x8x64_S128x1x64_0_6_0) shapeCasts_S128x1x64_S128x64 i) (sitofp FTy.f32 (constantI S_ 32 0#32)) pads_S128x64_S128x512_000_384640 h_S_)

/-- Head 7's value weights, in their own 64 columns of 512. -/
def uvHead7 (x5 : FVec F S128x512 .f32) : FVec F S1x128x512 .f32 :=
  broadcastInDim S1x128x512 ![1, 2] bcast_S128x512_S1x128x512_1_2 (pad S128x512 ![0, 448] ![0, 0] ![0, 0]
    (fun i => shapeCast S128x64 (extractStridedSlice S128x1x64 ![0, 7, 0] (fun i => shapeCast S128x8x64 x5 shapeCasts_S128x512_S128x8x64 i)
      slices_S128x8x64_S128x1x64_0_7_0) shapeCasts_S128x1x64_S128x64 i) (sitofp FTy.f32 (constantI S_ 32 0#32)) pads_S128x64_S128x512_000_44800 h_S_)

/-- Eight heads' value weights, one after the other. -/
def uvStack (a0 a1 a2 a3 a4 a5 a6 a7 : FVec F S1x128x512 .f32) : FVec F S8x128x512 .bf16 :=
  truncf FTy.bf16 (concatenate S8x128x512 0 [⟨S1x128x512, a0⟩, ⟨S1x128x512, a1⟩, ⟨S1x128x512, a2⟩, ⟨S1x128x512, a3⟩, ⟨S1x128x512, a4⟩, ⟨S1x128x512, a5⟩, ⟨S1x128x512, a6⟩, ⟨S1x128x512, a7⟩] concatenates_S1x128x512_S1x128x512_S1x128x512_S1x128x512_S1x128x512_S1x128x512_S1x128x512_S1x128x512_S8x128x512_d0) bitsLt_bf16_f32

/-- The value weights the call receives. -/
def uvT (x5 : FVec F S128x512 .f32) : FVec F S8x128x512 .bf16 :=
  uvStack (uvHead0 x5) (uvHead1 x5) (uvHead2 x5) (uvHead3 x5) (uvHead4 x5) (uvHead5 x5) (uvHead6 x5) (uvHead7 x5)

theorem uvStack_congr {a0 a1 a2 a3 a4 a5 a6 a7 b0 b1 b2 b3 b4 b5 b6 b7 : FVec F S1x128x512 .f32} (h0 : a0 = b0) (h1 : a1 = b1) (h2 : a2 = b2) (h3 : a3 = b3) (h4 : a4 = b4) (h5 : a5 = b5) (h6 : a6 = b6) (h7 : a7 = b7) :
    uvStack a0 a1 a2 a3 a4 a5 a6 a7 = uvStack b0 b1 b2 b3 b4 b5 b6 b7 := by
  subst h0 h1 h2 h3 h4 h5 h6 h7
  rfl

set_option maxHeartbeats 4000000 in
theorem uv_eq (c : Dev nD) : V m c main_v53 = uvT (m (c, Proc.tc.devRef main_arg5)) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  simp only [TRef.binary, TRef.nullary, TRef.ternary, TRef.unary, TRef.toBuf, TRef.ofBuf, cast_eq]
  after_results_simp
  unfold uvT
  refine uvStack_congr ?_ ?_ ?_ ?_ ?_ ?_ ?_ ?_
  all_goals first | (after_results_simp; rfl) | rfl

end Cert.KernelIdeal.Flash
-- ==== Proof.UvRead.lean ====
/-
  The value weights the call receives, at an index.
-/
module

public import proofs.«01_k».proof.Proof.HostUv
public import proofs.«01_k».proof.Proof.AttnMath

@[expose] public section

set_option maxRecDepth 16384

noncomputable section

namespace Cert.KernelIdeal.Flash

open Idealize.ShloMosaic Idealize.ShloMosaic.TcCoe Idealize.ShloMosaic.Tactic Idealize.SL.Sem
open Cert.KernelIdeal Cert.KernelIdeal.Gen Cert.RowMath

set_option maxHeartbeats 4000000

/-- Two guarded reads that agree where the guards hold are equal. -/
theorem guard_eq {p q : Prop} [Decidable p] [Decidable q] (hpq : p ↔ q) (a : p → EReal) (b z : EReal) (hab : ∀ h : p, a h = b) :
    (if h : p then a h else z) = if q then b else z := by
  by_cases hp : p
  · rw [dif_pos hp, if_pos (hpq.1 hp), hab]
  · rw [dif_neg hp, if_neg fun hq => hp (hpq.2 hq)]

/-- Head 0's value weights at an index. -/
theorem uvHead0_at (x5 : FVec Ideal S128x512 .f32) (x : Fin 128) (c : Fin 512) :
    uvHead0 (F := Ideal) x5 (ix3 0 x c) = if c.val / 64 = 0 then x5 (ix2 x c) else FloatOps.sitofp .f32 0#32 := by
  pointwise [uvHead0]
  exact guard_eq (by omega) _ _ _ fun hp => congrArg (fun k => x5 (ix2 x k)) (Fin.ext (by simp; try omega))

/-- Head 1's value weights at an index. -/
theorem uvHead1_at (x5 : FVec Ideal S128x512 .f32) (x : Fin 128) (c : Fin 512) :
    uvHead1 (F := Ideal) x5 (ix3 0 x c) = if c.val / 64 = 1 then x5 (ix2 x c) else FloatOps.sitofp .f32 0#32 := by
  pointwise [uvHead1]
  exact guard_eq (by omega) _ _ _ fun hp => congrArg (fun k => x5 (ix2 x k)) (Fin.ext (by simp; try omega))

/-- Head 2's value weights at an index. -/
theorem uvHead2_at (x5 : FVec Ideal S128x512 .f32) (x : Fin 128) (c : Fin 512) :
    uvHead2 (F := Ideal) x5 (ix3 0 x c) = if c.val / 64 = 2 then x5 (ix2 x c) else FloatOps.sitofp .f32 0#32 := by
  pointwise [uvHead2]
  exact guard_eq (by omega) _ _ _ fun hp => congrArg (fun k => x5 (ix2 x k)) (Fin.ext (by simp; try omega))

/-- Head 3's value weights at an index. -/
theorem uvHead3_at (x5 : FVec Ideal S128x512 .f32) (x : Fin 128) (c : Fin 512) :
    uvHead3 (F := Ideal) x5 (ix3 0 x c) = if c.val / 64 = 3 then x5 (ix2 x c) else FloatOps.sitofp .f32 0#32 := by
  pointwise [uvHead3]
  exact guard_eq (by omega) _ _ _ fun hp => congrArg (fun k => x5 (ix2 x k)) (Fin.ext (by simp; try omega))

/-- Head 4's value weights at an index. -/
theorem uvHead4_at (x5 : FVec Ideal S128x512 .f32) (x : Fin 128) (c : Fin 512) :
    uvHead4 (F := Ideal) x5 (ix3 0 x c) = if c.val / 64 = 4 then x5 (ix2 x c) else FloatOps.sitofp .f32 0#32 := by
  pointwise [uvHead4]
  exact guard_eq (by omega) _ _ _ fun hp => congrArg (fun k => x5 (ix2 x k)) (Fin.ext (by simp; try omega))

/-- Head 5's value weights at an index. -/
theorem uvHead5_at (x5 : FVec Ideal S128x512 .f32) (x : Fin 128) (c : Fin 512) :
    uvHead5 (F := Ideal) x5 (ix3 0 x c) = if c.val / 64 = 5 then x5 (ix2 x c) else FloatOps.sitofp .f32 0#32 := by
  pointwise [uvHead5]
  exact guard_eq (by omega) _ _ _ fun hp => congrArg (fun k => x5 (ix2 x k)) (Fin.ext (by simp; try omega))

/-- Head 6's value weights at an index. -/
theorem uvHead6_at (x5 : FVec Ideal S128x512 .f32) (x : Fin 128) (c : Fin 512) :
    uvHead6 (F := Ideal) x5 (ix3 0 x c) = if c.val / 64 = 6 then x5 (ix2 x c) else FloatOps.sitofp .f32 0#32 := by
  pointwise [uvHead6]
  exact guard_eq (by omega) _ _ _ fun hp => congrArg (fun k => x5 (ix2 x k)) (Fin.ext (by simp; try omega))

/-- Head 7's value weights at an index. -/
theorem uvHead7_at (x5 : FVec Ideal S128x512 .f32) (x : Fin 128) (c : Fin 512) :
    uvHead7 (F := Ideal) x5 (ix3 0 x c) = if c.val / 64 = 7 then x5 (ix2 x c) else FloatOps.sitofp .f32 0#32 := by
  pointwise [uvHead7]
  exact guard_eq (by omega) _ _ _ fun hp => congrArg (fun k => x5 (ix2 x k)) (Fin.ext (by simp; try omega))

/-- Eight heads' value weights, one after the other, at an index. -/
theorem uvStack_at (a0 a1 a2 a3 a4 a5 a6 a7 : FVec Ideal S1x128x512 .f32) (a : Fin 8 → FVec Ideal S1x128x512 .f32)
    (h0 : a 0 = a0) (h1 : a 1 = a1) (h2 : a 2 = a2) (h3 : a 3 = a3) (h4 : a 4 = a4) (h5 : a 5 = a5) (h6 : a 6 = a6) (h7 : a 7 = a7) (h : Fin 8) (x : Fin 128) (c : Fin 512) :
    uvStack (F := Ideal) a0 a1 a2 a3 a4 a5 a6 a7 (ix3 h x c) = a h (ix3 0 x c) := by
  subst h0 h1 h2 h3 h4 h5 h6 h7
  pointwise [uvStack]
  fin_cases h <;> rfl

/-- The value weights the call receives: a head's own 64 columns, and zero elsewhere. -/
theorem uvT_at (x5 : FVec Ideal S128x512 .f32) (h : Fin 8) (x : Fin 128) (c : Fin 512) :
    uvT (F := Ideal) x5 (ix3 h x c) = if c.val / 64 = h.val then x5 (ix2 x c) else FloatOps.sitofp .f32 0#32 := by
  unfold uvT
  rw [uvStack_at _ _ _ _ _ _ _ _ (fun h => match h with
    | 0 => uvHead0 x5 | 1 => uvHead1 x5 | 2 => uvHead2 x5 | 3 => uvHead3 x5 | 4 => uvHead4 x5 | 5 => uvHead5 x5 | 6 => uvHead6 x5 | 7 => uvHead7 x5) rfl rfl rfl rfl rfl rfl rfl rfl]
  fin_cases h
  · exact uvHead0_at x5 x c
  · exact uvHead1_at x5 x c
  · exact uvHead2_at x5 x c
  · exact uvHead3_at x5 x c
  · exact uvHead4_at x5 x c
  · exact uvHead5_at x5 x c
  · exact uvHead6_at x5 x c
  · exact uvHead7_at x5 x c

/-- The value weights the call receives are real. -/
theorem uvT_real (f5 : S128x512.Idx → ℝ) (h : Fin 8) (x : Fin 128) (c : Fin 512) :
    uvT (F := Ideal) (fun i => (f5 i : EReal)) (ix3 h x c) = ((if c.val / 64 = h.val then f5 (ix2 x c) else 0 : ℝ) : EReal) := by
  rw [uvT_at, sitofp_zero]
  split_ifs <;> rfl

end Cert.KernelIdeal.Flash
-- ==== Proof.RefTerm.lean ====
/-
  The reference's result, in stages: the masked scores, their exponentials, the output.
-/
module

public import proofs.«01_k».proof.Proof.Gen.ReferenceIdeal.Run
public import Idealize.ShloMosaic.Lib.Pointwise

@[expose] public section

set_option maxRecDepth 16384

noncomputable section

namespace Cert.ReferenceIdeal.Ref

open Idealize.ShloMosaic Idealize.ShloMosaic.TcCoe Idealize.ShloMosaic.Tactic Idealize.SL.Sem
open Cert.ReferenceIdeal Cert.ReferenceIdeal.Gen

variable {F : FTy → Type} [FloatOps F]

/-- Each key's chunk, along the rows. -/
def keyChunk : IVec S8192x8192 32 := broadcastInDim S8192x8192 ![0, 1] bcast_S1x8192_S8192x8192_0_1 (select (andi (cmpi .ne (signi (broadcastInDim S1x8192 ![1] bcast_S8192_S1x8192_1 (iotaInDim S8192 32 0))) (broadcastInDim S1x8192 ![] bcast_S_S1x8192 (signi (id (constantI S_ 32 64#32))))) (cmpi .ne (Host.remsi (broadcastInDim S1x8192 ![1] bcast_S8192_S1x8192_1 (iotaInDim S8192 32 0)) (broadcastInDim S1x8192 ![] bcast_S_S1x8192 (id (constantI S_ 32 64#32)))) (broadcastInDim S1x8192 ![] bcast_S_S1x8192 (constantI S_ 32 0#32)))) (subi (Host.divsi (broadcastInDim S1x8192 ![1] bcast_S8192_S1x8192_1 (iotaInDim S8192 32 0)) (broadcastInDim S1x8192 ![] bcast_S_S1x8192 (id (constantI S_ 32 64#32)))) (broadcastInDim S1x8192 ![] bcast_S_S1x8192 (constantI S_ 32 1#32))) (Host.divsi (broadcastInDim S1x8192 ![1] bcast_S8192_S1x8192_1 (iotaInDim S8192 32 0)) (broadcastInDim S1x8192 ![] bcast_S_S1x8192 (id (constantI S_ 32 64#32)))))

/-- Each query's chunk, along the columns. -/
def queryChunk : IVec S8192x8192 32 := broadcastInDim S8192x8192 ![0, 1] bcast_S8192x1_S8192x8192_0_1 (select (andi (cmpi .ne (signi (broadcastInDim S8192x1 ![0] bcast_S8192_S8192x1_0 (iotaInDim S8192 32 0))) (broadcastInDim S8192x1 ![] bcast_S_S8192x1 (signi (id (constantI S_ 32 64#32))))) (cmpi .ne (Host.remsi (broadcastInDim S8192x1 ![0] bcast_S8192_S8192x1_0 (iotaInDim S8192 32 0)) (broadcastInDim S8192x1 ![] bcast_S_S8192x1 (id (constantI S_ 32 64#32)))) (broadcastInDim S8192x1 ![] bcast_S_S8192x1 (constantI S_ 32 0#32)))) (subi (Host.divsi (broadcastInDim S8192x1 ![0] bcast_S8192_S8192x1_0 (iotaInDim S8192 32 0)) (broadcastInDim S8192x1 ![] bcast_S_S8192x1 (id (constantI S_ 32 64#32)))) (broadcastInDim S8192x1 ![] bcast_S_S8192x1 (constantI S_ 32 1#32))) (Host.divsi (broadcastInDim S8192x1 ![0] bcast_S8192_S8192x1_0 (iotaInDim S8192 32 0)) (broadcastInDim S8192x1 ![] bcast_S_S8192x1 (id (constantI S_ 32 64#32)))))

/-- The latent vectors taken to eight heads of 64 by a weight. -/
def heads (x2 : FVec F S4x8192x128 .f32) (w : FVec F S128x512 .f32) : FVec F S4x8192x8x64 .f32 :=
  shapeCast _ (Host.dotGeneral dot_S4x8192x128_S128x512_S4x8192x512_2_0_01_1_n_n none x2 w) shapeCasts_S4x8192x512_S4x8192x8x64

/-- The masked scores. -/
def scores (x0 : FVec F S4x8192x8x64 .f32) (x1 : FVec F S4x8192x8x32 .f32) (x2 : FVec F S4x8192x128 .f32) (x3 : FVec F S4x8192x32 .f32) (x4 : FVec F S128x512 .f32) : FVec F S4x8x8192x8192 .f32 :=
  select (broadcastInDim S4x8x8192x8192 ![2, 3] bcast_S8192x8192_S4x8x8192x8192_2_3 (cmpi .sle keyChunk queryChunk)) (mulf (addf (Host.dotGeneral dot_S4x8192x8x64_S4x8192x8x64_S4x8x8192x8192_3_3_1_1_02_02 none x0 (heads x2 x4)) (transpose S4x8x8192x8192 [0, 3, 2, 1] (Host.dotGeneral dot_S4x8192x32_S4x8192x8x32_S4x8192x8192x8_2_3_1_12_0_0 none x3 x1) transposes_S4x8192x8192x8_S4x8x8192x8192_0_3_2_1)) (broadcastInDim S4x8x8192x8192 ![] bcast_S_S4x8x8192x8192 (constant S_ .f32 0x3DD105EC#32))) (broadcastInDim S4x8x8192x8192 ![] bcast_S_S4x8x8192x8192 (id (constant S_ .f32 0xFF800000#32)))

/-- Each row's largest score. -/
def rowMax (s : FVec F S4x8x8192x8192 .f32) : FVec F S4x8x8192 .f32 :=
  maximumf (broadcastInDim S4x8x8192 ![] bcast_S_S4x8x8192 (constant S_ .f32 0xFF800000#32)) (Host.reduce FloatOps.maximumf s (constant S_ .f32 0xFF800000#32) reducesTo_S4x8x8192x8192_S4x8x8192_d3 h_S_)

/-- The exponentials of the scores less their row's maximum. -/
def exps (s : FVec F S4x8x8192x8192 .f32) (mx : FVec F S4x8x8192 .f32) : FVec F S4x8x8192x8192 .f32 :=
  Host.exp (subf s (broadcastInDim S4x8x8192x8192 ![0, 1, 2, 3] bcast_S4x8x8192x1_S4x8x8192x8192_0_1_2_3 (broadcastInDim S4x8x8192x1 ![0, 1, 2] bcast_S4x8x8192_S4x8x8192x1_0_1_2 mx)))

/-- The output of weights and values. -/
def output (e : FVec F S4x8x8192x8192 .f32) (v : FVec F S4x8192x8x64 .f32) : FVec F S32768x512 .bf16 :=
  truncf .bf16 (shapeCast _ (transpose S4x8192x8x64 [0, 3, 1, 2] (Host.dotGeneral dot_S4x8192x8x64_S4x8x8192x8192_S4x8x64x8192_1_3_3_2_02_01 none v (Host.divf e (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduceAdd e (constant S_ .f32 0x00000000#32) reducesTo_S4x8x8192x8192_S4x8x8192_d3 h_S_))))) transposes_S4x8x64x8192_S4x8192x8x64_0_3_1_2) shapeCasts_S4x8192x8x64_S32768x512) bitsLt_bf16_f32

/-- The whole reference, from its six arguments. -/
def attention (x0 : FVec F S4x8192x8x64 .f32) (x1 : FVec F S4x8192x8x32 .f32) (x2 : FVec F S4x8192x128 .f32) (x3 : FVec F S4x8192x32 .f32) (x4 x5 : FVec F S128x512 .f32) : FVec F S32768x512 .bf16 :=
  output (exps (scores x0 x1 x2 x3 x4) (rowMax (scores x0 x1 x2 x3 x4))) (heads x2 x5)

variable (m : (ℓ : Loc nD τ sig) → Buf (Elt F) ℓ)

/-- The reference's result array is `attention` of its arguments. -/
theorem res_eq (c : Dev nD) : Value.res_main_v33 m c
    = attention (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) := by
  unfold Value.res_main_v33 attention output exps rowMax scores heads keyChunk queryChunk
  rfl

end Cert.ReferenceIdeal.Ref
-- ==== Proof.RefRow.lean ====
/-
  The reference's row maximum and exponentials at an index.
-/
module

public import proofs.«01_k».proof.Proof.RefTerm

@[expose] public section

set_option maxRecDepth 16384

noncomputable section

namespace Cert.ReferenceIdeal.Ref

open Idealize.ShloMosaic Idealize.ShloMosaic.TcCoe Idealize.ShloMosaic.Tactic Idealize.SL.Sem
open Cert.ReferenceIdeal Cert.ReferenceIdeal.Gen

/-- A maximum over the last of four axes, at an index: a fold over that axis. -/
theorem reduce_max {n0 n1 n2 n3 : Nat} (v : FVec Ideal ⟨4, ![n0, n1, n2, n3]⟩ .f32) (init : FVec Ideal S_ .f32)
    (h : (⟨4, ![n0, n1, n2, n3]⟩ : Shape).ReducesTo [3] ⟨3, ![n0, n1, n2]⟩) (hu : 0 < S_.numel) (a : Fin n0) (b : Fin n1) (c : Fin n2) :
    Host.reduce FloatOps.maximumf v init h hu (ix3 a b c)
      = Finset.univ.fold max (init (Shape.Idx.first hu)) fun k : Fin n3 => v (ix4 a b c k) := by
  pointwise []

/-- A row's maximum at an index. -/
theorem rowMax_at (s : FVec Ideal S4x8x8192x8192 .f32) (b : Fin 4) (h : Fin 8) (q : Fin 8192) :
    rowMax (F := Ideal) s (ix3 b h q)
      = max (Ideal.ofBits FTy.f32 4286578688#32) (Finset.univ.fold max (Ideal.ofBits FTy.f32 4286578688#32) fun k : Fin 8192 => s (ix4 b h q k)) := by
  unfold rowMax
  rw [maximumf_apply, reduce_max]
  pointwise []

/-- An exponential at an index. -/
theorem exps_at (s : FVec Ideal S4x8x8192x8192 .f32) (mx : FVec Ideal S4x8x8192 .f32) (b : Fin 4) (h : Fin 8) (q k : Fin 8192) :
    exps (F := Ideal) s mx (ix4 b h q k) = Ideal.exp (s (ix4 b h q k) - mx (ix3 b h q)) := by
  pointwise [exps]

end Cert.ReferenceIdeal.Ref
-- ==== Proof.RefRead.lean ====
/-
  The reference at an index, on real arguments.
-/
module

public import proofs.«01_k».proof.Proof.RefRow
public import proofs.«01_k».proof.Proof.AttnMath
public import Idealize.ShloMosaic.Lib.WordCmp

@[expose] public section

set_option maxRecDepth 16384

noncomputable section

namespace Cert.ReferenceIdeal.Ref

open Idealize.ShloMosaic Idealize.ShloMosaic.TcCoe Idealize.ShloMosaic.Tactic Idealize.SL.Sem
open Cert.ReferenceIdeal Cert.ReferenceIdeal.Gen Cert.RowMath

set_option maxHeartbeats 1000000

/-- A key's chunk. -/
theorem keyChunk_at (q k : Fin 8192) : keyChunk (ix2 q k) = BitVec.ofNat 32 (k.val / 64) := by
  pointwise [keyChunk]
  clear q
  revert k
  decide +kernel

/-- A query's chunk. -/
theorem queryChunk_at (q k : Fin 8192) : queryChunk (ix2 q k) = BitVec.ofNat 32 (q.val / 64) := by
  pointwise [queryChunk]
  clear k
  revert q
  decide +kernel

/-- A head at an index. -/
theorem heads_at (x2 : FVec Ideal S4x8192x128 .f32) (w : FVec Ideal S128x512 .f32) (b : Fin 4) (s : Fin 8192) (h : Fin 8) (d : Fin 64) :
    heads (F := Ideal) x2 w (ix4 b s h d) = ∑ x : Fin 128, x2 (ix3 b s x) * w (ix2 x (⟨h.val * 64 + d.val, by omega⟩ : Fin 512)) := by
  pointwise [heads]

/-- A masked score at an index. -/
theorem scores_at (x0 : FVec Ideal S4x8192x8x64 .f32) (x1 : FVec Ideal S4x8192x8x32 .f32) (x2 : FVec Ideal S4x8192x128 .f32) (x3 : FVec Ideal S4x8192x32 .f32) (x4 : FVec Ideal S128x512 .f32)
    (b : Fin 4) (h : Fin 8) (q k : Fin 8192) :
    scores (F := Ideal) x0 x1 x2 x3 x4 (ix4 b h q k)
      = Scalar.select (IntOp.cmpi .sle (keyChunk (ix2 q k)) (queryChunk (ix2 q k)))
          ((∑ x : Fin 64, x0 (ix4 b q h x) * heads (F := Ideal) x2 x4 (ix4 b k h x) + ∑ x : Fin 32, x3 (ix3 b k x) * x1 (ix4 b q h x)) * Ideal.ofBits .f32 1037108716#32)
          (Ideal.ofBits .f32 4286578688#32) := by
  pointwise [scores]
  rfl

/-- The output at an index. -/
theorem output_at (e : FVec Ideal S4x8x8192x8192 .f32) (v : FVec Ideal S4x8192x8x64 .f32) (r : Fin 32768) (c : Fin 512) :
    output (F := Ideal) e v (ix2 r c)
      = ∑ k : Fin 8192, v (ix4 (⟨r.val / 8192, by omega⟩ : Fin 4) k (⟨c.val / 64, by omega⟩ : Fin 8) (⟨c.val % 64, by omega⟩ : Fin 64))
          * Ideal.div (e (ix4 (⟨r.val / 8192, by omega⟩ : Fin 4) (⟨c.val / 64, by omega⟩ : Fin 8) (⟨r.val % 8192, by omega⟩ : Fin 8192) k))
              (∑ k' : Fin 8192, e (ix4 (⟨r.val / 8192, by omega⟩ : Fin 4) (⟨c.val / 64, by omega⟩ : Fin 8) (⟨r.val % 8192, by omega⟩ : Fin 8192) k')) := by
  pointwise [output]

variable (f0 : S4x8192x8x64.Idx → ℝ) (f1 : S4x8192x8x32.Idx → ℝ) (f2 : S4x8192x128.Idx → ℝ) (f3 : S4x8192x32.Idx → ℝ) (f4 f5 : S128x512.Idx → ℝ)

/-- An array of reals. -/
abbrev up {s : Shape} {φ : FTy} (f : s.Idx → ℝ) : FVec Ideal s φ := fun i => (f i : EReal)

/-- A score before the scale and the mask. -/
def score (b : Fin 4) (h : Fin 8) (q k : Fin 8192) : ℝ :=
  ∑ x : Fin 64, f0 (ix4 b q h x) * (∑ c : Fin 128, f2 (ix3 b k c) * f4 (ix2 c (⟨h.val * 64 + x.val, by omega⟩ : Fin 512))) + ∑ e : Fin 32, f3 (ix3 b k e) * f1 (ix4 b q h e)

/-- A head of real arrays is real. -/
theorem heads_real (b : Fin 4) (s : Fin 8192) (h : Fin 8) (d : Fin 64) :
    heads (F := Ideal) (up f2) (up f4) (ix4 b s h d) = ((∑ x : Fin 128, f2 (ix3 b s x) * f4 (ix2 x (⟨h.val * 64 + d.val, by omega⟩ : Fin 512)) : ℝ) : EReal) := by
  rw [heads_at, coe_sum]
  exact Finset.sum_congr rfl fun x _ => (EReal.coe_mul _ _).symm

/-- A masked score of real arrays: the scaled score where the key's chunk is no later than the query's, and −∞ elsewhere. -/
theorem scores_real (b : Fin 4) (h : Fin 8) (q k : Fin 8192) :
    scores (F := Ideal) (up f0) (up f1) (up f2) (up f3) (up f4) (ix4 b h q k)
      = if k.val / 64 ≤ q.val / 64 then ((scaleA * score f0 f1 f2 f3 f4 b h q k : ℝ) : EReal) else ⊥ := by
  rw [scores_at, keyChunk_at, queryChunk_at, ofBits_scale]
  have e : (∑ x : Fin 64, up (φ := .f32) f0 (ix4 b q h x) * heads (F := Ideal) (up f2) (up f4) (ix4 b k h x) + ∑ x : Fin 32, up (φ := .f32) f3 (ix3 b k x) * up (φ := .f32) f1 (ix4 b q h x)) * (scaleA : EReal)
      = ((scaleA * score f0 f1 f2 f3 f4 b h q k : ℝ) : EReal) := by
    simp only [heads_real]
    unfold score
    rw [mul_comm scaleA, EReal.coe_mul, EReal.coe_add, coe_sum, coe_sum]
    refine congrArg (· * (scaleA : EReal)) (congrArg₂ (· + ·) ?_ ?_)
    · exact Finset.sum_congr rfl fun x _ => (EReal.coe_mul _ _).symm
    · exact Finset.sum_congr rfl fun x _ => (EReal.coe_mul _ _).symm
  have hw := WordCmp.cmpi_sle_ofNat_eq_one_iff (w := 32) (a := k.val / 64) (b := q.val / 64) (by have := k.isLt; omega) (by have := q.isLt; omega)
  unfold Scalar.select
  by_cases hc : k.val / 64 ≤ q.val / 64
  · rw [if_pos hc]
    exact (if_pos (hw.2 hc)).trans e
  · rw [if_neg hc]
    exact (if_neg fun h' => hc (hw.1 h')).trans ofBits_bot_f32

/-- A row's maximum is real. -/
theorem rowMax_real (b : Fin 4) (h : Fin 8) (q : Fin 8192) :
    ∃ μ : ℝ, rowMax (F := Ideal) (scores (F := Ideal) (up f0) (up f1) (up f2) (up f3) (up f4)) (ix3 b h q) = (μ : EReal) := by
  rw [rowMax_at, ofBits_bot_f32, bot_sup_eq]
  have hlt : Finset.fold max ⊥ (fun k : Fin 8192 => scores (F := Ideal) (up f0) (up f1) (up f2) (up f3) (up f4) (ix4 b h q k)) Finset.univ < ⊤ := by
    refine fold_max_lt _ _ _ bot_lt_top fun k => ?_
    rw [scores_real]
    split_ifs
    · exact EReal.coe_lt_top _
    · exact bot_lt_top
  have hgt : ⊥ < Finset.fold max ⊥ (fun k : Fin 8192 => scores (F := Ideal) (up f0) (up f1) (up f2) (up f3) (up f4) (ix4 b h q k)) Finset.univ := by
    refine lt_of_lt_of_le (EReal.bot_lt_coe (scaleA * score f0 f1 f2 f3 f4 b h q q)) ?_
    refine (Finset.le_fold_max _).2 (Or.inr ⟨q, Finset.mem_univ _, ?_⟩)
    rw [scores_real, if_pos le_rfl]
  exact ⟨_, (EReal.coe_toReal hlt.ne hgt.ne').symm⟩

/-- A row's exponentials: those of the scores less one number where the key is visible, and zero elsewhere. -/
theorem exps_real (b : Fin 4) (h : Fin 8) (q : Fin 8192) :
    ∃ μ : ℝ, ∀ k : Fin 8192, exps (F := Ideal) (scores (F := Ideal) (up f0) (up f1) (up f2) (up f3) (up f4)) (rowMax (F := Ideal) (scores (F := Ideal) (up f0) (up f1) (up f2) (up f3) (up f4))) (ix4 b h q k)
      = ((Real.exp (-μ) * (if k.val / 64 ≤ q.val / 64 then Real.exp (scaleA * score f0 f1 f2 f3 f4 b h q k) else 0) : ℝ) : EReal) := by
  obtain ⟨μ, hμ⟩ := rowMax_real f0 f1 f2 f3 f4 b h q
  refine ⟨μ, fun k => ?_⟩
  rw [exps_at, hμ, scores_real]
  split_ifs with hc
  · rw [← EReal.coe_sub, Ideal.exp_coe, ← Real.exp_add]
    exact congrArg (fun z : ℝ => ((Real.exp z : ℝ) : EReal)) (by ring)
  · rw [EReal.bot_sub, Ideal.exp_bot, mul_zero]
    rfl

/-- The reference on real arrays: the values averaged with the exponentials' weights. -/
theorem attention_real (r : Fin 32768) (c : Fin 512) (b : Fin 4) (q : Fin 8192) (h : Fin 8) (hb : b.val = r.val / 8192) (hq : q.val = r.val % 8192) (hh : h.val = c.val / 64) :
    ∃ (ρ : ℝ) (e : Fin 8192 → ℝ), ρ ≠ 0 ∧ (∀ k, e k = ρ * (if k.val / 64 ≤ q.val / 64 then Real.exp (scaleA * score f0 f1 f2 f3 f4 b h q k) else 0))
      ∧ attention (F := Ideal) (up f0) (up f1) (up f2) (up f3) (up f4) (up f5) (ix2 r c)
        = ((∑ k : Fin 8192, (∑ x : Fin 128, f2 (ix3 b k x) * f5 (ix2 x c)) * (e k / ∑ k' : Fin 8192, e k') : ℝ) : EReal) := by
  obtain ⟨μ, hμ⟩ := exps_real f0 f1 f2 f3 f4 b h q
  refine ⟨Real.exp (-μ), _, (Real.exp_pos _).ne', fun k => rfl, ?_⟩
  have e1 : (⟨r.val / 8192, by omega⟩ : Fin 4) = b := Fin.ext hb.symm
  have e2 : (⟨r.val % 8192, by omega⟩ : Fin 8192) = q := Fin.ext hq.symm
  have e3 : (⟨c.val / 64, by omega⟩ : Fin 8) = h := Fin.ext hh.symm
  have hs : (∑ k : Fin 8192, Real.exp (-μ) * (if k.val / 64 ≤ q.val / 64 then Real.exp (scaleA * score f0 f1 f2 f3 f4 b h q k) else 0)) ≠ 0 := by
    refine (Finset.sum_pos' (fun k _ => ?_) ⟨q, Finset.mem_univ _, ?_⟩).ne'
    · refine mul_nonneg (Real.exp_pos _).le ?_
      split_ifs
      · exact (Real.exp_pos _).le
      · exact le_rfl
    · rw [if_pos le_rfl]
      exact mul_pos (Real.exp_pos _) (Real.exp_pos _)
  unfold attention
  rw [output_at, e1, e2, e3, coe_sum]
  simp only [hμ]
  rw [← coe_sum]
  refine Finset.sum_congr rfl fun k _ => ?_
  rw [Ideal.div_coe hs, heads_real, ← EReal.coe_mul, ← EReal.coe_mul]
  have e4 : (⟨h.val * 64 + c.val % 64, by omega⟩ : Fin 512) = c := Fin.ext (by show h.val * 64 + c.val % 64 = _; omega)
  refine congrArg _ ?_
  rw [mul_one_div]
  refine congrArg (· * _) (Finset.sum_congr rfl fun x _ => ?_)
  exact congrArg (fun z => f2 (ix3 b k x) * f5 (ix2 x z)) e4

end Cert.ReferenceIdeal.Ref
-- ==== Proof.Equation.lean ====
/-
  The kernel's result array is the reference's, on real arguments.
-/
module

public import proofs.«01_k».proof.Proof.FlashArray
public import proofs.«01_k».proof.Proof.FlashRows
public import proofs.«01_k».proof.Proof.HostRead
public import proofs.«01_k».proof.Proof.UvRead
public import proofs.«01_k».proof.Proof.RefRead

@[expose] public section

set_option maxRecDepth 16384

noncomputable section

namespace Cert.KernelIdeal.Flash

open Idealize.ShloMosaic Idealize.ShloMosaic.TcCoe Idealize.ShloMosaic.Tactic Idealize.SL.Sem
open Cert.KernelIdeal Cert.KernelIdeal.Gen Cert.RowMath

variable (m : (ℓ : Loc nD τ sig) → Buf (Elt Ideal) ℓ)

/-- A number under `8192`, from any natural number. -/
def key (k : ℕ) : Fin 8192 := ⟨k % 8192, Nat.mod_lt _ (by decide)⟩

theorem key_val (k : Fin 8192) : key k.val = k := Fin.ext (Nat.mod_eq_of_lt k.isLt)

/-- A latent lane under `128`, from any natural number. -/
def lane (k : ℕ) : Fin 128 := ⟨k % 128, Nat.mod_lt _ (by decide)⟩

theorem lane_val (k : Fin 128) : lane k.val = k := Fin.ext (Nat.mod_eq_of_lt k.isLt)

variable (f0 : S4x8192x8x64.Idx → ℝ) (f1 : S4x8192x8x32.Idx → ℝ) (f2 : S4x8192x128.Idx → ℝ) (f3 : S4x8192x32.Idx → ℝ) (f4 f5 : S128x512.Idx → ℝ)

/-- A visible key's weight, before the row's sum divides it. -/
def pw (b : Fin 4) (h : Fin 8) (q k : Fin 8192) : ℝ :=
  if k.val / 64 ≤ q.val / 64 then Real.exp (scaleA * Cert.ReferenceIdeal.Ref.score f0 f1 f2 f3 f4 b h q k) else 0

/-- The sum of the visible weights over all rows, from the kernel's sum up to its limit. -/
theorem sum_visible (b : Fin 4) (h : Fin 8) (q : Fin 8192) (g : ℕ → ℝ) :
    (∑ k ∈ Finset.range 8192, if k < (q.val / 64 + 1) * 64 then Real.rpow 2 (scaleA / Real.log 2 * Cert.ReferenceIdeal.Ref.score f0 f1 f2 f3 f4 b h q (key k)) * g k else 0)
      = ∑ k : Fin 8192, pw f0 f1 f2 f3 f4 b h q k * g k.val := by
  rw [Finset.sum_range]
  refine Finset.sum_congr rfl fun k _ => ?_
  unfold pw
  rw [key_val, rpow_exp]
  by_cases hc : k.val / 64 ≤ q.val / 64
  · rw [if_pos hc, if_pos (by omega)]
  · rw [if_neg hc, if_neg (by omega), zero_mul]

/-- One head's quotient at a row: the latent keys averaged with the softmax's weights. -/
theorem quotient_at (c : Dev nD) (t : Fin grid0.N) (i : Fin 128) (h : Fin 8) (b : Fin 4) (q : Fin 8192) (hb : b.val = t.val / 64) (hq : q.val = 128 * (t.val % 64) + i.val)
    (e0 : (m (c, Proc.tc.devRef main_arg0) : FVec Ideal S4x8192x8x64 .f32) = fun i => (f0 i : EReal))
    (e1 : (m (c, Proc.tc.devRef main_arg1) : FVec Ideal S4x8192x8x32 .f32) = fun i => (f1 i : EReal))
    (e2 : (m (c, Proc.tc.devRef main_arg2) : FVec Ideal S4x8192x128 .f32) = fun i => (f2 i : EReal))
    (e3 : (m (c, Proc.tc.devRef main_arg3) : FVec Ideal S4x8192x32 .f32) = fun i => (f3 i : EReal))
    (e4 : (m (c, Proc.tc.devRef main_arg4) : FVec Ideal S128x512 .f32) = fun i => (f4 i : EReal)) (x : Fin 128) :
    Ideal.div (accLast (limRow (grid0.coords t)) (t.val % 64 / 4) (qcat (iblk m c 0 t)) (iblk m c 1 t) (ix2 (⟨128 * h.val + i.val, by omega⟩ : Fin 1024) (⟨x.val, by omega⟩ : Fin 256)))
        (accLast (limRow (grid0.coords t)) (t.val % 64 / 4) (qcat (iblk m c 0 t)) (iblk m c 1 t) (ix2 (⟨128 * h.val + i.val, by omega⟩ : Fin 1024) (⟨128 + x.val, by omega⟩ : Fin 256)))
      = (((∑ k : Fin 8192, pw f0 f1 f2 f3 f4 b h q k * f2 (ix3 b k x)) / ∑ k : Fin 8192, pw f0 f1 f2 f3 f4 b h q k : ℝ) : EReal) := by
  have hN : grid0.N = 256 := N_0
  have ht : t.val < 256 := by have := t.isLt; omega
  have hi : i.val < 128 := i.isLt
  have hkey : ∀ (k : Fin 8192) (l : Fin 256), (iblk m c 1 t) (ix2 k l) = ((if hl : l.val < 128 then f2 (ix3 b k ⟨l.val, hl⟩) else if h1 : l.val - 128 < 32 then f3 (ix3 b k ⟨l.val - 128, h1⟩) else 0 : ℝ) : EReal) := by
    intro k l
    have hk := k.isLt
    refine (iblk1_at m c t k l (⟨8192 * (t.val / 64) + k.val, by omega⟩ : Fin 32768) rfl).trans ?_
    rw [ka_eq, e2, e3]
    exact kaT_real f2 f3 _ l b k (by show b.val = (8192 * (t.val / 64) + k.val) / 8192; omega) (by show k.val = (8192 * (t.val / 64) + k.val) % 8192; omega)
  have hquery : ∀ l : Fin 256, qcat (iblk m c 0 t) (ix2 (⟨128 * h.val + i.val, by omega⟩ : Fin 1024) l)
      = (((if hl : l.val < 128 then ∑ x : Fin 64, f0 (ix4 b q h x) * f4 (ix2 ⟨l.val, hl⟩ (⟨h.val * 64 + x.val, by omega⟩ : Fin 512))
          else if h1 : l.val - 128 < 32 then f1 (ix4 b q h ⟨l.val - 128, h1⟩) else 0) * (scaleA / Real.log 2) : ℝ) : EReal) := by
    intro l
    rw [qcat_at]
    refine (iblk0_at m c t _ _ (⟨128 * t.val + i.val, by omega⟩ : Fin 32768) (by show 128 * t.val + i.val = 128 * t.val + (128 * h.val + i.val) % 128; omega)).trans ?_
    rw [qa_eq, e0, e1, e4]
    exact qaT_real f0 f1 f4 _ h l b q (by show b.val = (128 * t.val + i.val) / 8192; omega) (by show q.val = (128 * t.val + i.val) % 8192; omega) _
      (by show 256 * ((128 * h.val + i.val) / 128) + l.val = 256 * h.val + l.val; omega)
  have hσ : ∀ k : Fin 8192, ∑ l : Fin 256, qcat (iblk m c 0 t) (ix2 (⟨128 * h.val + i.val, by omega⟩ : Fin 1024) l) * (iblk m c 1 t) (ix2 k l)
      = (((fun k : ℕ => scaleA / Real.log 2 * Cert.ReferenceIdeal.Ref.score f0 f1 f2 f3 f4 b h q (key k)) k.val : ℝ) : EReal) := by
    intro k
    beta_reduce
    rw [key_val]
    unfold Cert.ReferenceIdeal.Ref.score
    rw [← score_two_ways (scaleA / Real.log 2) (fun x => f0 (ix4 b q h x)) (fun c x => f4 (ix2 c (⟨h.val * 64 + x.val, by omega⟩ : Fin 512))) (fun e => f1 (ix4 b q h e)) (fun e => f3 (ix3 b k e)) (fun c => f2 (ix3 b k c)), coe_sum]
    refine Finset.sum_congr rfl fun l _ => ?_
    rw [hquery, hkey, ← EReal.coe_mul]
  have hv : ∀ (k : Fin 8192) (x : Fin 128), (iblk m c 1 t) (ix2 k (⟨x.val, by omega⟩ : Fin 256)) = (((fun k x : ℕ => f2 (ix3 b (key k) (lane x))) k.val x.val : ℝ) : EReal) := by
    intro k x
    beta_reduce
    rw [hkey, key_val, lane_val, dif_pos x.isLt]
  have hlim : limRow (grid0.coords t) (ix2 (⟨128 * h.val + i.val, by omega⟩ : Fin 1024) 0) = BitVec.ofNat 32 ((q.val / 64 + 1) * 64) := by
    rw [limRow_at]
    congr 1
    show ((128 * (t.val % 64) + (128 * h.val + i.val) % 128) / 64 + 1) * 64 = _
    rw [hq]
    omega
  have hqlt := q.isLt
  refine (row_quotient (qcat (iblk m c 0 t)) (iblk m c 1 t) _ (fun k : ℕ => scaleA / Real.log 2 * Cert.ReferenceIdeal.Ref.score f0 f1 f2 f3 f4 b h q (key k)) (fun k x : ℕ => f2 (ix3 b (key k) (lane x)))
    hσ hv _ ((q.val / 64 + 1) * 64) (t.val % 64 / 4) hlim (by omega) (by omega) (by omega) x).trans ?_
  refine congrArg (fun z : ℝ => (z : EReal)) (congrArg₂ (· / ·) ?_ ?_)
  · exact (sum_visible f0 f1 f2 f3 f4 b h q _).trans (Finset.sum_congr rfl fun k _ => by rw [key_val, lane_val])
  · have := sum_visible f0 f1 f2 f3 f4 b h q (fun _ => 1)
    simpa only [mul_one] using this

/-- The result array at an index. -/
theorem result_at (c : Dev nD) (r : Fin 32768) (j : Fin 512) (b : Fin 4) (q : Fin 8192) (h : Fin 8) (hb : b.val = r.val / 8192) (hq : q.val = r.val % 8192) (hh : h.val = j.val / 64)
    (e0 : (m (c, Proc.tc.devRef main_arg0) : FVec Ideal S4x8192x8x64 .f32) = fun i => (f0 i : EReal))
    (e1 : (m (c, Proc.tc.devRef main_arg1) : FVec Ideal S4x8192x8x32 .f32) = fun i => (f1 i : EReal))
    (e2 : (m (c, Proc.tc.devRef main_arg2) : FVec Ideal S4x8192x128 .f32) = fun i => (f2 i : EReal))
    (e3 : (m (c, Proc.tc.devRef main_arg3) : FVec Ideal S4x8192x32 .f32) = fun i => (f3 i : EReal))
    (e4 : (m (c, Proc.tc.devRef main_arg4) : FVec Ideal S128x512 .f32) = fun i => (f4 i : EReal))
    (e5 : (m (c, Proc.tc.devRef main_arg5) : FVec Ideal S128x512 .f32) = fun i => (f5 i : EReal)) :
    (result m c : FVec Ideal S32768x512 .bf16) (ix2 r j)
      = ((∑ x : Fin 128, (∑ k : Fin 8192, pw f0 f1 f2 f3 f4 b h q k * f2 (ix3 b k x)) / (∑ k : Fin 8192, pw f0 f1 f2 f3 f4 b h q k) * f5 (ix2 x j) : ℝ) : EReal) := by
  have hr := r.isLt
  show blockOut m c (pt r) (ix2 ⟨r.val % 128, _⟩ j) = _
  unfold blockOut
  rw [combine_at]
  have hp : (pt r).val = r.val / 128 := rfl
  have hterm : ∀ (h' : Fin 8) (x : Fin 128), (iblk m c 2 (pt r)) (ix3 h' x j) = ((if j.val / 64 = h'.val then f5 (ix2 x j) else 0 : ℝ) : EReal) := by
    intro h' x
    refine (iblk2_at m c (pt r) h' x j).trans ?_
    rw [uv_eq, e5]
    exact uvT_real f5 h' x j
  have hb' : b.val = (pt r).val / 64 := by rw [hp]; omega
  have hq' : q.val = 128 * ((pt r).val % 64) + r.val % 128 := by rw [hp]; omega
  have hall : ∀ h' : Fin 8, (∑ x : Fin 128, Ideal.div (accLast (limRow (grid0.coords (pt r))) ((pt r).val % 64 / 4) (qcat (iblk m c 0 (pt r))) (iblk m c 1 (pt r)) (ix2 (⟨128 * h'.val + r.val % 128, by omega⟩ : Fin 1024) (⟨x.val, by omega⟩ : Fin 256)))
        (accLast (limRow (grid0.coords (pt r))) ((pt r).val % 64 / 4) (qcat (iblk m c 0 (pt r))) (iblk m c 1 (pt r)) (ix2 (⟨128 * h'.val + r.val % 128, by omega⟩ : Fin 1024) (⟨128 + x.val, by omega⟩ : Fin 256))) * (iblk m c 2 (pt r)) (ix3 h' x j) : EReal)
      = ((∑ x : Fin 128, (∑ k : Fin 8192, pw f0 f1 f2 f3 f4 b h' q k * f2 (ix3 b k x)) / (∑ k : Fin 8192, pw f0 f1 f2 f3 f4 b h' q k) * (if j.val / 64 = h'.val then f5 (ix2 x j) else 0) : ℝ) : EReal) := by
    intro h'
    rw [coe_sum]
    refine Finset.sum_congr rfl fun x _ => ?_
    rw [EReal.coe_mul, ← hterm h' x, ← quotient_at m f0 f1 f2 f3 f4 c (pt r) ⟨r.val % 128, by omega⟩ h' b q hb' hq' e0 e1 e2 e3 e4 x]
  refine (Finset.sum_congr rfl fun h' _ => hall h').trans ?_
  rw [← coe_sum]
  refine congrArg _ ((Finset.sum_eq_single h (fun h' _ hne => ?_) fun hn => absurd (Finset.mem_univ _) hn).trans ?_)
  · refine Finset.sum_eq_zero fun x _ => ?_
    rw [if_neg (fun e => hne (Fin.ext (by omega))), mul_zero]
  · refine Finset.sum_congr rfl fun x _ => ?_
    rw [if_pos hh.symm]

/-- The kernel's result array is the reference's of the same real arguments. -/
theorem equation (c : Dev nD)
    (e0 : (m (c, Proc.tc.devRef main_arg0) : FVec Ideal S4x8192x8x64 .f32) = fun i => (f0 i : EReal))
    (e1 : (m (c, Proc.tc.devRef main_arg1) : FVec Ideal S4x8192x8x32 .f32) = fun i => (f1 i : EReal))
    (e2 : (m (c, Proc.tc.devRef main_arg2) : FVec Ideal S4x8192x128 .f32) = fun i => (f2 i : EReal))
    (e3 : (m (c, Proc.tc.devRef main_arg3) : FVec Ideal S4x8192x32 .f32) = fun i => (f3 i : EReal))
    (e4 : (m (c, Proc.tc.devRef main_arg4) : FVec Ideal S128x512 .f32) = fun i => (f4 i : EReal))
    (e5 : (m (c, Proc.tc.devRef main_arg5) : FVec Ideal S128x512 .f32) = fun i => (f5 i : EReal)) :
    (result m c : FVec Ideal S32768x512 .bf16) = Cert.ReferenceIdeal.Ref.attention (F := Ideal) (fun i => (f0 i : EReal)) (fun i => (f1 i : EReal)) (fun i => (f2 i : EReal)) (fun i => (f3 i : EReal)) (fun i => (f4 i : EReal)) (fun i => (f5 i : EReal)) := by
  funext i
  have hi := eq_ix2 (n0 := 32768) (n1 := 512) i
  obtain ⟨r, hr0⟩ : ∃ r : Fin 32768, r = i 0 := ⟨_, rfl⟩
  obtain ⟨j, hj0⟩ : ∃ j : Fin 512, j = i 1 := ⟨_, rfl⟩
  rw [← hr0, ← hj0] at hi
  rw [hi]
  have hr : r.val < 32768 := r.isLt
  have hj : j.val < 512 := j.isLt
  clear hr0 hj0 hi
  rw [result_at m f0 f1 f2 f3 f4 f5 c r j ⟨r.val / 8192, by omega⟩ ⟨r.val % 8192, by omega⟩ ⟨j.val / 64, by omega⟩ rfl rfl rfl e0 e1 e2 e3 e4 e5]
  obtain ⟨ρ, e, hρ, he, ha⟩ := Cert.ReferenceIdeal.Ref.attention_real f0 f1 f2 f3 f4 f5 r j ⟨r.val / 8192, by omega⟩ ⟨r.val % 8192, by omega⟩ ⟨j.val / 64, by omega⟩ rfl rfl rfl
  refine Eq.trans ?_ ha.symm
  exact congrArg _ (output_two_ways _ e ρ hρ he _ _)

end Cert.KernelIdeal.Flash
-- ==== Proof.Finite.lean ====
/-
  The precondition read: every element of every argument is a real number.
-/
module

public import proofs.«01_k».proof.Proof.Gen.Pre_finite
public import Idealize.ShloMosaic.Lib.ReduceAll
public import Idealize.ShloMosaic.Lib.Pointwise

@[expose] public section

noncomputable section

namespace Cert.Pre_finite

open Idealize.ShloMosaic

/-- The infinity's literal. -/
theorem ofBits_top : Ideal.ofBits .f32 0x7F800000#32 = ⊤ := by
  simp [Ideal.ofBits, Ideal.ieee]

/-- An array whose every absolute value is below infinity is an array of reals. -/
theorem real_of_all {s : Shape} {axes : List (Fin s.rank)} (x : FVec Ideal s .f32) (dims : Fin 0 → Fin s.rank) (hb : S_.BroadcastsInDim s dims) (hr : s.ReducesTo axes S_) (hu : 0 < S_.numel)
    (e : Host.reduce IntOp.andi (cmpf .olt (Host.absf x) (broadcastInDim s dims hb (constant S_ .f32 0x7F800000#32))) (constantI S_ 1 1#1) hr hu ix0 = 1#1) :
    ∃ f : s.Idx → ℝ, x = fun i => (f i : EReal) := by
  haveI : Subsingleton S_.Idx := ⟨fun a b => funext fun k => k.elim0⟩
  refine ⟨fun i => (x i).toReal, funext fun i => ?_⟩
  have h := Host.reduce_andi_all _ _ hr hu ix0 e i
  have h' : Ideal.cmp .olt (max (x i) (-x i)) (Ideal.ofBits .f32 0x7F800000#32) = 1#1 := h
  rw [ofBits_top] at h'
  have hx : x i ≠ ⊤ ∧ x i ≠ ⊥ := by
    constructor
    · intro ht
      rw [ht] at h'
      simp [Ideal.cmp] at h'
    · intro ht
      rw [ht] at h'
      simp [Ideal.cmp] at h'
  exact (EReal.coe_toReal hx.1 hx.2).symm

/-- The precondition says every argument is an array of reals. -/
theorem real_args [Facts] (x0 : FVec Ideal S4x8192x8x64 .f32) (x1 : FVec Ideal S4x8192x8x32 .f32) (x2 : FVec Ideal S4x8192x128 .f32) (x3 : FVec Ideal S4x8192x32 .f32) (x4 x5 : FVec Ideal S128x512 .f32)
    (h : fn (F := Ideal) x0 x1 x2 x3 x4 x5 ix0 = 1#1) :
    ∃ (f0 : S4x8192x8x64.Idx → ℝ) (f1 : S4x8192x8x32.Idx → ℝ) (f2 : S4x8192x128.Idx → ℝ) (f3 : S4x8192x32.Idx → ℝ) (f4 f5 : S128x512.Idx → ℝ),
      x0 = (fun i => (f0 i : EReal)) ∧ x1 = (fun i => (f1 i : EReal)) ∧ x2 = (fun i => (f2 i : EReal)) ∧ x3 = (fun i => (f3 i : EReal)) ∧ x4 = (fun i => (f4 i : EReal)) ∧ x5 = (fun i => (f5 i : EReal)) := by
  have split : ∀ a b : BitVec 1, IntOp.andi a b = 1#1 → a = 1#1 ∧ b = 1#1 := by decide
  unfold fn fn_part1 at h
  obtain ⟨h, g5⟩ := split _ _ h
  obtain ⟨h, g4⟩ := split _ _ h
  obtain ⟨h, g3⟩ := split _ _ h
  obtain ⟨h, g2⟩ := split _ _ h
  obtain ⟨g0, g1⟩ := split _ _ h
  obtain ⟨f0, e0⟩ := real_of_all x0 _ _ _ _ g0
  obtain ⟨f1, e1⟩ := real_of_all x1 _ _ _ _ g1
  obtain ⟨f2, e2⟩ := real_of_all x2 _ _ _ _ g2
  obtain ⟨f3, e3⟩ := real_of_all x3 _ _ _ _ g3
  obtain ⟨f4, e4⟩ := real_of_all x4 _ _ _ _ g4
  obtain ⟨f5, e5⟩ := real_of_all x5 _ _ _ _ g5
  exact ⟨f0, f1, f2, f3, f4, f5, e0, e1, e2, e3, e4, e5⟩

end Cert.Pre_finite
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Pre_finite
public import proofs.«01_k».proof.Proof.Gen.KernelIdeal.Value
public import proofs.«01_k».proof.Proof.Gen.ReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.Feed
public import proofs.«01_k».proof.Proof.Gen.Feed.Skeleton
public import proofs.«01_k».proof.Proof.Gen.Feed.Launch
public import proofs.«01_k».proof.Proof.Gen.Feed.Points
public import proofs.«01_k».proof.Proof.Gen.Feed.Frame
public import proofs.«01_k».proof.Proof.Gen.FeedIdeal
public import proofs.«01_k».proof.Proof.Gen.FeedIdeal.Skeleton
public import proofs.«01_k».proof.Proof.Gen.FeedIdeal.Launch
public import proofs.«01_k».proof.Proof.Gen.FeedIdeal.Points
public import proofs.«01_k».proof.Proof.Gen.FeedIdeal.Frame
public import proofs.«01_k».proof.Proof.Gen.FeedReferenceIdeal
public import proofs.«01_k».proof.Proof.Gen.MergeReferenceIdeal
public import proofs.«01_k».proof.Proof.Gen.MergeReferenceIdeal.Run
public import proofs.«01_k».proof.Proof.Gen.MlpReferenceIdeal
public import proofs.«01_k».proof.Proof.Gen.MlpReferenceIdeal.Run
public import proofs.«01_k».proof.Proof.Gen.MergeIdeal.Value
public import proofs.«01_k».proof.Proof.Gen.MlpIdeal.Value
public import proofs.«01_k».proof.Proof.Gen.FeedIdeal.Value
public import proofs.«01_k».proof.Proof.Gen.FeedReferenceIdeal.Run
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailIdeal.Value
public import proofs.«01_k».proof.Proof.Gen.TailReferenceIdeal
public import proofs.«01_k».proof.Proof.Gen.TailReferenceIdeal.Run
public import proofs.«01_k».proof.Proof.Gen.Band
public import proofs.«01_k».proof.Proof.Gen.Band.Skeleton
public import proofs.«01_k».proof.Proof.Gen.Band.Launch
public import proofs.«01_k».proof.Proof.Gen.Band.Points
public import proofs.«01_k».proof.Proof.Gen.Band.Frame
public import proofs.«01_k».proof.Proof.Gen.BandIdeal
public import proofs.«01_k».proof.Proof.Gen.BandIdeal.Skeleton
public import proofs.«01_k».proof.Proof.Gen.BandIdeal.Launch
public import proofs.«01_k».proof.Proof.Gen.BandIdeal.Points
public import proofs.«01_k».proof.Proof.Gen.BandIdeal.Frame
public import proofs.«01_k».proof.Proof.Gen.BandIdeal.Value
public import proofs.«01_k».proof.Proof.Gen.BandReferenceIdeal
public import proofs.«01_k».proof.Proof.Gen.BandReferenceIdeal.Run
public import proofs.«01_k».proof.Proof.Gen.Select
public import proofs.«01_k».proof.Proof.Gen.Select.Skeleton
public import proofs.«01_k».proof.Proof.Gen.Select.Launch
public import proofs.«01_k».proof.Proof.Gen.Select.Points
public import proofs.«01_k».proof.Proof.Gen.Select.Frame
public import proofs.«01_k».proof.Proof.Gen.SelectIdeal
public import proofs.«01_k».proof.Proof.Gen.SelectIdeal.Skeleton
public import proofs.«01_k».proof.Proof.Gen.SelectIdeal.Launch
public import proofs.«01_k».proof.Proof.Gen.SelectIdeal.Points
public import proofs.«01_k».proof.Proof.Gen.SelectIdeal.Frame
public import proofs.«01_k».proof.Proof.Gen.SelectIdeal.Value
public import proofs.«01_k».proof.Proof.Gen.SelectReferenceIdeal
public import proofs.«01_k».proof.Proof.Gen.SelectReferenceIdeal.Run
public import proofs.«01_k».proof.Proof.MergeArray
public import proofs.«01_k».proof.Proof.MergeRef
public import proofs.«01_k».proof.Proof.MlpArray
public import proofs.«01_k».proof.Proof.MlpRef
public import proofs.«01_k».proof.Proof.FeedArray
public import proofs.«01_k».proof.Proof.FeedRef
public import proofs.«01_k».proof.Proof.TailArray
public import proofs.«01_k».proof.Proof.TailRef
public import proofs.«01_k».proof.Proof.BandArray
public import proofs.«01_k».proof.Proof.BandRef
public import proofs.«01_k».proof.Proof.SelectArgs
public import proofs.«01_k».proof.Proof.SelectRef
public import proofs.«01_k».proof.Proof.Equation
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The idealized reference terminates with its arguments unchanged and its counters at zero: it declares no semaphore. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference terminates with its arguments unchanged and its counters at zero: its text is the idealized one's. -/
theorem frame_reference : Cert.quiescent_Reference := fun m ρ _ =>
  (θ_run Cert.ReferenceIdeal.defs _ _).mono (fun r h => ⟨fun c => (h c).2, sem_eq_zero_of_no_sems (by decide) r.2⟩)
    (Cert.ReferenceIdeal.Value.run (F := Bits) m ρ)

/-- Kernel and reference leave the same array, of real arguments. -/
theorem same_array : Cert.algebraic_KernelIdeal_ReferenceIdeal_pre_finite := by
  intro m ρ m' ρ' hpre hagree
  refine ⟨fun c => Cert.KernelIdeal.Flash.result m c,
    (θ_run Cert.KernelIdeal.defs _ _).mono (fun r h c => ⟨(h c).1.trans (Cert.KernelIdeal.Flash.final m c), (h c).2⟩) (Cert.KernelIdeal.Value.run_blocks m ρ),
    (θ_run Cert.ReferenceIdeal.defs _ _).mono (fun r h c => ⟨(h c).1.trans ?_, (h c).2⟩) (Cert.ReferenceIdeal.Value.run m' ρ')⟩
  obtain ⟨a0, a1, a2, a3, a4, a5⟩ := hagree c
  obtain ⟨f0, f1, f2, f3, f4, f5, e0, e1, e2, e3, e4, e5⟩ := Cert.Pre_finite.real_args _ _ _ _ _ _ (congrFun (hpre c) ix0)
  refine (Cert.ReferenceIdeal.Ref.res_eq m' c).trans ?_
  refine Eq.trans ?_ (Cert.KernelIdeal.Flash.equation m f0 f1 f2 f3 f4 f5 c e0 e1 e2 e3 e4 e5).symm
  rw [show m' (c, Proc.tc.devRef Cert.ReferenceIdeal.main_arg0) = _ from a0.trans e0, show m' (c, Proc.tc.devRef Cert.ReferenceIdeal.main_arg1) = _ from a1.trans e1,
    show m' (c, Proc.tc.devRef Cert.ReferenceIdeal.main_arg2) = _ from a2.trans e2, show m' (c, Proc.tc.devRef Cert.ReferenceIdeal.main_arg3) = _ from a3.trans e3,
    show m' (c, Proc.tc.devRef Cert.ReferenceIdeal.main_arg4) = _ from a4.trans e4, show m' (c, Proc.tc.devRef Cert.ReferenceIdeal.main_arg5) = _ from a5.trans e5]

/-- The merge's idealized reference terminates with its arguments unchanged and its counters at zero: it declares no semaphore. -/
theorem frame_merge_reference_ideal : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The merge and its reference leave the same array. -/
theorem same_merge : Cert.algebraic_MergeIdeal_MergeReferenceIdeal := by
  intro m ρ m' ρ' _ hagree
  refine ⟨fun c => Cert.MergeIdeal.Rows.result m c,
    (θ_run Cert.MergeIdeal.defs _ _).mono (fun r h c => ⟨(h c).1.trans (Cert.MergeIdeal.Rows.final m c), (h c).2⟩) (Cert.MergeIdeal.Value.run_blocks m ρ),
    (θ_run Cert.MergeReferenceIdeal.defs _ _).mono (fun r h c => ⟨(h c).1.trans ?_, (h c).2⟩) (Cert.MergeReferenceIdeal.Value.run m' ρ')⟩
  obtain ⟨a0, a1, a2, a3, a4, a5, a6, a7, a8, a9⟩ := hagree c
  refine (Cert.MergeReferenceIdeal.Ref.res_eq m' c).trans ?_
  rw [show m' (c, Proc.tc.devRef Cert.MergeReferenceIdeal.main_arg0) = _ from a0,
    show m' (c, Proc.tc.devRef Cert.MergeReferenceIdeal.main_arg1) = _ from a1,
    show m' (c, Proc.tc.devRef Cert.MergeReferenceIdeal.main_arg2) = _ from a2,
    show m' (c, Proc.tc.devRef Cert.MergeReferenceIdeal.main_arg3) = _ from a3,
    show m' (c, Proc.tc.devRef Cert.MergeReferenceIdeal.main_arg4) = _ from a4,
    show m' (c, Proc.tc.devRef Cert.MergeReferenceIdeal.main_arg5) = _ from a5,
    show m' (c, Proc.tc.devRef Cert.MergeReferenceIdeal.main_arg6) = _ from a6,
    show m' (c, Proc.tc.devRef Cert.MergeReferenceIdeal.main_arg7) = _ from a7,
    show m' (c, Proc.tc.devRef Cert.MergeReferenceIdeal.main_arg8) = _ from a8,
    show m' (c, Proc.tc.devRef Cert.MergeReferenceIdeal.main_arg9) = _ from a9]
  funext i
  obtain ⟨r, j, rfl⟩ : ∃ (r : Fin 32768) (j : Fin 1024), i = ix2 r j := ⟨i 0, i 1, eq_ix2 (n0 := 32768) (n1 := 1024) i⟩
  refine (Cert.MergeReferenceIdeal.Ref.ref_at _ _ _ _ _ _ _ _ _ _ r j).trans ?_
  exact (Cert.MergeIdeal.Rows.result_at m c r j).symm

/-- The last layer's feed-forward call's idealized reference terminates with its arguments unchanged and its counters at zero: it declares no semaphore. -/
theorem frame_mlp_reference_ideal : Cert.quiescent_MlpReferenceIdeal := fun m ρ _ =>
  (θ_run Cert.MlpReferenceIdeal.defs _ _).mono (fun r h => ⟨fun c => (h c).2, sem_eq_zero_of_no_sems (by decide) r.2⟩)
    (Cert.MlpReferenceIdeal.Value.run (F := Ideal) m ρ)

/-- The last layer's feed-forward call and its reference leave the same array. -/
theorem same_mlp : Cert.algebraic_MlpIdeal_MlpReferenceIdeal := by
  intro m ρ m' ρ' _ hagree
  refine ⟨fun c => Cert.MlpIdeal.Rows.result m c,
    (θ_run Cert.MlpIdeal.defs _ _).mono (fun r h c => ⟨(h c).1.trans (Cert.MlpIdeal.Rows.final m c), (h c).2⟩) (Cert.MlpIdeal.Value.run_blocks m ρ),
    (θ_run Cert.MlpReferenceIdeal.defs _ _).mono (fun r h c => ⟨(h c).1.trans ?_, (h c).2⟩) (Cert.MlpReferenceIdeal.Value.run m' ρ')⟩
  obtain ⟨a0, a1, a2, a3, a4⟩ := hagree c
  refine (Cert.MlpReferenceIdeal.Ref.res_eq m' c).trans ?_
  rw [show m' (c, Proc.tc.devRef Cert.MlpReferenceIdeal.main_arg0) = _ from a0,
    show m' (c, Proc.tc.devRef Cert.MlpReferenceIdeal.main_arg1) = _ from a1,
    show m' (c, Proc.tc.devRef Cert.MlpReferenceIdeal.main_arg2) = _ from a2,
    show m' (c, Proc.tc.devRef Cert.MlpReferenceIdeal.main_arg3) = _ from a3,
    show m' (c, Proc.tc.devRef Cert.MlpReferenceIdeal.main_arg4) = _ from a4]
  funext i
  obtain ⟨r, j, rfl⟩ : ∃ (r : Fin 32768) (j : Fin 1024), i = ix2 r j := ⟨i 0, i 1, eq_ix2 (n0 := 32768) (n1 := 1024) i⟩
  refine (Cert.MlpReferenceIdeal.Ref.ref_at _ _ _ _ _ r j).trans ?_
  exact (Cert.MlpIdeal.Rows.result_at m c r j).symm

/-- The other layers' feed-forward call's idealized reference terminates with its arguments unchanged and its counters at zero: it declares no semaphore. -/
theorem frame_feed_reference_ideal : Cert.quiescent_FeedReferenceIdeal := fun m ρ _ =>
  (θ_run Cert.FeedReferenceIdeal.defs _ _).mono (fun r h => ⟨fun c => (h c).2, sem_eq_zero_of_no_sems (by decide) r.2⟩)
    (Cert.FeedReferenceIdeal.Value.run (F := Ideal) m ρ)

/-- The other layers' feed-forward call and its reference leave the same array. -/
theorem same_feed : Cert.algebraic_FeedIdeal_FeedReferenceIdeal := by
  intro m ρ m' ρ' _ hagree
  refine ⟨fun c => Cert.FeedIdeal.Rows.result m c,
    (θ_run Cert.FeedIdeal.defs _ _).mono (fun r h c => ⟨(h c).1.trans (Cert.FeedIdeal.Rows.final m c), (h c).2⟩) (Cert.FeedIdeal.Value.run_blocks m ρ),
    (θ_run Cert.FeedReferenceIdeal.defs _ _).mono (fun r h c => ⟨(h c).1.trans ?_, (h c).2⟩) (Cert.FeedReferenceIdeal.Ref.run m' ρ')⟩
  obtain ⟨a0, a1, a2, a3, _⟩ := hagree c
  rw [show m' (c, Proc.tc.devRef Cert.FeedReferenceIdeal.main_arg0) = _ from a0,
    show m' (c, Proc.tc.devRef Cert.FeedReferenceIdeal.main_arg1) = _ from a1,
    show m' (c, Proc.tc.devRef Cert.FeedReferenceIdeal.main_arg2) = _ from a2,
    show m' (c, Proc.tc.devRef Cert.FeedReferenceIdeal.main_arg3) = _ from a3]
  funext i
  obtain ⟨r, j, rfl⟩ : ∃ (r : Fin 32768) (j : Fin 1024), i = ix2 r j := ⟨i 0, i 1, eq_ix2 (n0 := 32768) (n1 := 1024) i⟩
  refine (Cert.FeedReferenceIdeal.Ref.ref_at _ _ _ _ r j).trans ?_
  exact (Cert.FeedIdeal.Rows.result_at m c r j).symm

/-- Mixer C's cache call's idealized reference terminates with its arguments unchanged and its counters at zero: it declares no semaphore. -/
theorem frame_tail_reference_ideal : Cert.quiescent_TailReferenceIdeal := fun m ρ _ =>
  (θ_run Cert.TailReferenceIdeal.defs _ _).mono (fun r h => ⟨fun c => (h c).2.2, sem_eq_zero_of_no_sems (by decide) r.2⟩)
    (Cert.TailReferenceIdeal.Value.run (F := Ideal) m ρ)

/-- Mixer C's cache call and its reference leave the same arrays. -/
theorem same_tail : Cert.algebraic_TailIdeal_TailReferenceIdeal := by
  intro m ρ m' ρ' _ hagree
  refine ⟨fun c => Cert.TailIdeal.Rows.keys m c, fun c => Cert.TailIdeal.Rows.values m c,
    (θ_run Cert.TailIdeal.defs _ _).mono (fun r h c => ⟨(h c).1.trans (Cert.TailIdeal.Rows.final3 m c), (h c).2.1.trans (Cert.TailIdeal.Rows.final4 m c), (h c).2.2⟩) (Cert.TailIdeal.Value.run_blocks m ρ),
    (θ_run Cert.TailReferenceIdeal.defs _ _).mono (fun r h c => ⟨(h c).1.trans ?_, (h c).2.1.trans ?_, (h c).2.2⟩) (Cert.TailReferenceIdeal.Ref.run m' ρ')⟩
  all_goals
    obtain ⟨a0, a1, a2⟩ := hagree c
    rw [show m' (c, Proc.tc.devRef Cert.TailReferenceIdeal.main_arg0) = _ from a0,
      show m' (c, Proc.tc.devRef Cert.TailReferenceIdeal.main_arg1) = _ from a1,
      show m' (c, Proc.tc.devRef Cert.TailReferenceIdeal.main_arg2) = _ from a2]
  · funext i
    obtain ⟨r, j, rfl⟩ : ∃ (r : Fin 2048) (j : Fin 512), i = ix2 r j := ⟨i 0, i 1, eq_ix2 (n0 := 2048) (n1 := 512) i⟩
    exact (Cert.TailReferenceIdeal.Ref.part_at _ _ _ 3048 _ (by decide) r j).trans (Cert.TailIdeal.Rows.keys_at m c r j).symm
  · funext i
    obtain ⟨r, j, rfl⟩ : ∃ (r : Fin 2048) (j : Fin 512), i = ix2 r j := ⟨i 0, i 1, eq_ix2 (n0 := 2048) (n1 := 512) i⟩
    exact (Cert.TailReferenceIdeal.Ref.part_at _ _ _ 3560 _ (by decide) r j).trans (Cert.TailIdeal.Rows.values_at m c r j).symm

/-- Mixer C's projection call's idealized reference terminates with its arguments unchanged and its counters at zero: it declares no semaphore. -/
theorem frame_band_reference_ideal : Cert.quiescent_BandReferenceIdeal := fun m ρ _ =>
  (θ_run Cert.BandReferenceIdeal.defs _ _).mono (fun r h => ⟨fun c => (h c).2.2.2, sem_eq_zero_of_no_sems (by decide) r.2⟩)
    (Cert.BandReferenceIdeal.Value.run (F := Ideal) m ρ)

/-- Mixer C's projection call and its reference leave the same arrays. -/
theorem same_band : Cert.algebraic_BandIdeal_BandReferenceIdeal := by
  intro m ρ m' ρ' _ hagree
  refine ⟨fun c => Cert.BandIdeal.Rows.queries m c, fun c => Cert.BandIdeal.Rows.keys m c, fun c => Cert.BandIdeal.Rows.values m c,
    (θ_run Cert.BandIdeal.defs _ _).mono (fun r h c => ⟨(h c).1.trans (Cert.BandIdeal.Rows.final3 m c), (h c).2.1.trans (Cert.BandIdeal.Rows.final4 m c), (h c).2.2.1.trans (Cert.BandIdeal.Rows.final5 m c), (h c).2.2.2⟩) (Cert.BandIdeal.Value.run_blocks m ρ),
    (θ_run Cert.BandReferenceIdeal.defs _ _).mono (fun r h c => ⟨(h c).1.trans ?_, (h c).2.1.trans ?_, (h c).2.2.1.trans ?_, (h c).2.2.2⟩) (Cert.BandReferenceIdeal.Ref.run m' ρ')⟩
  all_goals
    obtain ⟨a0, a1, a2⟩ := hagree c
    rw [show m' (c, Proc.tc.devRef Cert.BandReferenceIdeal.main_arg0) = _ from a0,
      show m' (c, Proc.tc.devRef Cert.BandReferenceIdeal.main_arg1) = _ from a1,
      show m' (c, Proc.tc.devRef Cert.BandReferenceIdeal.main_arg2) = _ from a2]
  · funext i
    obtain ⟨r, j, rfl⟩ : ∃ (r : Fin 32768) (j : Fin 512), i = ix2 r j := ⟨i 0, i 1, eq_ix2 (n0 := 32768) (n1 := 512) i⟩
    exact (Cert.BandReferenceIdeal.Ref.scaled_at _ _ _ r j).trans (Cert.BandIdeal.Rows.queries_at m c r j).symm
  · funext i
    obtain ⟨r, j, rfl⟩ : ∃ (r : Fin 32768) (j : Fin 512), i = ix2 r j := ⟨i 0, i 1, eq_ix2 (n0 := 32768) (n1 := 512) i⟩
    exact (Cert.BandReferenceIdeal.Ref.part_at _ _ _ 3048 _ (by decide) r j).trans (Cert.BandIdeal.Rows.keys_at m c r j).symm
  · funext i
    obtain ⟨r, j, rfl⟩ : ∃ (r : Fin 32768) (j : Fin 512), i = ix2 r j := ⟨i 0, i 1, eq_ix2 (n0 := 32768) (n1 := 512) i⟩
    exact (Cert.BandReferenceIdeal.Ref.part_at _ _ _ 3560 _ (by decide) r j).trans (Cert.BandIdeal.Rows.values_at m c r j).symm

/-- Mixer B's projection call's idealized reference terminates with its arguments unchanged and its counters at zero: it declares no semaphore. -/
theorem frame_select_reference_ideal : Cert.quiescent_SelectReferenceIdeal := fun m ρ _ =>
  (θ_run Cert.SelectReferenceIdeal.defs _ _).mono (fun r h => ⟨fun c => (h c).2.2.2.2.2.2.2.2.2, sem_eq_zero_of_no_sems (by decide) r.2⟩)
    (Cert.SelectReferenceIdeal.Value.run (F := Ideal) m ρ)

/-- Mixer B's projection call and its reference leave the same arrays. -/
theorem same_select : Cert.algebraic_SelectIdeal_SelectReferenceIdeal := by
  intro m ρ m' ρ' _ hagree
  refine ⟨fun c => Cert.SelectIdeal.Rows.bq m c, fun c => Cert.SelectIdeal.Rows.bk m c, fun c => Cert.SelectIdeal.Rows.bv m c, fun c => Cert.SelectIdeal.Rows.iq m c, fun c => Cert.SelectIdeal.Rows.ik m c, fun c => Cert.SelectIdeal.Rows.iw m c, fun c => Cert.SelectIdeal.Rows.bk32 m c, fun c => Cert.SelectIdeal.Rows.bv32 m c, fun c => Cert.SelectIdeal.Rows.ik32 m c,
    (θ_run Cert.SelectIdeal.defs _ _).mono (fun r h c => ⟨(h c).1.trans (Cert.SelectIdeal.Rows.final7 m c), (h c).2.1.trans (Cert.SelectIdeal.Rows.final8 m c), (h c).2.2.1.trans (Cert.SelectIdeal.Rows.final9 m c), (h c).2.2.2.1.trans (Cert.SelectIdeal.Rows.final10 m c), (h c).2.2.2.2.1.trans (Cert.SelectIdeal.Rows.final11 m c), (h c).2.2.2.2.2.1.trans (Cert.SelectIdeal.Rows.final12 m c), (h c).2.2.2.2.2.2.1.trans (Cert.SelectIdeal.Rows.final13 m c), (h c).2.2.2.2.2.2.2.1.trans (Cert.SelectIdeal.Rows.final14 m c), (h c).2.2.2.2.2.2.2.2.1.trans (Cert.SelectIdeal.Rows.final15 m c), (h c).2.2.2.2.2.2.2.2.2⟩) (Cert.SelectIdeal.Value.run_blocks m ρ),
    (θ_run Cert.SelectReferenceIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Cert.SelectReferenceIdeal.Ref.run m' ρ')⟩
  all_goals
    obtain ⟨a0, a1, a2⟩ := hagree c
    rw [show m' (c, Proc.tc.devRef Cert.SelectReferenceIdeal.main_arg0) = _ from a0,
      show m' (c, Proc.tc.devRef Cert.SelectReferenceIdeal.main_arg1) = _ from a1,
      show m' (c, Proc.tc.devRef Cert.SelectReferenceIdeal.main_arg2) = _ from a2]
  · funext i
    obtain ⟨r, j, rfl⟩ : ∃ (r : Fin 32768) (j : Fin 512), i = ix2 r j := ⟨i 0, i 1, eq_ix2 (n0 := 32768) (n1 := 512) i⟩
    exact (Cert.SelectReferenceIdeal.Ref.scaled_at _ _ _ 416 _ (by decide) _ r j).trans (Cert.SelectIdeal.Rows.bq_at m c r j).symm
  · funext i
    obtain ⟨r, j, rfl⟩ : ∃ (r : Fin 32768) (j : Fin 512), i = ix2 r j := ⟨i 0, i 1, eq_ix2 (n0 := 32768) (n1 := 512) i⟩
    exact (Cert.SelectReferenceIdeal.Ref.keys_at _ _ _ r j).trans (Cert.SelectIdeal.Rows.bk_at m c r j).symm
  · funext i
    obtain ⟨r, j, rfl⟩ : ∃ (r : Fin 32768) (j : Fin 512), i = ix2 r j := ⟨i 0, i 1, eq_ix2 (n0 := 32768) (n1 := 512) i⟩
    exact (Cert.SelectReferenceIdeal.Ref.values_at _ _ _ r j).trans (Cert.SelectIdeal.Rows.bv_at m c r j).symm
  · funext i
    obtain ⟨r, j, rfl⟩ : ∃ (r : Fin 32768) (j : Fin 512), i = ix2 r j := ⟨i 0, i 1, eq_ix2 (n0 := 32768) (n1 := 512) i⟩
    exact (Cert.SelectReferenceIdeal.Ref.scaled_at _ _ _ 1952 _ (by decide) _ r j).trans (Cert.SelectIdeal.Rows.iq_at m c r j).symm
  · funext i
    obtain ⟨r, j, rfl⟩ : ∃ (r : Fin 32768) (j : Fin 128), i = ix2 r j := ⟨i 0, i 1, eq_ix2 (n0 := 32768) (n1 := 128) i⟩
    exact (Cert.SelectReferenceIdeal.Ref.keyTwice_at _ _ _ r j).trans (Cert.SelectIdeal.Rows.ik_at m c r j).symm
  · funext i
    obtain ⟨r, j, rfl⟩ : ∃ (r : Fin 32768) (j : Fin 128), i = ix2 r j := ⟨i 0, i 1, eq_ix2 (n0 := 32768) (n1 := 128) i⟩
    exact (Cert.SelectReferenceIdeal.Ref.weigh_at _ _ _ r j).trans (Cert.SelectIdeal.Rows.iw_at m c r j).symm
  · funext i
    obtain ⟨r, j, rfl⟩ : ∃ (r : Fin 32768) (j : Fin 512), i = ix2 r j := ⟨i 0, i 1, eq_ix2 (n0 := 32768) (n1 := 512) i⟩
    exact (Cert.SelectReferenceIdeal.Ref.keys_at _ _ _ r j).trans (Cert.SelectIdeal.Rows.bk32_at m c r j).symm
  · funext i
    obtain ⟨r, j, rfl⟩ : ∃ (r : Fin 32768) (j : Fin 512), i = ix2 r j := ⟨i 0, i 1, eq_ix2 (n0 := 32768) (n1 := 512) i⟩
    exact (Cert.SelectReferenceIdeal.Ref.values_at _ _ _ r j).trans (Cert.SelectIdeal.Rows.bv32_at m c r j).symm
  · funext i
    obtain ⟨r, j, rfl⟩ : ∃ (r : Fin 32768) (j : Fin 64), i = ix2 r j := ⟨i 0, i 1, eq_ix2 (n0 := 32768) (n1 := 64) i⟩
    exact (Cert.SelectReferenceIdeal.Ref.keyRows_at _ _ _ r j).trans (Cert.SelectIdeal.Rows.ik32_at m c r j).symm

/-- Every claim. -/
theorem claim : Cert.Claim := ⟨Cert.Kernel.Gen.facts, Cert.KernelIdeal.Gen.facts, Cert.ReferenceIdeal.Gen.facts, Cert.Reference.Gen.facts,
  Cert.Merge.Gen.facts, Cert.MergeIdeal.Gen.facts, Cert.MergeReferenceIdeal.Gen.facts, Cert.Mlp.Gen.facts, Cert.MlpIdeal.Gen.facts, Cert.MlpReferenceIdeal.Gen.facts,
  Cert.Feed.Gen.facts, Cert.FeedIdeal.Gen.facts, Cert.FeedReferenceIdeal.Gen.facts,
  Cert.Tail.Gen.facts, Cert.TailIdeal.Gen.facts, Cert.TailReferenceIdeal.Gen.facts, Cert.Band.Gen.facts, Cert.BandIdeal.Gen.facts, Cert.BandReferenceIdeal.Gen.facts,
  Cert.Select.Gen.facts, Cert.SelectIdeal.Gen.facts, Cert.SelectReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference_ideal, fun m ρ _ => frame_reference_ideal m ρ trivial, frame_reference,
  fun m ρ _ => Cert.Merge.Gen.frame m ρ, fun m ρ _ => Cert.MergeIdeal.Gen.frame m ρ, frame_merge_reference_ideal,
  fun m ρ _ => Cert.Mlp.Gen.frame m ρ, fun m ρ _ => Cert.MlpIdeal.Gen.frame m ρ, frame_mlp_reference_ideal,
  fun m ρ _ => Cert.Feed.Gen.frame m ρ, fun m ρ _ => Cert.FeedIdeal.Gen.frame m ρ, frame_feed_reference_ideal,
  fun m ρ _ => Cert.Tail.Gen.frame m ρ, fun m ρ _ => Cert.TailIdeal.Gen.frame m ρ, frame_tail_reference_ideal,
  fun m ρ _ => Cert.Band.Gen.frame m ρ, fun m ρ _ => Cert.BandIdeal.Gen.frame m ρ, frame_band_reference_ideal,
  fun m ρ _ => Cert.Select.Gen.frame m ρ, fun m ρ _ => Cert.SelectIdeal.Gen.frame m ρ, frame_select_reference_ideal,
  trivial, trivial, same_array, trivial, same_merge, trivial, same_mlp, trivial, same_feed, trivial, same_tail, trivial, same_band, trivial, same_select⟩

end Cert.Proof

end
